-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn_part1 {F : FTy → Type} [FloatOps F] (main_arg2 : FVec F S32x256x64x64 .f32) (main_v12 : IVec S_ 1) (main_v14 : IVec S32x256x64x64 1) (main_v15 : FVec F S32x256x64x64 .f32) : IVec S_ 1 :=
  let main_v16 : IVec S32x256x64x64 1 := cmpf .olt main_arg2 main_v15
  let main_v17 : IVec S32x256x64x64 1 := andi main_v14 main_v16
  let main_c_6 : IVec S_ 1 := constantI S_ 1 1#1
  let main_v18 : IVec S_ 1 := (fun x v => Host.reduce IntOp.andi x v reducesTo_S32x256x64x64_S_d0_1_2_3 h_S_) main_v17 main_c_6
  let main_v19 : IVec S_ 1 := andi main_v12 main_v18
  main_v19

def fn {F : FTy → Type} [FloatOps F] (main_arg0 : FVec F S2x256x512 .f32) (main_arg1 : FVec F S512x256 .f32) (main_arg2 : FVec F S32x256x64x64 .f32) (main_arg3 : FVec F S32x256x64x64 .f32) (main_arg4 : FVec F S256x512 .f32) : IVec S_ 1 :=
  let main_cst : FVec F S_ .f32 := constant S_ .f32 0xFF800000#32
  let main_v0 : FVec F S2x256x512 .f32 := broadcastInDim S2x256x512 ![] bcast_S_S2x256x512 main_cst
  let main_v1 : IVec S2x256x512 1 := cmpf .ogt main_arg0 main_v0
  let main_cst_0 : FVec F S_ .f32 := constant S_ .f32 0x7F800000#32
  let main_v2 : FVec F S2x256x512 .f32 := broadcastInDim S2x256x512 ![] bcast_S_S2x256x512 main_cst_0
  let main_v3 : IVec S2x256x512 1 := cmpf .olt main_arg0 main_v2
  let main_v4 : IVec S2x256x512 1 := andi main_v1 main_v3
  let main_c : IVec S_ 1 := constantI S_ 1 1#1
  let main_v5 : IVec S_ 1 := (fun x v => Host.reduce IntOp.andi x v reducesTo_S2x256x512_S_d0_1_2 h_S_) main_v4 main_c
  let main_cst_1 : FVec F S_ .f32 := constant S_ .f32 0xFF800000#32
  let main_v6 : FVec F S512x256 .f32 := broadcastInDim S512x256 ![] bcast_S_S512x256 main_cst_1
  let main_v7 : IVec S512x256 1 := cmpf .ogt main_arg1 main_v6
  let main_cst_2 : FVec F S_ .f32 := constant S_ .f32 0x7F800000#32
  let main_v8 : FVec F S512x256 .f32 := broadcastInDim S512x256 ![] bcast_S_S512x256 main_cst_2
  let main_v9 : IVec S512x256 1 := cmpf .olt main_arg1 main_v8
  let main_v10 : IVec S512x256 1 := andi main_v7 main_v9
  let main_c_3 : IVec S_ 1 := constantI S_ 1 1#1
  let main_v11 : IVec S_ 1 := (fun x v => Host.reduce IntOp.andi x v reducesTo_S512x256_S_d0_1 h_S_) main_v10 main_c_3
  let main_v12 : IVec S_ 1 := andi main_v5 main_v11
  let main_cst_4 : FVec F S_ .f32 := constant S_ .f32 0xFF800000#32
  let main_v13 : FVec F S32x256x64x64 .f32 := broadcastInDim S32x256x64x64 ![] bcast_S_S32x256x64x64 main_cst_4
  let main_v14 : IVec S32x256x64x64 1 := cmpf .ogt main_arg2 main_v13
  let main_cst_5 : FVec F S_ .f32 := constant S_ .f32 0x7F800000#32
  let main_v15 : FVec F S32x256x64x64 .f32 := broadcastInDim S32x256x64x64 ![] bcast_S_S32x256x64x64 main_cst_5
  fn_part1 (F := F) main_arg2 main_v12 main_v14 main_v15
-- ==== Pre_finite_scores_ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S32x256x64x64 : S_.BroadcastsInDim S32x256x64x64 (![] : Fin 0 → Fin S32x256x64x64.rank)
  reducesTo_S32x256x64x64_S_d0_1_2_3 : S32x256x64x64.ReducesTo [0, 1, 2, 3] S_

variable [Facts]

def fn_part1 {F : FTy → Type} [FloatOps F] (main_arg2 : FVec F S32x256x64x64 .f32) (main_v12 : IVec S_ 1) (main_v14 : IVec S32x256x64x64 1) (main_v15 : FVec F S32x256x64x64 .f32) : IVec S_ 1 :=
  let main_v16 : IVec S32x256x64x64 1 := cmpf .olt main_arg2 main_v15
  let main_v17 : IVec S32x256x64x64 1 := andi main_v14 main_v16
  let main_c_6 : IVec S_ 1 := constantI S_ 1 1#1
  let main_v18 : IVec S_ 1 := (fun x v => Host.reduce IntOp.andi x v reducesTo_S32x256x64x64_S_d0_1_2_3 h_S_) main_v17 main_c_6
  let main_v19 : IVec S_ 1 := andi main_v12 main_v18
  main_v19

def fn {F : FTy → Type} [FloatOps F] (main_arg0 : FVec F S32x256x512 .f32) (main_arg1 : FVec F S512x4096 .f32) (main_arg2 : FVec F S32x256x64x64 .f32) (main_arg3 : FVec F S32x256x64x64 .f32) (main_arg4 : FVec F S4096x512 .f32) : IVec S_ 1 :=
  let main_cst : FVec F S_ .f32 := constant S_ .f32 0xFF800000#32
  let main_v0 : FVec F S32x256x512 .f32 := broadcastInDim S32x256x512 ![] bcast_S_S32x256x512 main_cst
  let main_v1 : IVec S32x256x512 1 := cmpf .ogt main_arg0 main_v0
  let main_cst_0 : FVec F S_ .f32 := constant S_ .f32 0x7F800000#32
  let main_v2 : FVec F S32x256x512 .f32 := broadcastInDim S32x256x512 ![] bcast_S_S32x256x512 main_cst_0
  let main_v3 : IVec S32x256x512 1 := cmpf .olt main_arg0 main_v2
  let main_v4 : IVec S32x256x512 1 := andi main_v1 main_v3
  let main_c : IVec S_ 1 := constantI S_ 1 1#1
  let main_v5 : IVec S_ 1 := (fun x v => Host.reduce IntOp.andi x v reducesTo_S32x256x512_S_d0_1_2 h_S_) main_v4 main_c
  let main_cst_1 : FVec F S_ .f32 := constant S_ .f32 0xFF800000#32
  let main_v6 : FVec F S512x4096 .f32 := broadcastInDim S512x4096 ![] bcast_S_S512x4096 main_cst_1
  let main_v7 : IVec S512x4096 1 := cmpf .ogt main_arg1 main_v6
  let main_cst_2 : FVec F S_ .f32 := constant S_ .f32 0x7F800000#32
  let main_v8 : FVec F S512x4096 .f32 := broadcastInDim S512x4096 ![] bcast_S_S512x4096 main_cst_2
  let main_v9 : IVec S512x4096 1 := cmpf .olt main_arg1 main_v8
  let main_v10 : IVec S512x4096 1 := andi main_v7 main_v9
  let main_c_3 : IVec S_ 1 := constantI S_ 1 1#1
  let main_v11 : IVec S_ 1 := (fun x v => Host.reduce IntOp.andi x v reducesTo_S512x4096_S_d0_1 h_S_) main_v10 main_c_3
  let main_v12 : IVec S_ 1 := andi main_v5 main_v11
  let main_cst_4 : FVec F S_ .f32 := constant S_ .f32 0xFF800000#32
  let main_v13 : FVec F S32x256x64x64 .f32 := broadcastInDim S32x256x64x64 ![] bcast_S_S32x256x64x64 main_cst_4
  let main_v14 : IVec S32x256x64x64 1 := cmpf .ogt main_arg2 main_v13
  let main_cst_5 : FVec F S_ .f32 := constant S_ .f32 0x7F800000#32
  let main_v15 : FVec F S32x256x64x64 .f32 := broadcastInDim S32x256x64x64 ![] bcast_S_S32x256x64x64 main_cst_5
  fn_part1 (F := F) main_arg2 main_v12 main_v14 main_v15
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩
abbrev S2x256x64x64 : Shape := ⟨4, ![2, 256, 64, 64]⟩
abbrev S2x64x64x256 : Shape := ⟨4, ![2, 64, 64, 256]⟩
abbrev S2x64x256x64 : Shape := ⟨4, ![2, 64, 256, 64]⟩
abbrev S512x4096 : Shape := ⟨2, ![512, 4096]⟩
abbrev S4096x512 : Shape := ⟨2, ![4096, 512]⟩
abbrev S8x2 : Shape := ⟨2, ![8, 2]⟩
abbrev S7x2 : Shape := ⟨2, ![7, 2]⟩
abbrev S256x256 : Shape := ⟨2, ![256, 256]⟩
abbrev S512x512 : Shape := ⟨2, ![512, 512]⟩
abbrev S1x1 : Shape := ⟨2, ![1, 1]⟩
abbrev S256x64 : Shape := ⟨2, ![256, 64]⟩
abbrev S1x1x64x256 : Shape := ⟨4, ![1, 1, 64, 256]⟩
abbrev S1x64x256 : Shape := ⟨3, ![1, 64, 256]⟩
abbrev S64x256 : Shape := ⟨2, ![64, 256]⟩
abbrev S256 : Shape := ⟨1, ![256]⟩
abbrev S256x1 : Shape := ⟨2, ![256, 1]⟩
abbrev S1x1x256x64 : Shape := ⟨4, ![1, 1, 256, 64]⟩
abbrev S1x256x64 : Shape := ⟨3, ![1, 256, 64]⟩

abbrev nBuf : Space → Nat
  | .hbm => 41
  | .vmem => 8
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S32x256x64x64, .f32⟩
  | .hbm, ⟨3, _⟩ => ⟨S32x256x64x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x64x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x64x64, .f32⟩
  | .hbm, ⟨33, _⟩ => ⟨S2x64x64x256, .f32⟩
  | .hbm, ⟨34, _⟩ => ⟨S2x64x64x256, .bf16⟩
  | .hbm, ⟨35, _⟩ => ⟨S2x64x256x64, .f32⟩
  | .hbm, ⟨36, _⟩ => ⟨S2x64x256x64, .bf16⟩
  | .hbm, ⟨37, _⟩ => ⟨S2x256x512, .bf16⟩
  | .hbm, ⟨38, _⟩ => ⟨S512x256, .bf16⟩
  | .hbm, ⟨39, _⟩ => ⟨S256x512, .bf16⟩
  | .hbm, ⟨40, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S256x512, .bf16⟩
  | .local _ .vmem, ⟨3, _⟩ => ⟨S2x64x64x256, .bf16⟩
  | .local _ .vmem, ⟨4, _⟩ => ⟨S2x64x256x64, .bf16⟩
  | .local _ .vmem, ⟨5, _⟩ => ⟨S2x256x512, .f32⟩
  | .local _ .vmem, ⟨6, _⟩ => ⟨S512x4096, .bf16⟩
  | .local _ .vmem, ⟨7, _⟩ => ⟨S4096x512, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_48 : BitVec 32 := 1#32
  let v64 : BitVec 32 := Scalar.muli v32 c1_i32_48
  let v65 : BitVec 32 := Scalar.addi c0_i32_49 v64
  v65.toNat
def k0_dev2 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_51 : BitVec 32 := 1#32
  let v66 : BitVec 32 := Scalar.muli v62 c1_i32_51
  let v67 : BitVec 32 := Scalar.addi c0_i32_52 v66
  v67.toNat
def k0_off1 (d0 : Dev nD) : Fin 2 → Nat :=
  let c0_58 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v81 : BitVec 32 := Scalar.muli v2 c256_i32
  let v82 : Index := Scalar.indexCast v81
  ![0, v82.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_61 : BitVec 32 := 256#32
  let v88 : BitVec 32 := Scalar.muli v2 c256_i32_61
  let v89 : Index := Scalar.indexCast v88
  let c0_62 : Index := 0#32
  ![v89.toNat, 0]
def k0_off3 (d0 : Dev nD) (c15_i32_97 : BitVec 32) (c14_i32_95 : BitVec 32) (c13_i32_93 : BitVec 32) (c12_i32_91 : BitVec 32) (c11_i32_89 : BitVec 32) (c10_i32_87 : BitVec 32) (c9_i32_85 : BitVec 32) (c8_i32_83 : BitVec 32) (c7_i32_81 : BitVec 32) (c6_i32_79 : BitVec 32) (c5_i32_77 : BitVec 32) (c4_i32_75 : BitVec 32) (c3_i32_73 : BitVec 32) (c2_i32_71 : BitVec 32) (c1_i32_68 : BitVec 32) (c0_i32_69 : BitVec 32) : Fin 2 → Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_96 : BitVec 32 := 15#32
  let v123 : BitVec 1 := Scalar.cmpi .eq v2 c15_i32_96
  let c14_i32_94 : BitVec 32 := 14#32
  let v121 : BitVec 1 := Scalar.cmpi .eq v2 c14_i32_94
  let c13_i32_92 : BitVec 32 := 13#32
  let v119 : BitVec 1 := Scalar.cmpi .eq v2 c13_i32_92
  let c12_i32_90 : BitVec 32 := 12#32
  let v117 : BitVec 1 := Scalar.cmpi .eq v2 c12_i32_90
  let c11_i32_88 : BitVec 32 := 11#32
  let v115 : BitVec 1 := Scalar.cmpi .eq v2 c11_i32_88
  let c10_i32_86 : BitVec 32 := 10#32
  let v113 : BitVec 1 := Scalar.cmpi .eq v2 c10_i32_86
  let c9_i32_84 : BitVec 32 := 9#32
  let v111 : BitVec 1 := Scalar.cmpi .eq v2 c9_i32_84
  let c8_i32_82 : BitVec 32 := 8#32
  let v109 : BitVec 1 := Scalar.cmpi .eq v2 c8_i32_82
  let c7_i32_80 : BitVec 32 := 7#32
  let v107 : BitVec 1 := Scalar.cmpi .eq v2 c7_i32_80
  let c6_i32_78 : BitVec 32 := 6#32
  let v105 : BitVec 1 := Scalar.cmpi .eq v2 c6_i32_78
  let c5_i32_76 : BitVec 32 := 5#32
  let v103 : BitVec 1 := Scalar.cmpi .eq v2 c5_i32_76
  let c4_i32_74 : BitVec 32 := 4#32
  let v101 : BitVec 1 := Scalar.cmpi .eq v2 c4_i32_74
  let c3_i32_72 : BitVec 32 := 3#32
  let v99 : BitVec 1 := Scalar.cmpi .eq v2 c3_i32_72
  let c2_i32_70 : BitVec 32 := 2#32
  let v97 : BitVec 1 := Scalar.cmpi .eq v2 c2_i32_70
  let c1_i32_67 : BitVec 32 := 1#32
  let v95 : BitVec 1 := Scalar.cmpi .eq v2 c1_i32_67
  let v96 : BitVec 32 := Scalar.select v95 c1_i32_68 c0_i32_69
  let v98 : BitVec 32 := Scalar.select v97 c2_i32_71 v96
  let v100 : BitVec 32 := Scalar.select v99 c3_i32_73 v98
  let v102 : BitVec 32 := Scalar.select v101 c4_i32_75 v100
  let v104 : BitVec 32 := Scalar.select v103 c5_i32_77 v102
  let v106 : BitVec 32 := Scalar.select v105 c6_i32_79 v104
  let v108 : BitVec 32 := Scalar.select v107 c7_i32_81 v106
  let v110 : BitVec 32 := Scalar.select v109 c8_i32_83 v108
  let v112 : BitVec 32 := Scalar.select v111 c9_i32_85 v110
  let v114 : BitVec 32 := Scalar.select v113 c10_i32_87 v112
  let v116 : BitVec 32 := Scalar.select v115 c11_i32_89 v114
  let v118 : BitVec 32 := Scalar.select v117 c12_i32_91 v116
  let v120 : BitVec 32 := Scalar.select v119 c13_i32_93 v118
  let v122 : BitVec 32 := Scalar.select v121 c14_i32_95 v120
  let v124 : BitVec 32 := Scalar.select v123 c15_i32_97 v122
  let c256_i32_98 : BitVec 32 := 256#32
  let v125 : BitVec 32 := Scalar.muli v124 c256_i32_98
  ![0, v125.toNat]
def k0_off3_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (15#32, 14#32, 13#32, 12#32, 11#32, 10#32, 9#32, 8#32, 7#32, 6#32, 5#32, 4#32, 3#32, 2#32, 1#32, 0#32)
        else
          (11#32, 15#32, 14#32, 13#32, 10#32, 9#32, 5#32, 12#32, 3#32, 7#32, 6#32, 8#32, 2#32, 1#32, 0#32, 4#32)
      else
        if r.val < 3 then
          (14#32, 13#32, 12#32, 8#32, 15#32, 11#32, 10#32, 4#32, 6#32, 5#32, 9#32, 0#32, 7#32, 3#32, 2#32, 1#32)
        else
          (10#32, 11#32, 15#32, 14#32, 9#32, 5#32, 6#32, 13#32, 2#32, 3#32, 7#32, 12#32, 1#32, 0#32, 4#32, 8#32)
    else
      if r.val < 6 then
        if r.val < 5 then
          (13#32, 12#32, 8#32, 4#32, 14#32, 15#32, 11#32, 0#32, 5#32, 9#32, 10#32, 1#32, 6#32, 7#32, 3#32, 2#32)
        else
          (9#32, 10#32, 11#32, 15#32, 5#32, 6#32, 7#32, 14#32, 1#32, 2#32, 3#32, 13#32, 0#32, 4#32, 8#32, 12#32)
      else
        if r.val < 7 then
          (12#32, 8#32, 4#32, 0#32, 13#32, 14#32, 15#32, 1#32, 9#32, 10#32, 11#32, 2#32, 5#32, 6#32, 7#32, 3#32)
        else
          (5#32, 9#32, 10#32, 11#32, 6#32, 7#32, 3#32, 15#32, 0#32, 1#32, 2#32, 14#32, 4#32, 8#32, 12#32, 13#32)
  else
    if r.val < 12 then
      if r.val < 10 then
        if r.val < 9 then
          (8#32, 4#32, 0#32, 1#32, 12#32, 13#32, 14#32, 2#32, 10#32, 11#32, 15#32, 3#32, 9#32, 5#32, 6#32, 7#32)
        else
          (6#32, 5#32, 9#32, 10#32, 7#32, 3#32, 2#32, 11#32, 4#32, 0#32, 1#32, 15#32, 8#32, 12#32, 13#32, 14#32)
      else
        if r.val < 11 then
          (4#32, 0#32, 1#32, 2#32, 8#32, 12#32, 13#32, 3#32, 11#32, 15#32, 14#32, 7#32, 10#32, 9#32, 5#32, 6#32)
        else
          (7#32, 6#32, 5#32, 9#32, 3#32, 2#32, 1#32, 10#32, 8#32, 4#32, 0#32, 11#32, 12#32, 13#32, 14#32, 15#32)
    else
      if r.val < 14 then
        if r.val < 13 then
          (0#32, 1#32, 2#32, 3#32, 4#32, 8#32, 12#32, 7#32, 15#32, 14#32, 13#32, 6#32, 11#32, 10#32, 9#32, 5#32)
        else
          (3#32, 7#32, 6#32, 5#32, 2#32, 1#32, 0#32, 9#32, 12#32, 8#32, 4#32, 10#32, 13#32, 14#32, 15#32, 11#32)
      else
        if r.val < 15 then
          (1#32, 2#32, 3#32, 7#32, 0#32, 4#32, 8#32, 6#32, 14#32, 13#32, 12#32, 5#32, 15#32, 11#32, 10#32, 9#32)
        else
          (2#32, 3#32, 7#32, 6#32, 1#32, 0#32, 4#32, 5#32, 13#32, 12#32, 8#32, 9#32, 14#32, 15#32, 11#32, 10#32)
def k0_dev3 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_103 : BitVec 32 := 1#32
  let v126 : BitVec 32 := Scalar.muli v62 c1_i32_103
  let v127 : BitVec 32 := Scalar.addi c0_i32_104 v126
  v127.toNat
def k0_off4 (d0 : Dev nD) (c15_i32_97 : BitVec 32) (c14_i32_95 : BitVec 32) (c13_i32_93 : BitVec 32) (c12_i32_91 : BitVec 32) (c11_i32_89 : BitVec 32) (c10_i32_87 : BitVec 32) (c9_i32_85 : BitVec 32) (c8_i32_83 : BitVec 32) (c7_i32_81 : BitVec 32) (c6_i32_79 : BitVec 32) (c5_i32_77 : BitVec 32) (c4_i32_75 : BitVec 32) (c3_i32_73 : BitVec 32) (c2_i32_71 : BitVec 32) (c1_i32_68 : BitVec 32) (c0_i32_69 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_96 : BitVec 32 := 15#32
  let v123 : BitVec 1 := Scalar.cmpi .eq v2 c15_i32_96
  let c14_i32_94 : BitVec 32 := 14#32
  let v121 : BitVec 1 := Scalar.cmpi .eq v2 c14_i32_94
  let c13_i32_92 : BitVec 32 := 13#32
  let v119 : BitVec 1 := Scalar.cmpi .eq v2 c13_i32_92
  let c12_i32_90 : BitVec 32 := 12#32
  let v117 : BitVec 1 := Scalar.cmpi .eq v2 c12_i32_90
  let c11_i32_88 : BitVec 32 := 11#32
  let v115 : BitVec 1 := Scalar.cmpi .eq v2 c11_i32_88
  let c10_i32_86 : BitVec 32 := 10#32
  let v113 : BitVec 1 := Scalar.cmpi .eq v2 c10_i32_86
  let c9_i32_84 : BitVec 32 := 9#32
  let v111 : BitVec 1 := Scalar.cmpi .eq v2 c9_i32_84
  let c8_i32_82 : BitVec 32 := 8#32
  let v109 : BitVec 1 := Scalar.cmpi .eq v2 c8_i32_82
  let c7_i32_80 : BitVec 32 := 7#32
  let v107 : BitVec 1 := Scalar.cmpi .eq v2 c7_i32_80
  let c6_i32_78 : BitVec 32 := 6#32
  let v105 : BitVec 1 := Scalar.cmpi .eq v2 c6_i32_78
  let c5_i32_76 : BitVec 32 := 5#32
  let v103 : BitVec 1 := Scalar.cmpi .eq v2 c5_i32_76
  let c4_i32_74 : BitVec 32 := 4#32
  let v101 : BitVec 1 := Scalar.cmpi .eq v2 c4_i32_74
  let c3_i32_72 : BitVec 32 := 3#32
  let v99 : BitVec 1 := Scalar.cmpi .eq v2 c3_i32_72
  let c2_i32_70 : BitVec 32 := 2#32
  let v97 : BitVec 1 := Scalar.cmpi .eq v2 c2_i32_70
  let c1_i32_67 : BitVec 32 := 1#32
  let v95 : BitVec 1 := Scalar.cmpi .eq v2 c1_i32_67
  let v96 : BitVec 32 := Scalar.select v95 c1_i32_68 c0_i32_69
  let v98 : BitVec 32 := Scalar.select v97 c2_i32_71 v96
  let v100 : BitVec 32 := Scalar.select v99 c3_i32_73 v98
  let v102 : BitVec 32 := Scalar.select v101 c4_i32_75 v100
  let v104 : BitVec 32 := Scalar.select v103 c5_i32_77 v102
  let v106 : BitVec 32 := Scalar.select v105 c6_i32_79 v104
  let v108 : BitVec 32 := Scalar.select v107 c7_i32_81 v106
  let v110 : BitVec 32 := Scalar.select v109 c8_i32_83 v108
  let v112 : BitVec 32 := Scalar.select v111 c9_i32_85 v110
  let v114 : BitVec 32 := Scalar.select v113 c10_i32_87 v112
  let v116 : BitVec 32 := Scalar.select v115 c11_i32_89 v114
  let v118 : BitVec 32 := Scalar.select v117 c12_i32_91 v116
  let v120 : BitVec 32 := Scalar.select v119 c13_i32_93 v118
  let v122 : BitVec 32 := Scalar.select v121 c14_i32_95 v120
  let v124 : BitVec 32 := Scalar.select v123 c15_i32_97 v122
  let c256_i32_107 : BitVec 32 := 256#32
  let v134 : BitVec 32 := Scalar.muli v124 c256_i32_107
  let c0_i32_114 : BitVec 32 := 0#32
  ![v134.toNat, 0]
def k0_off4_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (15#32, 14#32, 13#32, 12#32, 11#32, 10#32, 9#32, 8#32, 7#32, 6#32, 5#32, 4#32, 3#32, 2#32, 1#32, 0#32)
        else
          (11#32, 15#32, 14#32, 13#32, 10#32, 9#32, 5#32, 12#32, 3#32, 7#32, 6#32, 8#32, 2#32, 1#32, 0#32, 4#32)
      else
        if r.val < 3 then
          (14#32, 13#32, 12#32, 8#32, 15#32, 11#32, 10#32, 4#32, 6#32, 5#32, 9#32, 0#32, 7#32, 3#32, 2#32, 1#32)
        else
          (10#32, 11#32, 15#32, 14#32, 9#32, 5#32, 6#32, 13#32, 2#32, 3#32, 7#32, 12#32, 1#32, 0#32, 4#32, 8#32)
    else
      if r.val < 6 then
        if r.val < 5 then
          (13#32, 12#32, 8#32, 4#32, 14#32, 15#32, 11#32, 0#32, 5#32, 9#32, 10#32, 1#32, 6#32, 7#32, 3#32, 2#32)
        else
          (9#32, 10#32, 11#32, 15#32, 5#32, 6#32, 7#32, 14#32, 1#32, 2#32, 3#32, 13#32, 0#32, 4#32, 8#32, 12#32)
      else
        if r.val < 7 then
          (12#32, 8#32, 4#32, 0#32, 13#32, 14#32, 15#32, 1#32, 9#32, 10#32, 11#32, 2#32, 5#32, 6#32, 7#32, 3#32)
        else
          (5#32, 9#32, 10#32, 11#32, 6#32, 7#32, 3#32, 15#32, 0#32, 1#32, 2#32, 14#32, 4#32, 8#32, 12#32, 13#32)
  else
    if r.val < 12 then
      if r.val < 10 then
        if r.val < 9 then
          (8#32, 4#32, 0#32, 1#32, 12#32, 13#32, 14#32, 2#32, 10#32, 11#32, 15#32, 3#32, 9#32, 5#32, 6#32, 7#32)
        else
          (6#32, 5#32, 9#32, 10#32, 7#32, 3#32, 2#32, 11#32, 4#32, 0#32, 1#32, 15#32, 8#32, 12#32, 13#32, 14#32)
      else
        if r.val < 11 then
          (4#32, 0#32, 1#32, 2#32, 8#32, 12#32, 13#32, 3#32, 11#32, 15#32, 14#32, 7#32, 10#32, 9#32, 5#32, 6#32)
        else
          (7#32, 6#32, 5#32, 9#32, 3#32, 2#32, 1#32, 10#32, 8#32, 4#32, 0#32, 11#32, 12#32, 13#32, 14#32, 15#32)
    else
      if r.val < 14 then
        if r.val < 13 then
          (0#32, 1#32, 2#32, 3#32, 4#32, 8#32, 12#32, 7#32, 15#32, 14#32, 13#32, 6#32, 11#32, 10#32, 9#32, 5#32)
        else
          (3#32, 7#32, 6#32, 5#32, 2#32, 1#32, 0#32, 9#32, 12#32, 8#32, 4#32, 10#32, 13#32, 14#32, 15#32, 11#32)
      else
        if r.val < 15 then
          (1#32, 2#32, 3#32, 7#32, 0#32, 4#32, 8#32, 6#32, 14#32, 13#32, 12#32, 5#32, 15#32, 11#32, 10#32, 9#32)
        else
          (2#32, 3#32, 7#32, 6#32, 1#32, 0#32, 4#32, 5#32, 13#32, 12#32, 8#32, 9#32, 14#32, 15#32, 11#32, 10#32)
def k0_dev4 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_112 : BitVec 32 := 1#32
  let v135 : BitVec 32 := Scalar.muli v62 c1_i32_112
  let v136 : BitVec 32 := Scalar.addi c0_i32_113 v135
  v136.toNat
def k0_dev5 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_152 : BitVec 32 := 1#32
  let v174 : BitVec 32 := Scalar.muli v32 c1_i32_152
  let v175 : BitVec 32 := Scalar.addi c0_i32_153 v174
  v175.toNat
def k0_dev6 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_161 : BitVec 32 := 1#32
  let v183 : BitVec 32 := Scalar.muli v32 c1_i32_161
  let v184 : BitVec 32 := Scalar.addi c0_i32_162 v183
  v184.toNat
def k0_off5 (d0 : Dev nD) (c15_i32_195 : BitVec 32) (c14_i32_193 : BitVec 32) (c13_i32_191 : BitVec 32) (c12_i32_189 : BitVec 32) (c11_i32_187 : BitVec 32) (c10_i32_185 : BitVec 32) (c9_i32_183 : BitVec 32) (c8_i32_181 : BitVec 32) (c7_i32_179 : BitVec 32) (c6_i32_177 : BitVec 32) (c5_i32_175 : BitVec 32) (c4_i32_173 : BitVec 32) (c3_i32_171 : BitVec 32) (c2_i32_169 : BitVec 32) (c1_i32_166 : BitVec 32) (c0_i32_167 : BitVec 32) : Fin 2 → Nat :=
  let c256_i32_203 : BitVec 32 := 256#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_194 : BitVec 32 := 15#32
  let v219 : BitVec 1 := Scalar.cmpi .eq v2 c15_i32_194
  let c14_i32_192 : BitVec 32 := 14#32
  let v217 : BitVec 1 := Scalar.cmpi .eq v2 c14_i32_192
  let c13_i32_190 : BitVec 32 := 13#32
  let v215 : BitVec 1 := Scalar.cmpi .eq v2 c13_i32_190
  let c12_i32_188 : BitVec 32 := 12#32
  let v213 : BitVec 1 := Scalar.cmpi .eq v2 c12_i32_188
  let c11_i32_186 : BitVec 32 := 11#32
  let v211 : BitVec 1 := Scalar.cmpi .eq v2 c11_i32_186
  let c10_i32_184 : BitVec 32 := 10#32
  let v209 : BitVec 1 := Scalar.cmpi .eq v2 c10_i32_184
  let c9_i32_182 : BitVec 32 := 9#32
  let v207 : BitVec 1 := Scalar.cmpi .eq v2 c9_i32_182
  let c8_i32_180 : BitVec 32 := 8#32
  let v205 : BitVec 1 := Scalar.cmpi .eq v2 c8_i32_180
  let c7_i32_178 : BitVec 32 := 7#32
  let v203 : BitVec 1 := Scalar.cmpi .eq v2 c7_i32_178
  let c6_i32_176 : BitVec 32 := 6#32
  let v201 : BitVec 1 := Scalar.cmpi .eq v2 c6_i32_176
  let c5_i32_174 : BitVec 32 := 5#32
  let v199 : BitVec 1 := Scalar.cmpi .eq v2 c5_i32_174
  let c4_i32_172 : BitVec 32 := 4#32
  let v197 : BitVec 1 := Scalar.cmpi .eq v2 c4_i32_172
  let c3_i32_170 : BitVec 32 := 3#32
  let v195 : BitVec 1 := Scalar.cmpi .eq v2 c3_i32_170
  let c2_i32_168 : BitVec 32 := 2#32
  let v193 : BitVec 1 := Scalar.cmpi .eq v2 c2_i32_168
  let c1_i32_165 : BitVec 32 := 1#32
  let v191 : BitVec 1 := Scalar.cmpi .eq v2 c1_i32_165
  let v192 : BitVec 32 := Scalar.select v191 c1_i32_166 c0_i32_167
  let v194 : BitVec 32 := Scalar.select v193 c2_i32_169 v192
  let v196 : BitVec 32 := Scalar.select v195 c3_i32_171 v194
  let v198 : BitVec 32 := Scalar.select v197 c4_i32_173 v196
  let v200 : BitVec 32 := Scalar.select v199 c5_i32_175 v198
  let v202 : BitVec 32 := Scalar.select v201 c6_i32_177 v200
  let v204 : BitVec 32 := Scalar.select v203 c7_i32_179 v202
  let v206 : BitVec 32 := Scalar.select v205 c8_i32_181 v204
  let v208 : BitVec 32 := Scalar.select v207 c9_i32_183 v206
  let v210 : BitVec 32 := Scalar.select v209 c10_i32_185 v208
  let v212 : BitVec 32 := Scalar.select v211 c11_i32_187 v210
  let v214 : BitVec 32 := Scalar.select v213 c12_i32_189 v212
  let v216 : BitVec 32 := Scalar.select v215 c13_i32_191 v214
  let v218 : BitVec 32 := Scalar.select v217 c14_i32_193 v216
  let v220 : BitVec 32 := Scalar.select v219 c15_i32_195 v218
  let c256_i32_196 : BitVec 32 := 256#32
  let v221 : BitVec 32 := Scalar.muli v220 c256_i32_196
  ![256, v221.toNat]
def k0_off5_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (15#32, 14#32, 13#32, 12#32, 11#32, 10#32, 9#32, 8#32, 7#32, 6#32, 5#32, 4#32, 3#32, 2#32, 1#32, 0#32)
        else
          (11#32, 15#32, 14#32, 13#32, 10#32, 9#32, 5#32, 12#32, 3#32, 7#32, 6#32, 8#32, 2#32, 1#32, 0#32, 4#32)
      else
        if r.val < 3 then
          (14#32, 13#32, 12#32, 8#32, 15#32, 11#32, 10#32, 4#32, 6#32, 5#32, 9#32, 0#32, 7#32, 3#32, 2#32, 1#32)
        else
          (10#32, 11#32, 15#32, 14#32, 9#32, 5#32, 6#32, 13#32, 2#32, 3#32, 7#32, 12#32, 1#32, 0#32, 4#32, 8#32)
    else
      if r.val < 6 then
        if r.val < 5 then
          (13#32, 12#32, 8#32, 4#32, 14#32, 15#32, 11#32, 0#32, 5#32, 9#32, 10#32, 1#32, 6#32, 7#32, 3#32, 2#32)
        else
          (9#32, 10#32, 11#32, 15#32, 5#32, 6#32, 7#32, 14#32, 1#32, 2#32, 3#32, 13#32, 0#32, 4#32, 8#32, 12#32)
      else
        if r.val < 7 then
          (12#32, 8#32, 4#32, 0#32, 13#32, 14#32, 15#32, 1#32, 9#32, 10#32, 11#32, 2#32, 5#32, 6#32, 7#32, 3#32)
        else
          (5#32, 9#32, 10#32, 11#32, 6#32, 7#32, 3#32, 15#32, 0#32, 1#32, 2#32, 14#32, 4#32, 8#32, 12#32, 13#32)
  else
    if r.val < 12 then
      if r.val < 10 then
        if r.val < 9 then
          (8#32, 4#32, 0#32, 1#32, 12#32, 13#32, 14#32, 2#32, 10#32, 11#32, 15#32, 3#32, 9#32, 5#32, 6#32, 7#32)
        else
          (6#32, 5#32, 9#32, 10#32, 7#32, 3#32, 2#32, 11#32, 4#32, 0#32, 1#32, 15#32, 8#32, 12#32, 13#32, 14#32)
      else
        if r.val < 11 then
          (4#32, 0#32, 1#32, 2#32, 8#32, 12#32, 13#32, 3#32, 11#32, 15#32, 14#32, 7#32, 10#32, 9#32, 5#32, 6#32)
        else
          (7#32, 6#32, 5#32, 9#32, 3#32, 2#32, 1#32, 10#32, 8#32, 4#32, 0#32, 11#32, 12#32, 13#32, 14#32, 15#32)
    else
      if r.val < 14 then
        if r.val < 13 then
          (0#32, 1#32, 2#32, 3#32, 4#32, 8#32, 12#32, 7#32, 15#32, 14#32, 13#32, 6#32, 11#32, 10#32, 9#32, 5#32)
        else
          (3#32, 7#32, 6#32, 5#32, 2#32, 1#32, 0#32, 9#32, 12#32, 8#32, 4#32, 10#32, 13#32, 14#32, 15#32, 11#32)
      else
        if r.val < 15 then
          (1#32, 2#32, 3#32, 7#32, 0#32, 4#32, 8#32, 6#32, 14#32, 13#32, 12#32, 5#32, 15#32, 11#32, 10#32, 9#32)
        else
          (2#32, 3#32, 7#32, 6#32, 1#32, 0#32, 4#32, 5#32, 13#32, 12#32, 8#32, 9#32, 14#32, 15#32, 11#32, 10#32)
def k0_dev7 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_201 : BitVec 32 := 1#32
  let v222 : BitVec 32 := Scalar.muli v62 c1_i32_201
  let v223 : BitVec 32 := Scalar.addi c0_i32_202 v222
  v223.toNat
def k0_off6 (d0 : Dev nD) (c15_i32_195 : BitVec 32) (c14_i32_193 : BitVec 32) (c13_i32_191 : BitVec 32) (c12_i32_189 : BitVec 32) (c11_i32_187 : BitVec 32) (c10_i32_185 : BitVec 32) (c9_i32_183 : BitVec 32) (c8_i32_181 : BitVec 32) (c7_i32_179 : BitVec 32) (c6_i32_177 : BitVec 32) (c5_i32_175 : BitVec 32) (c4_i32_173 : BitVec 32) (c3_i32_171 : BitVec 32) (c2_i32_169 : BitVec 32) (c1_i32_166 : BitVec 32) (c0_i32_167 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_194 : BitVec 32 := 15#32
  let v219 : BitVec 1 := Scalar.cmpi .eq v2 c15_i32_194
  let c14_i32_192 : BitVec 32 := 14#32
  let v217 : BitVec 1 := Scalar.cmpi .eq v2 c14_i32_192
  let c13_i32_190 : BitVec 32 := 13#32
  let v215 : BitVec 1 := Scalar.cmpi .eq v2 c13_i32_190
  let c12_i32_188 : BitVec 32 := 12#32
  let v213 : BitVec 1 := Scalar.cmpi .eq v2 c12_i32_188
  let c11_i32_186 : BitVec 32 := 11#32
  let v211 : BitVec 1 := Scalar.cmpi .eq v2 c11_i32_186
  let c10_i32_184 : BitVec 32 := 10#32
  let v209 : BitVec 1 := Scalar.cmpi .eq v2 c10_i32_184
  let c9_i32_182 : BitVec 32 := 9#32
  let v207 : BitVec 1 := Scalar.cmpi .eq v2 c9_i32_182
  let c8_i32_180 : BitVec 32 := 8#32
  let v205 : BitVec 1 := Scalar.cmpi .eq v2 c8_i32_180
  let c7_i32_178 : BitVec 32 := 7#32
  let v203 : BitVec 1 := Scalar.cmpi .eq v2 c7_i32_178
  let c6_i32_176 : BitVec 32 := 6#32
  let v201 : BitVec 1 := Scalar.cmpi .eq v2 c6_i32_176
  let c5_i32_174 : BitVec 32 := 5#32
  let v199 : BitVec 1 := Scalar.cmpi .eq v2 c5_i32_174
  let c4_i32_172 : BitVec 32 := 4#32
  let v197 : BitVec 1 := Scalar.cmpi .eq v2 c4_i32_172
  let c3_i32_170 : BitVec 32 := 3#32
  let v195 : BitVec 1 := Scalar.cmpi .eq v2 c3_i32_170
  let c2_i32_168 : BitVec 32 := 2#32
  let v193 : BitVec 1 := Scalar.cmpi .eq v2 c2_i32_168
  let c1_i32_165 : BitVec 32 := 1#32
  let v191 : BitVec 1 := Scalar.cmpi .eq v2 c1_i32_165
  let v192 : BitVec 32 := Scalar.select v191 c1_i32_166 c0_i32_167
  let v194 : BitVec 32 := Scalar.select v193 c2_i32_169 v192
  let v196 : BitVec 32 := Scalar.select v195 c3_i32_171 v194
  let v198 : BitVec 32 := Scalar.select v197 c4_i32_173 v196
  let v200 : BitVec 32 := Scalar.select v199 c5_i32_175 v198
  let v202 : BitVec 32 := Scalar.select v201 c6_i32_177 v200
  let v204 : BitVec 32 := Scalar.select v203 c7_i32_179 v202
  let v206 : BitVec 32 := Scalar.select v205 c8_i32_181 v204
  let v208 : BitVec 32 := Scalar.select v207 c9_i32_183 v206
  let v210 : BitVec 32 := Scalar.select v209 c10_i32_185 v208
  let v212 : BitVec 32 := Scalar.select v211 c11_i32_187 v210
  let v214 : BitVec 32 := Scalar.select v213 c12_i32_189 v212
  let v216 : BitVec 32 := Scalar.select v215 c13_i32_191 v214
  let v218 : BitVec 32 := Scalar.select v217 c14_i32_193 v216
  let v220 : BitVec 32 := Scalar.select v219 c15_i32_195 v218
  let c256_i32_205 : BitVec 32 := 256#32
  let v230 : BitVec 32 := Scalar.muli v220 c256_i32_205
  let c256_i32_212 : BitVec 32 := 256#32
  ![v230.toNat, 256]
def k0_off6_at (r : Fin 16) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 8 then
    if r.val < 4 then
      if r.val < 2 then
        if r.val < 1 then
          (15#32, 14#32, 13#32, 12#32, 11#32, 10#32, 9#32, 8#32, 7#32, 6#32, 5#32, 4#32, 3#32, 2#32, 1#32, 0#32)
        else
          (11#32, 15#32, 14#32, 13#32, 10#32, 9#32, 5#32, 12#32, 3#32, 7#32, 6#32, 8#32, 2#32, 1#32, 0#32, 4#32)
      else
        if r.val < 3 then
          (14#32, 13#32, 12#32, 8#32, 15#32, 11#32, 10#32, 4#32, 6#32, 5#32, 9#32, 0#32, 7#32, 3#32, 2#32, 1#32)
        else
          (10#32, 11#32, 15#32, 14#32, 9#32, 5#32, 6#32, 13#32, 2#32, 3#32, 7#32, 12#32, 1#32, 0#32, 4#32, 8#32)
    else
      if r.val < 6 then
        if r.val < 5 then
          (13#32, 12#32, 8#32, 4#32, 14#32, 15#32, 11#32, 0#32, 5#32, 9#32, 10#32, 1#32, 6#32, 7#32, 3#32, 2#32)
        else
          (9#32, 10#32, 11#32, 15#32, 5#32, 6#32, 7#32, 14#32, 1#32, 2#32, 3#32, 13#32, 0#32, 4#32, 8#32, 12#32)
      else
        if r.val < 7 then
          (12#32, 8#32, 4#32, 0#32, 13#32, 14#32, 15#32, 1#32, 9#32, 10#32, 11#32, 2#32, 5#32, 6#32, 7#32, 3#32)
        else
          (5#32, 9#32, 10#32, 11#32, 6#32, 7#32, 3#32, 15#32, 0#32, 1#32, 2#32, 14#32, 4#32, 8#32, 12#32, 13#32)
  else
    if r.val < 12 then
      if r.val < 10 then
        if r.val < 9 then
          (8#32, 4#32, 0#32, 1#32, 12#32, 13#32, 14#32, 2#32, 10#32, 11#32, 15#32, 3#32, 9#32, 5#32, 6#32, 7#32)
        else
          (6#32, 5#32, 9#32, 10#32, 7#32, 3#32, 2#32, 11#32, 4#32, 0#32, 1#32, 15#32, 8#32, 12#32, 13#32, 14#32)
      else
        if r.val < 11 then
          (4#32, 0#32, 1#32, 2#32, 8#32, 12#32, 13#32, 3#32, 11#32, 15#32, 14#32, 7#32, 10#32, 9#32, 5#32, 6#32)
        else
          (7#32, 6#32, 5#32, 9#32, 3#32, 2#32, 1#32, 10#32, 8#32, 4#32, 0#32, 11#32, 12#32, 13#32, 14#32, 15#32)
    else
      if r.val < 14 then
        if r.val < 13 then
          (0#32, 1#32, 2#32, 3#32, 4#32, 8#32, 12#32, 7#32, 15#32, 14#32, 13#32, 6#32, 11#32, 10#32, 9#32, 5#32)
        else
          (3#32, 7#32, 6#32, 5#32, 2#32, 1#32, 0#32, 9#32, 12#32, 8#32, 4#32, 10#32, 13#32, 14#32, 15#32, 11#32)
      else
        if r.val < 15 then
          (1#32, 2#32, 3#32, 7#32, 0#32, 4#32, 8#32, 6#32, 14#32, 13#32, 12#32, 5#32, 15#32, 11#32, 10#32, 9#32)
        else
          (2#32, 3#32, 7#32, 6#32, 1#32, 0#32, 4#32, 5#32, 13#32, 12#32, 8#32, 9#32, 14#32, 15#32, 11#32, 10#32)
def k0_dev8 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_210 : BitVec 32 := 1#32
  let v231 : BitVec 32 := Scalar.muli v62 c1_i32_210
  let v232 : BitVec 32 := Scalar.addi c0_i32_211 v231
  v232.toNat
def k0_dev9 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_250 : BitVec 32 := 1#32
  let v270 : BitVec 32 := Scalar.muli v32 c1_i32_250
  let v271 : BitVec 32 := Scalar.addi c0_i32_251 v270
  v271.toNat
def k0_dev10 (d0 : Dev nD) : Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_259 : BitVec 32 := 1#32
  let v279 : BitVec 32 := Scalar.muli v32 c1_i32_259
  let v280 : BitVec 32 := Scalar.addi c0_i32_260 v279
  v280.toNat
def k0_off7 (d0 : Dev nD) (c0_i32_269 : BitVec 32) : Fin 4 → Nat :=
  let c0_270 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_268 : BitVec 32 := 4#32
  let v296 : BitVec 32 := Scalar.muli v2 c4_i32_268
  let v297 : BitVec 32 := Scalar.addi v296 c0_i32_269
  let v299 : Index := Scalar.indexCast v297
  let c0_271 : Index := 0#32
  let c0_272 : Index := 0#32
  ![0, v299.toNat, 0, 0]
def k0_off8 (d0 : Dev nD) (c0_i32_269 : BitVec 32) : Fin 4 → Nat :=
  let c0_276 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_268 : BitVec 32 := 4#32
  let v296 : BitVec 32 := Scalar.muli v2 c4_i32_268
  let v297 : BitVec 32 := Scalar.addi v296 c0_i32_269
  let v312 : Index := Scalar.indexCast v297
  let c0_277 : Index := 0#32
  let c0_278 : Index := 0#32
  ![0, v312.toNat, 0, 0]
def k0_off9 (d0 : Dev nD) (c0_i32_317 : BitVec 32) : Fin 4 → Nat :=
  let c1 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_316 : BitVec 32 := 4#32
  let v382 : BitVec 32 := Scalar.muli v2 c4_i32_316
  let v383 : BitVec 32 := Scalar.addi v382 c0_i32_317
  let v385 : Index := Scalar.indexCast v383
  let c0_318 : Index := 0#32
  let c0_319 : Index := 0#32
  ![1, v385.toNat, 0, 0]
def k0_off10 (d0 : Dev nD) (c0_i32_317 : BitVec 32) : Fin 4 → Nat :=
  let c1_323 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_316 : BitVec 32 := 4#32
  let v382 : BitVec 32 := Scalar.muli v2 c4_i32_316
  let v383 : BitVec 32 := Scalar.addi v382 c0_i32_317
  let v398 : Index := Scalar.indexCast v383
  let c0_324 : Index := 0#32
  let c0_325 : Index := 0#32
  ![1, v398.toNat, 0, 0]
def k0_dev11 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_486 : BitVec 32 := 1#32
  let v580 : BitVec 32 := Scalar.muli v62 c1_i32_486
  let v581 : BitVec 32 := Scalar.addi c0_i32_487 v580
  v581.toNat
def k0_dev12 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_495 : BitVec 32 := 1#32
  let v589 : BitVec 32 := Scalar.muli v62 c1_i32_495
  let v590 : BitVec 32 := Scalar.addi c0_i32_496 v589
  v590.toNat
def k0_dev13 (d0 : Dev nD) : Nat :=
  let c0_i32_554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_553 : BitVec 32 := 1#32
  let v642 : BitVec 32 := Scalar.muli v32 c1_i32_553
  let v643 : BitVec 32 := Scalar.addi c0_i32_554 v642
  v643.toNat
def k0_dev14 (d0 : Dev nD) : Nat :=
  let c0_i32_563 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_562 : BitVec 32 := 1#32
  let v651 : BitVec 32 := Scalar.muli v32 c1_i32_562
  let v652 : BitVec 32 := Scalar.addi c0_i32_563 v651
  v652.toNat
def k0_dev15 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_620 : BitVec 32 := 1#32
  let v704 : BitVec 32 := Scalar.muli v62 c1_i32_620
  let v705 : BitVec 32 := Scalar.addi c0_i32_621 v704
  v705.toNat
def k0_dev16 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_629 : BitVec 32 := 1#32
  let v713 : BitVec 32 := Scalar.muli v62 c1_i32_629
  let v714 : BitVec 32 := Scalar.addi c0_i32_630 v713
  v714.toNat
def k0_dev17 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_687 : BitVec 32 := 1#32
  let v766 : BitVec 32 := Scalar.muli v32 c1_i32_687
  let v767 : BitVec 32 := Scalar.addi c0_i32_688 v766
  v767.toNat
def k0_dev18 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_696 : BitVec 32 := 1#32
  let v775 : BitVec 32 := Scalar.muli v32 c1_i32_696
  let v776 : BitVec 32 := Scalar.addi c0_i32_697 v775
  v776.toNat
def k0_off11 (d0 : Dev nD) (c11_i32_400 : BitVec 32) (c15_i32_398 : BitVec 32) (c14_i32_396 : BitVec 32) (c13_i32_394 : BitVec 32) (c10_i32_392 : BitVec 32) (c9_i32_390 : BitVec 32) (c5_i32_388 : BitVec 32) (c12_i32_386 : BitVec 32) (c3_i32_384 : BitVec 32) (c7_i32_382 : BitVec 32) (c6_i32_380 : BitVec 32) (c8_i32_378 : BitVec 32) (c2_i32_376 : BitVec 32) (c1_i32_374 : BitVec 32) (c0_i32_371 : BitVec 32) (c4_i32_372 : BitVec 32) : Fin 2 → Nat :=
  let c0_701 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_399 : BitVec 32 := 15#32
  let v503 : BitVec 1 := Scalar.cmpi .eq v2 c15_i32_399
  let c14_i32_397 : BitVec 32 := 14#32
  let v501 : BitVec 1 := Scalar.cmpi .eq v2 c14_i32_397
  let c13_i32_395 : BitVec 32 := 13#32
  let v499 : BitVec 1 := Scalar.cmpi .eq v2 c13_i32_395
  let c12_i32_393 : BitVec 32 := 12#32
  let v497 : BitVec 1 := Scalar.cmpi .eq v2 c12_i32_393
  let c11_i32_391 : BitVec 32 := 11#32
  let v495 : BitVec 1 := Scalar.cmpi .eq v2 c11_i32_391
  let c10_i32_389 : BitVec 32 := 10#32
  let v493 : BitVec 1 := Scalar.cmpi .eq v2 c10_i32_389
  let c9_i32_387 : BitVec 32 := 9#32
  let v491 : BitVec 1 := Scalar.cmpi .eq v2 c9_i32_387
  let c8_i32_385 : BitVec 32 := 8#32
  let v489 : BitVec 1 := Scalar.cmpi .eq v2 c8_i32_385
  let c7_i32_383 : BitVec 32 := 7#32
  let v487 : BitVec 1 := Scalar.cmpi .eq v2 c7_i32_383
  let c6_i32_381 : BitVec 32 := 6#32
  let v485 : BitVec 1 := Scalar.cmpi .eq v2 c6_i32_381
  let c5_i32_379 : BitVec 32 := 5#32
  let v483 : BitVec 1 := Scalar.cmpi .eq v2 c5_i32_379
  let c4_i32_377 : BitVec 32 := 4#32
  let v481 : BitVec 1 := Scalar.cmpi .eq v2 c4_i32_377
  let c3_i32_375 : BitVec 32 := 3#32
  let v479 : BitVec 1 := Scalar.cmpi .eq v2 c3_i32_375
  let c2_i32_373 : BitVec 32 := 2#32
  let v477 : BitVec 1 := Scalar.cmpi .eq v2 c2_i32_373
  let c1_i32_370 : BitVec 32 := 1#32
  let v475 : BitVec 1 := Scalar.cmpi .eq v2 c1_i32_370
  let v476 : BitVec 32 := Scalar.select v475 c0_i32_371 c4_i32_372
  let v478 : BitVec 32 := Scalar.select v477 c1_i32_374 v476
  let v480 : BitVec 32 := Scalar.select v479 c2_i32_376 v478
  let v482 : BitVec 32 := Scalar.select v481 c8_i32_378 v480
  let v484 : BitVec 32 := Scalar.select v483 c6_i32_380 v482
  let v486 : BitVec 32 := Scalar.select v485 c7_i32_382 v484
  let v488 : BitVec 32 := Scalar.select v487 c3_i32_384 v486
  let v490 : BitVec 32 := Scalar.select v489 c12_i32_386 v488
  let v492 : BitVec 32 := Scalar.select v491 c5_i32_388 v490
  let v494 : BitVec 32 := Scalar.select v493 c9_i32_390 v492
  let v496 : BitVec 32 := Scalar.select v495 c10_i32_392 v494
  let v498 : BitVec 32 := Scalar.select v497 c13_i32_394 v496
  let v500 : BitVec 32 := Scalar.select v499 c14_i32_396 v498
  let v502 : BitVec 32 := Scalar.select v501 c15_i32_398 v500
  let v504 : BitVec 32 := Scalar.select v503 c11_i32_400 v502
  let c256_i32_700 : BitVec 32 := 256#32
  let v783 : BitVec 32 := Scalar.muli v504 c256_i32_700
  let v784 : Index := Scalar.indexCast v783
  ![0, v784.toNat]
def k0_off11_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (11#32, 15#32, 14#32, 13#32, 10#32, 9#32, 5#32, 12#32, 3#32, 7#32, 6#32, 8#32, 2#32, 1#32, 0#32, 4#32)
      else
        if r.val < 2 then
          (14#32, 13#32, 12#32, 8#32, 15#32, 11#32, 10#32, 4#32, 6#32, 5#32, 9#32, 0#32, 7#32, 3#32, 2#32, 1#32)
        else
          (10#32, 11#32, 15#32, 14#32, 9#32, 5#32, 6#32, 13#32, 2#32, 3#32, 7#32, 12#32, 1#32, 0#32, 4#32, 8#32)
    else
      if r.val < 5 then
        if r.val < 4 then
          (13#32, 12#32, 8#32, 4#32, 14#32, 15#32, 11#32, 0#32, 5#32, 9#32, 10#32, 1#32, 6#32, 7#32, 3#32, 2#32)
        else
          (9#32, 10#32, 11#32, 15#32, 5#32, 6#32, 7#32, 14#32, 1#32, 2#32, 3#32, 13#32, 0#32, 4#32, 8#32, 12#32)
      else
        if r.val < 6 then
          (12#32, 8#32, 4#32, 0#32, 13#32, 14#32, 15#32, 1#32, 9#32, 10#32, 11#32, 2#32, 5#32, 6#32, 7#32, 3#32)
        else
          (5#32, 9#32, 10#32, 11#32, 6#32, 7#32, 3#32, 15#32, 0#32, 1#32, 2#32, 14#32, 4#32, 8#32, 12#32, 13#32)
  else
    if r.val < 11 then
      if r.val < 9 then
        if r.val < 8 then
          (8#32, 4#32, 0#32, 1#32, 12#32, 13#32, 14#32, 2#32, 10#32, 11#32, 15#32, 3#32, 9#32, 5#32, 6#32, 7#32)
        else
          (6#32, 5#32, 9#32, 10#32, 7#32, 3#32, 2#32, 11#32, 4#32, 0#32, 1#32, 15#32, 8#32, 12#32, 13#32, 14#32)
      else
        if r.val < 10 then
          (4#32, 0#32, 1#32, 2#32, 8#32, 12#32, 13#32, 3#32, 11#32, 15#32, 14#32, 7#32, 10#32, 9#32, 5#32, 6#32)
        else
          (7#32, 6#32, 5#32, 9#32, 3#32, 2#32, 1#32, 10#32, 8#32, 4#32, 0#32, 11#32, 12#32, 13#32, 14#32, 15#32)
    else
      if r.val < 13 then
        if r.val < 12 then
          (0#32, 1#32, 2#32, 3#32, 4#32, 8#32, 12#32, 7#32, 15#32, 14#32, 13#32, 6#32, 11#32, 10#32, 9#32, 5#32)
        else
          (3#32, 7#32, 6#32, 5#32, 2#32, 1#32, 0#32, 9#32, 12#32, 8#32, 4#32, 10#32, 13#32, 14#32, 15#32, 11#32)
      else
        if r.val < 14 then
          (1#32, 2#32, 3#32, 7#32, 0#32, 4#32, 8#32, 6#32, 14#32, 13#32, 12#32, 5#32, 15#32, 11#32, 10#32, 9#32)
        else
          (2#32, 3#32, 7#32, 6#32, 1#32, 0#32, 4#32, 5#32, 13#32, 12#32, 8#32, 9#32, 14#32, 15#32, 11#32, 10#32)
def k0_off12 (d0 : Dev nD) (c11_i32_400 : BitVec 32) (c15_i32_398 : BitVec 32) (c14_i32_396 : BitVec 32) (c13_i32_394 : BitVec 32) (c10_i32_392 : BitVec 32) (c9_i32_390 : BitVec 32) (c5_i32_388 : BitVec 32) (c12_i32_386 : BitVec 32) (c3_i32_384 : BitVec 32) (c7_i32_382 : BitVec 32) (c6_i32_380 : BitVec 32) (c8_i32_378 : BitVec 32) (c2_i32_376 : BitVec 32) (c1_i32_374 : BitVec 32) (c0_i32_371 : BitVec 32) (c4_i32_372 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_399 : BitVec 32 := 15#32
  let v503 : BitVec 1 := Scalar.cmpi .eq v2 c15_i32_399
  let c14_i32_397 : BitVec 32 := 14#32
  let v501 : BitVec 1 := Scalar.cmpi .eq v2 c14_i32_397
  let c13_i32_395 : BitVec 32 := 13#32
  let v499 : BitVec 1 := Scalar.cmpi .eq v2 c13_i32_395
  let c12_i32_393 : BitVec 32 := 12#32
  let v497 : BitVec 1 := Scalar.cmpi .eq v2 c12_i32_393
  let c11_i32_391 : BitVec 32 := 11#32
  let v495 : BitVec 1 := Scalar.cmpi .eq v2 c11_i32_391
  let c10_i32_389 : BitVec 32 := 10#32
  let v493 : BitVec 1 := Scalar.cmpi .eq v2 c10_i32_389
  let c9_i32_387 : BitVec 32 := 9#32
  let v491 : BitVec 1 := Scalar.cmpi .eq v2 c9_i32_387
  let c8_i32_385 : BitVec 32 := 8#32
  let v489 : BitVec 1 := Scalar.cmpi .eq v2 c8_i32_385
  let c7_i32_383 : BitVec 32 := 7#32
  let v487 : BitVec 1 := Scalar.cmpi .eq v2 c7_i32_383
  let c6_i32_381 : BitVec 32 := 6#32
  let v485 : BitVec 1 := Scalar.cmpi .eq v2 c6_i32_381
  let c5_i32_379 : BitVec 32 := 5#32
  let v483 : BitVec 1 := Scalar.cmpi .eq v2 c5_i32_379
  let c4_i32_377 : BitVec 32 := 4#32
  let v481 : BitVec 1 := Scalar.cmpi .eq v2 c4_i32_377
  let c3_i32_375 : BitVec 32 := 3#32
  let v479 : BitVec 1 := Scalar.cmpi .eq v2 c3_i32_375
  let c2_i32_373 : BitVec 32 := 2#32
  let v477 : BitVec 1 := Scalar.cmpi .eq v2 c2_i32_373
  let c1_i32_370 : BitVec 32 := 1#32
  let v475 : BitVec 1 := Scalar.cmpi .eq v2 c1_i32_370
  let v476 : BitVec 32 := Scalar.select v475 c0_i32_371 c4_i32_372
  let v478 : BitVec 32 := Scalar.select v477 c1_i32_374 v476
  let v480 : BitVec 32 := Scalar.select v479 c2_i32_376 v478
  let v482 : BitVec 32 := Scalar.select v481 c8_i32_378 v480
  let v484 : BitVec 32 := Scalar.select v483 c6_i32_380 v482
  let v486 : BitVec 32 := Scalar.select v485 c7_i32_382 v484
  let v488 : BitVec 32 := Scalar.select v487 c3_i32_384 v486
  let v490 : BitVec 32 := Scalar.select v489 c12_i32_386 v488
  let v492 : BitVec 32 := Scalar.select v491 c5_i32_388 v490
  let v494 : BitVec 32 := Scalar.select v493 c9_i32_390 v492
  let v496 : BitVec 32 := Scalar.select v495 c10_i32_392 v494
  let v498 : BitVec 32 := Scalar.select v497 c13_i32_394 v496
  let v500 : BitVec 32 := Scalar.select v499 c14_i32_396 v498
  let v502 : BitVec 32 := Scalar.select v501 c15_i32_398 v500
  let v504 : BitVec 32 := Scalar.select v503 c11_i32_400 v502
  let c256_i32_702 : BitVec 32 := 256#32
  let v786 : BitVec 32 := Scalar.muli v504 c256_i32_702
  let v787 : Index := Scalar.indexCast v786
  let c0_703 : Index := 0#32
  ![v787.toNat, 0]
def k0_off12_at (r : Fin 15) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 7 then
    if r.val < 3 then
      if r.val < 1 then
        (11#32, 15#32, 14#32, 13#32, 10#32, 9#32, 5#32, 12#32, 3#32, 7#32, 6#32, 8#32, 2#32, 1#32, 0#32, 4#32)
      else
        if r.val < 2 then
          (14#32, 13#32, 12#32, 8#32, 15#32, 11#32, 10#32, 4#32, 6#32, 5#32, 9#32, 0#32, 7#32, 3#32, 2#32, 1#32)
        else
          (10#32, 11#32, 15#32, 14#32, 9#32, 5#32, 6#32, 13#32, 2#32, 3#32, 7#32, 12#32, 1#32, 0#32, 4#32, 8#32)
    else
      if r.val < 5 then
        if r.val < 4 then
          (13#32, 12#32, 8#32, 4#32, 14#32, 15#32, 11#32, 0#32, 5#32, 9#32, 10#32, 1#32, 6#32, 7#32, 3#32, 2#32)
        else
          (9#32, 10#32, 11#32, 15#32, 5#32, 6#32, 7#32, 14#32, 1#32, 2#32, 3#32, 13#32, 0#32, 4#32, 8#32, 12#32)
      else
        if r.val < 6 then
          (12#32, 8#32, 4#32, 0#32, 13#32, 14#32, 15#32, 1#32, 9#32, 10#32, 11#32, 2#32, 5#32, 6#32, 7#32, 3#32)
        else
          (5#32, 9#32, 10#32, 11#32, 6#32, 7#32, 3#32, 15#32, 0#32, 1#32, 2#32, 14#32, 4#32, 8#32, 12#32, 13#32)
  else
    if r.val < 11 then
      if r.val < 9 then
        if r.val < 8 then
          (8#32, 4#32, 0#32, 1#32, 12#32, 13#32, 14#32, 2#32, 10#32, 11#32, 15#32, 3#32, 9#32, 5#32, 6#32, 7#32)
        else
          (6#32, 5#32, 9#32, 10#32, 7#32, 3#32, 2#32, 11#32, 4#32, 0#32, 1#32, 15#32, 8#32, 12#32, 13#32, 14#32)
      else
        if r.val < 10 then
          (4#32, 0#32, 1#32, 2#32, 8#32, 12#32, 13#32, 3#32, 11#32, 15#32, 14#32, 7#32, 10#32, 9#32, 5#32, 6#32)
        else
          (7#32, 6#32, 5#32, 9#32, 3#32, 2#32, 1#32, 10#32, 8#32, 4#32, 0#32, 11#32, 12#32, 13#32, 14#32, 15#32)
    else
      if r.val < 13 then
        if r.val < 12 then
          (0#32, 1#32, 2#32, 3#32, 4#32, 8#32, 12#32, 7#32, 15#32, 14#32, 13#32, 6#32, 11#32, 10#32, 9#32, 5#32)
        else
          (3#32, 7#32, 6#32, 5#32, 2#32, 1#32, 0#32, 9#32, 12#32, 8#32, 4#32, 10#32, 13#32, 14#32, 15#32, 11#32)
      else
        if r.val < 14 then
          (1#32, 2#32, 3#32, 7#32, 0#32, 4#32, 8#32, 6#32, 14#32, 13#32, 12#32, 5#32, 15#32, 11#32, 10#32, 9#32)
        else
          (2#32, 3#32, 7#32, 6#32, 1#32, 0#32, 4#32, 5#32, 13#32, 12#32, 8#32, 9#32, 14#32, 15#32, 11#32, 10#32)
def k0_off13 (d0 : Dev nD) (c11_i32_400 : BitVec 32) (c15_i32_398 : BitVec 32) (c14_i32_396 : BitVec 32) (c13_i32_394 : BitVec 32) (c10_i32_392 : BitVec 32) (c9_i32_390 : BitVec 32) (c5_i32_388 : BitVec 32) (c12_i32_386 : BitVec 32) (c3_i32_384 : BitVec 32) (c7_i32_382 : BitVec 32) (c6_i32_380 : BitVec 32) (c8_i32_378 : BitVec 32) (c2_i32_376 : BitVec 32) (c1_i32_374 : BitVec 32) (c0_i32_371 : BitVec 32) (c4_i32_372 : BitVec 32) (c0_i32_706 : BitVec 32) : Fin 4 → Nat :=
  let c0_707 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_399 : BitVec 32 := 15#32
  let v503 : BitVec 1 := Scalar.cmpi .eq v2 c15_i32_399
  let c14_i32_397 : BitVec 32 := 14#32
  let v501 : BitVec 1 := Scalar.cmpi .eq v2 c14_i32_397
  let c13_i32_395 : BitVec 32 := 13#32
  let v499 : BitVec 1 := Scalar.cmpi .eq v2 c13_i32_395
  let c12_i32_393 : BitVec 32 := 12#32
  let v497 : BitVec 1 := Scalar.cmpi .eq v2 c12_i32_393
  let c11_i32_391 : BitVec 32 := 11#32
  let v495 : BitVec 1 := Scalar.cmpi .eq v2 c11_i32_391
  let c10_i32_389 : BitVec 32 := 10#32
  let v493 : BitVec 1 := Scalar.cmpi .eq v2 c10_i32_389
  let c9_i32_387 : BitVec 32 := 9#32
  let v491 : BitVec 1 := Scalar.cmpi .eq v2 c9_i32_387
  let c8_i32_385 : BitVec 32 := 8#32
  let v489 : BitVec 1 := Scalar.cmpi .eq v2 c8_i32_385
  let c7_i32_383 : BitVec 32 := 7#32
  let v487 : BitVec 1 := Scalar.cmpi .eq v2 c7_i32_383
  let c6_i32_381 : BitVec 32 := 6#32
  let v485 : BitVec 1 := Scalar.cmpi .eq v2 c6_i32_381
  let c5_i32_379 : BitVec 32 := 5#32
  let v483 : BitVec 1 := Scalar.cmpi .eq v2 c5_i32_379
  let c4_i32_377 : BitVec 32 := 4#32
  let v481 : BitVec 1 := Scalar.cmpi .eq v2 c4_i32_377
  let c3_i32_375 : BitVec 32 := 3#32
  let v479 : BitVec 1 := Scalar.cmpi .eq v2 c3_i32_375
  let c2_i32_373 : BitVec 32 := 2#32
  let v477 : BitVec 1 := Scalar.cmpi .eq v2 c2_i32_373
  let c1_i32_370 : BitVec 32 := 1#32
  let v475 : BitVec 1 := Scalar.cmpi .eq v2 c1_i32_370
  let v476 : BitVec 32 := Scalar.select v475 c0_i32_371 c4_i32_372
  let v478 : BitVec 32 := Scalar.select v477 c1_i32_374 v476
  let v480 : BitVec 32 := Scalar.select v479 c2_i32_376 v478
  let v482 : BitVec 32 := Scalar.select v481 c8_i32_378 v480
  let v484 : BitVec 32 := Scalar.select v483 c6_i32_380 v482
  let v486 : BitVec 32 := Scalar.select v485 c7_i32_382 v484
  let v488 : BitVec 32 := Scalar.select v487 c3_i32_384 v486
  let v490 : BitVec 32 := Scalar.select v489 c12_i32_386 v488
  let v492 : BitVec 32 := Scalar.select v491 c5_i32_388 v490
  let v494 : BitVec 32 := Scalar.select v493 c9_i32_390 v492
  let v496 : BitVec 32 := Scalar.select v495 c10_i32_392 v494
  let v498 : BitVec 32 := Scalar.select v497 c13_i32_394 v496
  let v500 : BitVec 32 := Scalar.select v499 c14_i32_396 v498
  let v502 : BitVec 32 := Scalar.select v501 c15_i32_398 v500
  let v504 : BitVec 32 := Scalar.select v503 c11_i32_400 v502
  let c4_i32_705 : BitVec 32 := 4#32
  let v792 : BitVec 32 := Scalar.muli v504 c4_i32_705
  let v793 : BitVec 32 := Scalar.addi v792 c0_i32_706
  let v795 : Index := Scalar.indexCast v793
  let c0_708 : Index := 0#32
  let c0_709 : Index := 0#32
  ![0, v795.toNat, 0, 0]
def k0_off13_at (r : Fin 60) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 30 then
    if r.val < 15 then
      if r.val < 7 then
        if r.val < 3 then
          if r.val < 1 then
            (11#32, 15#32, 14#32, 13#32, 10#32, 9#32, 5#32, 12#32, 3#32, 7#32, 6#32, 8#32, 2#32, 1#32, 0#32, 4#32, 0#32)
          else
            if r.val < 2 then
              (11#32, 15#32, 14#32, 13#32, 10#32, 9#32, 5#32, 12#32, 3#32, 7#32, 6#32, 8#32, 2#32, 1#32, 0#32, 4#32, 1#32)
            else
              (11#32, 15#32, 14#32, 13#32, 10#32, 9#32, 5#32, 12#32, 3#32, 7#32, 6#32, 8#32, 2#32, 1#32, 0#32, 4#32, 2#32)
        else
          if r.val < 5 then
            if r.val < 4 then
              (11#32, 15#32, 14#32, 13#32, 10#32, 9#32, 5#32, 12#32, 3#32, 7#32, 6#32, 8#32, 2#32, 1#32, 0#32, 4#32, 3#32)
            else
              (14#32, 13#32, 12#32, 8#32, 15#32, 11#32, 10#32, 4#32, 6#32, 5#32, 9#32, 0#32, 7#32, 3#32, 2#32, 1#32, 0#32)
          else
            if r.val < 6 then
              (14#32, 13#32, 12#32, 8#32, 15#32, 11#32, 10#32, 4#32, 6#32, 5#32, 9#32, 0#32, 7#32, 3#32, 2#32, 1#32, 1#32)
            else
              (14#32, 13#32, 12#32, 8#32, 15#32, 11#32, 10#32, 4#32, 6#32, 5#32, 9#32, 0#32, 7#32, 3#32, 2#32, 1#32, 2#32)
      else
        if r.val < 11 then
          if r.val < 9 then
            if r.val < 8 then
              (14#32, 13#32, 12#32, 8#32, 15#32, 11#32, 10#32, 4#32, 6#32, 5#32, 9#32, 0#32, 7#32, 3#32, 2#32, 1#32, 3#32)
            else
              (10#32, 11#32, 15#32, 14#32, 9#32, 5#32, 6#32, 13#32, 2#32, 3#32, 7#32, 12#32, 1#32, 0#32, 4#32, 8#32, 0#32)
          else
            if r.val < 10 then
              (10#32, 11#32, 15#32, 14#32, 9#32, 5#32, 6#32, 13#32, 2#32, 3#32, 7#32, 12#32, 1#32, 0#32, 4#32, 8#32, 1#32)
            else
              (10#32, 11#32, 15#32, 14#32, 9#32, 5#32, 6#32, 13#32, 2#32, 3#32, 7#32, 12#32, 1#32, 0#32, 4#32, 8#32, 2#32)
        else
          if r.val < 13 then
            if r.val < 12 then
              (10#32, 11#32, 15#32, 14#32, 9#32, 5#32, 6#32, 13#32, 2#32, 3#32, 7#32, 12#32, 1#32, 0#32, 4#32, 8#32, 3#32)
            else
              (13#32, 12#32, 8#32, 4#32, 14#32, 15#32, 11#32, 0#32, 5#32, 9#32, 10#32, 1#32, 6#32, 7#32, 3#32, 2#32, 0#32)
          else
            if r.val < 14 then
              (13#32, 12#32, 8#32, 4#32, 14#32, 15#32, 11#32, 0#32, 5#32, 9#32, 10#32, 1#32, 6#32, 7#32, 3#32, 2#32, 1#32)
            else
              (13#32, 12#32, 8#32, 4#32, 14#32, 15#32, 11#32, 0#32, 5#32, 9#32, 10#32, 1#32, 6#32, 7#32, 3#32, 2#32, 2#32)
    else
      if r.val < 22 then
        if r.val < 18 then
          if r.val < 16 then
            (13#32, 12#32, 8#32, 4#32, 14#32, 15#32, 11#32, 0#32, 5#32, 9#32, 10#32, 1#32, 6#32, 7#32, 3#32, 2#32, 3#32)
          else
            if r.val < 17 then
              (9#32, 10#32, 11#32, 15#32, 5#32, 6#32, 7#32, 14#32, 1#32, 2#32, 3#32, 13#32, 0#32, 4#32, 8#32, 12#32, 0#32)
            else
              (9#32, 10#32, 11#32, 15#32, 5#32, 6#32, 7#32, 14#32, 1#32, 2#32, 3#32, 13#32, 0#32, 4#32, 8#32, 12#32, 1#32)
        else
          if r.val < 20 then
            if r.val < 19 then
              (9#32, 10#32, 11#32, 15#32, 5#32, 6#32, 7#32, 14#32, 1#32, 2#32, 3#32, 13#32, 0#32, 4#32, 8#32, 12#32, 2#32)
            else
              (9#32, 10#32, 11#32, 15#32, 5#32, 6#32, 7#32, 14#32, 1#32, 2#32, 3#32, 13#32, 0#32, 4#32, 8#32, 12#32, 3#32)
          else
            if r.val < 21 then
              (12#32, 8#32, 4#32, 0#32, 13#32, 14#32, 15#32, 1#32, 9#32, 10#32, 11#32, 2#32, 5#32, 6#32, 7#32, 3#32, 0#32)
            else
              (12#32, 8#32, 4#32, 0#32, 13#32, 14#32, 15#32, 1#32, 9#32, 10#32, 11#32, 2#32, 5#32, 6#32, 7#32, 3#32, 1#32)
      else
        if r.val < 26 then
          if r.val < 24 then
            if r.val < 23 then
              (12#32, 8#32, 4#32, 0#32, 13#32, 14#32, 15#32, 1#32, 9#32, 10#32, 11#32, 2#32, 5#32, 6#32, 7#32, 3#32, 2#32)
            else
              (12#32, 8#32, 4#32, 0#32, 13#32, 14#32, 15#32, 1#32, 9#32, 10#32, 11#32, 2#32, 5#32, 6#32, 7#32, 3#32, 3#32)
          else
            if r.val < 25 then
              (5#32, 9#32, 10#32, 11#32, 6#32, 7#32, 3#32, 15#32, 0#32, 1#32, 2#32, 14#32, 4#32, 8#32, 12#32, 13#32, 0#32)
            else
              (5#32, 9#32, 10#32, 11#32, 6#32, 7#32, 3#32, 15#32, 0#32, 1#32, 2#32, 14#32, 4#32, 8#32, 12#32, 13#32, 1#32)
        else
          if r.val < 28 then
            if r.val < 27 then
              (5#32, 9#32, 10#32, 11#32, 6#32, 7#32, 3#32, 15#32, 0#32, 1#32, 2#32, 14#32, 4#32, 8#32, 12#32, 13#32, 2#32)
            else
              (5#32, 9#32, 10#32, 11#32, 6#32, 7#32, 3#32, 15#32, 0#32, 1#32, 2#32, 14#32, 4#32, 8#32, 12#32, 13#32, 3#32)
          else
            if r.val < 29 then
              (8#32, 4#32, 0#32, 1#32, 12#32, 13#32, 14#32, 2#32, 10#32, 11#32, 15#32, 3#32, 9#32, 5#32, 6#32, 7#32, 0#32)
            else
              (8#32, 4#32, 0#32, 1#32, 12#32, 13#32, 14#32, 2#32, 10#32, 11#32, 15#32, 3#32, 9#32, 5#32, 6#32, 7#32, 1#32)
  else
    if r.val < 45 then
      if r.val < 37 then
        if r.val < 33 then
          if r.val < 31 then
            (8#32, 4#32, 0#32, 1#32, 12#32, 13#32, 14#32, 2#32, 10#32, 11#32, 15#32, 3#32, 9#32, 5#32, 6#32, 7#32, 2#32)
          else
            if r.val < 32 then
              (8#32, 4#32, 0#32, 1#32, 12#32, 13#32, 14#32, 2#32, 10#32, 11#32, 15#32, 3#32, 9#32, 5#32, 6#32, 7#32, 3#32)
            else
              (6#32, 5#32, 9#32, 10#32, 7#32, 3#32, 2#32, 11#32, 4#32, 0#32, 1#32, 15#32, 8#32, 12#32, 13#32, 14#32, 0#32)
        else
          if r.val < 35 then
            if r.val < 34 then
              (6#32, 5#32, 9#32, 10#32, 7#32, 3#32, 2#32, 11#32, 4#32, 0#32, 1#32, 15#32, 8#32, 12#32, 13#32, 14#32, 1#32)
            else
              (6#32, 5#32, 9#32, 10#32, 7#32, 3#32, 2#32, 11#32, 4#32, 0#32, 1#32, 15#32, 8#32, 12#32, 13#32, 14#32, 2#32)
          else
            if r.val < 36 then
              (6#32, 5#32, 9#32, 10#32, 7#32, 3#32, 2#32, 11#32, 4#32, 0#32, 1#32, 15#32, 8#32, 12#32, 13#32, 14#32, 3#32)
            else
              (4#32, 0#32, 1#32, 2#32, 8#32, 12#32, 13#32, 3#32, 11#32, 15#32, 14#32, 7#32, 10#32, 9#32, 5#32, 6#32, 0#32)
      else
        if r.val < 41 then
          if r.val < 39 then
            if r.val < 38 then
              (4#32, 0#32, 1#32, 2#32, 8#32, 12#32, 13#32, 3#32, 11#32, 15#32, 14#32, 7#32, 10#32, 9#32, 5#32, 6#32, 1#32)
            else
              (4#32, 0#32, 1#32, 2#32, 8#32, 12#32, 13#32, 3#32, 11#32, 15#32, 14#32, 7#32, 10#32, 9#32, 5#32, 6#32, 2#32)
          else
            if r.val < 40 then
              (4#32, 0#32, 1#32, 2#32, 8#32, 12#32, 13#32, 3#32, 11#32, 15#32, 14#32, 7#32, 10#32, 9#32, 5#32, 6#32, 3#32)
            else
              (7#32, 6#32, 5#32, 9#32, 3#32, 2#32, 1#32, 10#32, 8#32, 4#32, 0#32, 11#32, 12#32, 13#32, 14#32, 15#32, 0#32)
        else
          if r.val < 43 then
            if r.val < 42 then
              (7#32, 6#32, 5#32, 9#32, 3#32, 2#32, 1#32, 10#32, 8#32, 4#32, 0#32, 11#32, 12#32, 13#32, 14#32, 15#32, 1#32)
            else
              (7#32, 6#32, 5#32, 9#32, 3#32, 2#32, 1#32, 10#32, 8#32, 4#32, 0#32, 11#32, 12#32, 13#32, 14#32, 15#32, 2#32)
          else
            if r.val < 44 then
              (7#32, 6#32, 5#32, 9#32, 3#32, 2#32, 1#32, 10#32, 8#32, 4#32, 0#32, 11#32, 12#32, 13#32, 14#32, 15#32, 3#32)
            else
              (0#32, 1#32, 2#32, 3#32, 4#32, 8#32, 12#32, 7#32, 15#32, 14#32, 13#32, 6#32, 11#32, 10#32, 9#32, 5#32, 0#32)
    else
      if r.val < 52 then
        if r.val < 48 then
          if r.val < 46 then
            (0#32, 1#32, 2#32, 3#32, 4#32, 8#32, 12#32, 7#32, 15#32, 14#32, 13#32, 6#32, 11#32, 10#32, 9#32, 5#32, 1#32)
          else
            if r.val < 47 then
              (0#32, 1#32, 2#32, 3#32, 4#32, 8#32, 12#32, 7#32, 15#32, 14#32, 13#32, 6#32, 11#32, 10#32, 9#32, 5#32, 2#32)
            else
              (0#32, 1#32, 2#32, 3#32, 4#32, 8#32, 12#32, 7#32, 15#32, 14#32, 13#32, 6#32, 11#32, 10#32, 9#32, 5#32, 3#32)
        else
          if r.val < 50 then
            if r.val < 49 then
              (3#32, 7#32, 6#32, 5#32, 2#32, 1#32, 0#32, 9#32, 12#32, 8#32, 4#32, 10#32, 13#32, 14#32, 15#32, 11#32, 0#32)
            else
              (3#32, 7#32, 6#32, 5#32, 2#32, 1#32, 0#32, 9#32, 12#32, 8#32, 4#32, 10#32, 13#32, 14#32, 15#32, 11#32, 1#32)
          else
            if r.val < 51 then
              (3#32, 7#32, 6#32, 5#32, 2#32, 1#32, 0#32, 9#32, 12#32, 8#32, 4#32, 10#32, 13#32, 14#32, 15#32, 11#32, 2#32)
            else
              (3#32, 7#32, 6#32, 5#32, 2#32, 1#32, 0#32, 9#32, 12#32, 8#32, 4#32, 10#32, 13#32, 14#32, 15#32, 11#32, 3#32)
      else
        if r.val < 56 then
          if r.val < 54 then
            if r.val < 53 then
              (1#32, 2#32, 3#32, 7#32, 0#32, 4#32, 8#32, 6#32, 14#32, 13#32, 12#32, 5#32, 15#32, 11#32, 10#32, 9#32, 0#32)
            else
              (1#32, 2#32, 3#32, 7#32, 0#32, 4#32, 8#32, 6#32, 14#32, 13#32, 12#32, 5#32, 15#32, 11#32, 10#32, 9#32, 1#32)
          else
            if r.val < 55 then
              (1#32, 2#32, 3#32, 7#32, 0#32, 4#32, 8#32, 6#32, 14#32, 13#32, 12#32, 5#32, 15#32, 11#32, 10#32, 9#32, 2#32)
            else
              (1#32, 2#32, 3#32, 7#32, 0#32, 4#32, 8#32, 6#32, 14#32, 13#32, 12#32, 5#32, 15#32, 11#32, 10#32, 9#32, 3#32)
        else
          if r.val < 58 then
            if r.val < 57 then
              (2#32, 3#32, 7#32, 6#32, 1#32, 0#32, 4#32, 5#32, 13#32, 12#32, 8#32, 9#32, 14#32, 15#32, 11#32, 10#32, 0#32)
            else
              (2#32, 3#32, 7#32, 6#32, 1#32, 0#32, 4#32, 5#32, 13#32, 12#32, 8#32, 9#32, 14#32, 15#32, 11#32, 10#32, 1#32)
          else
            if r.val < 59 then
              (2#32, 3#32, 7#32, 6#32, 1#32, 0#32, 4#32, 5#32, 13#32, 12#32, 8#32, 9#32, 14#32, 15#32, 11#32, 10#32, 2#32)
            else
              (2#32, 3#32, 7#32, 6#32, 1#32, 0#32, 4#32, 5#32, 13#32, 12#32, 8#32, 9#32, 14#32, 15#32, 11#32, 10#32, 3#32)
def k0_off14 (d0 : Dev nD) (c11_i32_400 : BitVec 32) (c15_i32_398 : BitVec 32) (c14_i32_396 : BitVec 32) (c13_i32_394 : BitVec 32) (c10_i32_392 : BitVec 32) (c9_i32_390 : BitVec 32) (c5_i32_388 : BitVec 32) (c12_i32_386 : BitVec 32) (c3_i32_384 : BitVec 32) (c7_i32_382 : BitVec 32) (c6_i32_380 : BitVec 32) (c8_i32_378 : BitVec 32) (c2_i32_376 : BitVec 32) (c1_i32_374 : BitVec 32) (c0_i32_371 : BitVec 32) (c4_i32_372 : BitVec 32) (c0_i32_706 : BitVec 32) : Fin 4 → Nat :=
  let c0_713 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_399 : BitVec 32 := 15#32
  let v503 : BitVec 1 := Scalar.cmpi .eq v2 c15_i32_399
  let c14_i32_397 : BitVec 32 := 14#32
  let v501 : BitVec 1 := Scalar.cmpi .eq v2 c14_i32_397
  let c13_i32_395 : BitVec 32 := 13#32
  let v499 : BitVec 1 := Scalar.cmpi .eq v2 c13_i32_395
  let c12_i32_393 : BitVec 32 := 12#32
  let v497 : BitVec 1 := Scalar.cmpi .eq v2 c12_i32_393
  let c11_i32_391 : BitVec 32 := 11#32
  let v495 : BitVec 1 := Scalar.cmpi .eq v2 c11_i32_391
  let c10_i32_389 : BitVec 32 := 10#32
  let v493 : BitVec 1 := Scalar.cmpi .eq v2 c10_i32_389
  let c9_i32_387 : BitVec 32 := 9#32
  let v491 : BitVec 1 := Scalar.cmpi .eq v2 c9_i32_387
  let c8_i32_385 : BitVec 32 := 8#32
  let v489 : BitVec 1 := Scalar.cmpi .eq v2 c8_i32_385
  let c7_i32_383 : BitVec 32 := 7#32
  let v487 : BitVec 1 := Scalar.cmpi .eq v2 c7_i32_383
  let c6_i32_381 : BitVec 32 := 6#32
  let v485 : BitVec 1 := Scalar.cmpi .eq v2 c6_i32_381
  let c5_i32_379 : BitVec 32 := 5#32
  let v483 : BitVec 1 := Scalar.cmpi .eq v2 c5_i32_379
  let c4_i32_377 : BitVec 32 := 4#32
  let v481 : BitVec 1 := Scalar.cmpi .eq v2 c4_i32_377
  let c3_i32_375 : BitVec 32 := 3#32
  let v479 : BitVec 1 := Scalar.cmpi .eq v2 c3_i32_375
  let c2_i32_373 : BitVec 32 := 2#32
  let v477 : BitVec 1 := Scalar.cmpi .eq v2 c2_i32_373
  let c1_i32_370 : BitVec 32 := 1#32
  let v475 : BitVec 1 := Scalar.cmpi .eq v2 c1_i32_370
  let v476 : BitVec 32 := Scalar.select v475 c0_i32_371 c4_i32_372
  let v478 : BitVec 32 := Scalar.select v477 c1_i32_374 v476
  let v480 : BitVec 32 := Scalar.select v479 c2_i32_376 v478
  let v482 : BitVec 32 := Scalar.select v481 c8_i32_378 v480
  let v484 : BitVec 32 := Scalar.select v483 c6_i32_380 v482
  let v486 : BitVec 32 := Scalar.select v485 c7_i32_382 v484
  let v488 : BitVec 32 := Scalar.select v487 c3_i32_384 v486
  let v490 : BitVec 32 := Scalar.select v489 c12_i32_386 v488
  let v492 : BitVec 32 := Scalar.select v491 c5_i32_388 v490
  let v494 : BitVec 32 := Scalar.select v493 c9_i32_390 v492
  let v496 : BitVec 32 := Scalar.select v495 c10_i32_392 v494
  let v498 : BitVec 32 := Scalar.select v497 c13_i32_394 v496
  let v500 : BitVec 32 := Scalar.select v499 c14_i32_396 v498
  let v502 : BitVec 32 := Scalar.select v501 c15_i32_398 v500
  let v504 : BitVec 32 := Scalar.select v503 c11_i32_400 v502
  let c4_i32_705 : BitVec 32 := 4#32
  let v792 : BitVec 32 := Scalar.muli v504 c4_i32_705
  let v793 : BitVec 32 := Scalar.addi v792 c0_i32_706
  let v808 : Index := Scalar.indexCast v793
  let c0_714 : Index := 0#32
  let c0_715 : Index := 0#32
  ![0, v808.toNat, 0, 0]
def k0_off14_at (r : Fin 60) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 30 then
    if r.val < 15 then
      if r.val < 7 then
        if r.val < 3 then
          if r.val < 1 then
            (11#32, 15#32, 14#32, 13#32, 10#32, 9#32, 5#32, 12#32, 3#32, 7#32, 6#32, 8#32, 2#32, 1#32, 0#32, 4#32, 0#32)
          else
            if r.val < 2 then
              (11#32, 15#32, 14#32, 13#32, 10#32, 9#32, 5#32, 12#32, 3#32, 7#32, 6#32, 8#32, 2#32, 1#32, 0#32, 4#32, 1#32)
            else
              (11#32, 15#32, 14#32, 13#32, 10#32, 9#32, 5#32, 12#32, 3#32, 7#32, 6#32, 8#32, 2#32, 1#32, 0#32, 4#32, 2#32)
        else
          if r.val < 5 then
            if r.val < 4 then
              (11#32, 15#32, 14#32, 13#32, 10#32, 9#32, 5#32, 12#32, 3#32, 7#32, 6#32, 8#32, 2#32, 1#32, 0#32, 4#32, 3#32)
            else
              (14#32, 13#32, 12#32, 8#32, 15#32, 11#32, 10#32, 4#32, 6#32, 5#32, 9#32, 0#32, 7#32, 3#32, 2#32, 1#32, 0#32)
          else
            if r.val < 6 then
              (14#32, 13#32, 12#32, 8#32, 15#32, 11#32, 10#32, 4#32, 6#32, 5#32, 9#32, 0#32, 7#32, 3#32, 2#32, 1#32, 1#32)
            else
              (14#32, 13#32, 12#32, 8#32, 15#32, 11#32, 10#32, 4#32, 6#32, 5#32, 9#32, 0#32, 7#32, 3#32, 2#32, 1#32, 2#32)
      else
        if r.val < 11 then
          if r.val < 9 then
            if r.val < 8 then
              (14#32, 13#32, 12#32, 8#32, 15#32, 11#32, 10#32, 4#32, 6#32, 5#32, 9#32, 0#32, 7#32, 3#32, 2#32, 1#32, 3#32)
            else
              (10#32, 11#32, 15#32, 14#32, 9#32, 5#32, 6#32, 13#32, 2#32, 3#32, 7#32, 12#32, 1#32, 0#32, 4#32, 8#32, 0#32)
          else
            if r.val < 10 then
              (10#32, 11#32, 15#32, 14#32, 9#32, 5#32, 6#32, 13#32, 2#32, 3#32, 7#32, 12#32, 1#32, 0#32, 4#32, 8#32, 1#32)
            else
              (10#32, 11#32, 15#32, 14#32, 9#32, 5#32, 6#32, 13#32, 2#32, 3#32, 7#32, 12#32, 1#32, 0#32, 4#32, 8#32, 2#32)
        else
          if r.val < 13 then
            if r.val < 12 then
              (10#32, 11#32, 15#32, 14#32, 9#32, 5#32, 6#32, 13#32, 2#32, 3#32, 7#32, 12#32, 1#32, 0#32, 4#32, 8#32, 3#32)
            else
              (13#32, 12#32, 8#32, 4#32, 14#32, 15#32, 11#32, 0#32, 5#32, 9#32, 10#32, 1#32, 6#32, 7#32, 3#32, 2#32, 0#32)
          else
            if r.val < 14 then
              (13#32, 12#32, 8#32, 4#32, 14#32, 15#32, 11#32, 0#32, 5#32, 9#32, 10#32, 1#32, 6#32, 7#32, 3#32, 2#32, 1#32)
            else
              (13#32, 12#32, 8#32, 4#32, 14#32, 15#32, 11#32, 0#32, 5#32, 9#32, 10#32, 1#32, 6#32, 7#32, 3#32, 2#32, 2#32)
    else
      if r.val < 22 then
        if r.val < 18 then
          if r.val < 16 then
            (13#32, 12#32, 8#32, 4#32, 14#32, 15#32, 11#32, 0#32, 5#32, 9#32, 10#32, 1#32, 6#32, 7#32, 3#32, 2#32, 3#32)
          else
            if r.val < 17 then
              (9#32, 10#32, 11#32, 15#32, 5#32, 6#32, 7#32, 14#32, 1#32, 2#32, 3#32, 13#32, 0#32, 4#32, 8#32, 12#32, 0#32)
            else
              (9#32, 10#32, 11#32, 15#32, 5#32, 6#32, 7#32, 14#32, 1#32, 2#32, 3#32, 13#32, 0#32, 4#32, 8#32, 12#32, 1#32)
        else
          if r.val < 20 then
            if r.val < 19 then
              (9#32, 10#32, 11#32, 15#32, 5#32, 6#32, 7#32, 14#32, 1#32, 2#32, 3#32, 13#32, 0#32, 4#32, 8#32, 12#32, 2#32)
            else
              (9#32, 10#32, 11#32, 15#32, 5#32, 6#32, 7#32, 14#32, 1#32, 2#32, 3#32, 13#32, 0#32, 4#32, 8#32, 12#32, 3#32)
          else
            if r.val < 21 then
              (12#32, 8#32, 4#32, 0#32, 13#32, 14#32, 15#32, 1#32, 9#32, 10#32, 11#32, 2#32, 5#32, 6#32, 7#32, 3#32, 0#32)
            else
              (12#32, 8#32, 4#32, 0#32, 13#32, 14#32, 15#32, 1#32, 9#32, 10#32, 11#32, 2#32, 5#32, 6#32, 7#32, 3#32, 1#32)
      else
        if r.val < 26 then
          if r.val < 24 then
            if r.val < 23 then
              (12#32, 8#32, 4#32, 0#32, 13#32, 14#32, 15#32, 1#32, 9#32, 10#32, 11#32, 2#32, 5#32, 6#32, 7#32, 3#32, 2#32)
            else
              (12#32, 8#32, 4#32, 0#32, 13#32, 14#32, 15#32, 1#32, 9#32, 10#32, 11#32, 2#32, 5#32, 6#32, 7#32, 3#32, 3#32)
          else
            if r.val < 25 then
              (5#32, 9#32, 10#32, 11#32, 6#32, 7#32, 3#32, 15#32, 0#32, 1#32, 2#32, 14#32, 4#32, 8#32, 12#32, 13#32, 0#32)
            else
              (5#32, 9#32, 10#32, 11#32, 6#32, 7#32, 3#32, 15#32, 0#32, 1#32, 2#32, 14#32, 4#32, 8#32, 12#32, 13#32, 1#32)
        else
          if r.val < 28 then
            if r.val < 27 then
              (5#32, 9#32, 10#32, 11#32, 6#32, 7#32, 3#32, 15#32, 0#32, 1#32, 2#32, 14#32, 4#32, 8#32, 12#32, 13#32, 2#32)
            else
              (5#32, 9#32, 10#32, 11#32, 6#32, 7#32, 3#32, 15#32, 0#32, 1#32, 2#32, 14#32, 4#32, 8#32, 12#32, 13#32, 3#32)
          else
            if r.val < 29 then
              (8#32, 4#32, 0#32, 1#32, 12#32, 13#32, 14#32, 2#32, 10#32, 11#32, 15#32, 3#32, 9#32, 5#32, 6#32, 7#32, 0#32)
            else
              (8#32, 4#32, 0#32, 1#32, 12#32, 13#32, 14#32, 2#32, 10#32, 11#32, 15#32, 3#32, 9#32, 5#32, 6#32, 7#32, 1#32)
  else
    if r.val < 45 then
      if r.val < 37 then
        if r.val < 33 then
          if r.val < 31 then
            (8#32, 4#32, 0#32, 1#32, 12#32, 13#32, 14#32, 2#32, 10#32, 11#32, 15#32, 3#32, 9#32, 5#32, 6#32, 7#32, 2#32)
          else
            if r.val < 32 then
              (8#32, 4#32, 0#32, 1#32, 12#32, 13#32, 14#32, 2#32, 10#32, 11#32, 15#32, 3#32, 9#32, 5#32, 6#32, 7#32, 3#32)
            else
              (6#32, 5#32, 9#32, 10#32, 7#32, 3#32, 2#32, 11#32, 4#32, 0#32, 1#32, 15#32, 8#32, 12#32, 13#32, 14#32, 0#32)
        else
          if r.val < 35 then
            if r.val < 34 then
              (6#32, 5#32, 9#32, 10#32, 7#32, 3#32, 2#32, 11#32, 4#32, 0#32, 1#32, 15#32, 8#32, 12#32, 13#32, 14#32, 1#32)
            else
              (6#32, 5#32, 9#32, 10#32, 7#32, 3#32, 2#32, 11#32, 4#32, 0#32, 1#32, 15#32, 8#32, 12#32, 13#32, 14#32, 2#32)
          else
            if r.val < 36 then
              (6#32, 5#32, 9#32, 10#32, 7#32, 3#32, 2#32, 11#32, 4#32, 0#32, 1#32, 15#32, 8#32, 12#32, 13#32, 14#32, 3#32)
            else
              (4#32, 0#32, 1#32, 2#32, 8#32, 12#32, 13#32, 3#32, 11#32, 15#32, 14#32, 7#32, 10#32, 9#32, 5#32, 6#32, 0#32)
      else
        if r.val < 41 then
          if r.val < 39 then
            if r.val < 38 then
              (4#32, 0#32, 1#32, 2#32, 8#32, 12#32, 13#32, 3#32, 11#32, 15#32, 14#32, 7#32, 10#32, 9#32, 5#32, 6#32, 1#32)
            else
              (4#32, 0#32, 1#32, 2#32, 8#32, 12#32, 13#32, 3#32, 11#32, 15#32, 14#32, 7#32, 10#32, 9#32, 5#32, 6#32, 2#32)
          else
            if r.val < 40 then
              (4#32, 0#32, 1#32, 2#32, 8#32, 12#32, 13#32, 3#32, 11#32, 15#32, 14#32, 7#32, 10#32, 9#32, 5#32, 6#32, 3#32)
            else
              (7#32, 6#32, 5#32, 9#32, 3#32, 2#32, 1#32, 10#32, 8#32, 4#32, 0#32, 11#32, 12#32, 13#32, 14#32, 15#32, 0#32)
        else
          if r.val < 43 then
            if r.val < 42 then
              (7#32, 6#32, 5#32, 9#32, 3#32, 2#32, 1#32, 10#32, 8#32, 4#32, 0#32, 11#32, 12#32, 13#32, 14#32, 15#32, 1#32)
            else
              (7#32, 6#32, 5#32, 9#32, 3#32, 2#32, 1#32, 10#32, 8#32, 4#32, 0#32, 11#32, 12#32, 13#32, 14#32, 15#32, 2#32)
          else
            if r.val < 44 then
              (7#32, 6#32, 5#32, 9#32, 3#32, 2#32, 1#32, 10#32, 8#32, 4#32, 0#32, 11#32, 12#32, 13#32, 14#32, 15#32, 3#32)
            else
              (0#32, 1#32, 2#32, 3#32, 4#32, 8#32, 12#32, 7#32, 15#32, 14#32, 13#32, 6#32, 11#32, 10#32, 9#32, 5#32, 0#32)
    else
      if r.val < 52 then
        if r.val < 48 then
          if r.val < 46 then
            (0#32, 1#32, 2#32, 3#32, 4#32, 8#32, 12#32, 7#32, 15#32, 14#32, 13#32, 6#32, 11#32, 10#32, 9#32, 5#32, 1#32)
          else
            if r.val < 47 then
              (0#32, 1#32, 2#32, 3#32, 4#32, 8#32, 12#32, 7#32, 15#32, 14#32, 13#32, 6#32, 11#32, 10#32, 9#32, 5#32, 2#32)
            else
              (0#32, 1#32, 2#32, 3#32, 4#32, 8#32, 12#32, 7#32, 15#32, 14#32, 13#32, 6#32, 11#32, 10#32, 9#32, 5#32, 3#32)
        else
          if r.val < 50 then
            if r.val < 49 then
              (3#32, 7#32, 6#32, 5#32, 2#32, 1#32, 0#32, 9#32, 12#32, 8#32, 4#32, 10#32, 13#32, 14#32, 15#32, 11#32, 0#32)
            else
              (3#32, 7#32, 6#32, 5#32, 2#32, 1#32, 0#32, 9#32, 12#32, 8#32, 4#32, 10#32, 13#32, 14#32, 15#32, 11#32, 1#32)
          else
            if r.val < 51 then
              (3#32, 7#32, 6#32, 5#32, 2#32, 1#32, 0#32, 9#32, 12#32, 8#32, 4#32, 10#32, 13#32, 14#32, 15#32, 11#32, 2#32)
            else
              (3#32, 7#32, 6#32, 5#32, 2#32, 1#32, 0#32, 9#32, 12#32, 8#32, 4#32, 10#32, 13#32, 14#32, 15#32, 11#32, 3#32)
      else
        if r.val < 56 then
          if r.val < 54 then
            if r.val < 53 then
              (1#32, 2#32, 3#32, 7#32, 0#32, 4#32, 8#32, 6#32, 14#32, 13#32, 12#32, 5#32, 15#32, 11#32, 10#32, 9#32, 0#32)
            else
              (1#32, 2#32, 3#32, 7#32, 0#32, 4#32, 8#32, 6#32, 14#32, 13#32, 12#32, 5#32, 15#32, 11#32, 10#32, 9#32, 1#32)
          else
            if r.val < 55 then
              (1#32, 2#32, 3#32, 7#32, 0#32, 4#32, 8#32, 6#32, 14#32, 13#32, 12#32, 5#32, 15#32, 11#32, 10#32, 9#32, 2#32)
            else
              (1#32, 2#32, 3#32, 7#32, 0#32, 4#32, 8#32, 6#32, 14#32, 13#32, 12#32, 5#32, 15#32, 11#32, 10#32, 9#32, 3#32)
        else
          if r.val < 58 then
            if r.val < 57 then
              (2#32, 3#32, 7#32, 6#32, 1#32, 0#32, 4#32, 5#32, 13#32, 12#32, 8#32, 9#32, 14#32, 15#32, 11#32, 10#32, 0#32)
            else
              (2#32, 3#32, 7#32, 6#32, 1#32, 0#32, 4#32, 5#32, 13#32, 12#32, 8#32, 9#32, 14#32, 15#32, 11#32, 10#32, 1#32)
          else
            if r.val < 59 then
              (2#32, 3#32, 7#32, 6#32, 1#32, 0#32, 4#32, 5#32, 13#32, 12#32, 8#32, 9#32, 14#32, 15#32, 11#32, 10#32, 2#32)
            else
              (2#32, 3#32, 7#32, 6#32, 1#32, 0#32, 4#32, 5#32, 13#32, 12#32, 8#32, 9#32, 14#32, 15#32, 11#32, 10#32, 3#32)
def k0_off15 (d0 : Dev nD) (c11_i32_400 : BitVec 32) (c15_i32_398 : BitVec 32) (c14_i32_396 : BitVec 32) (c13_i32_394 : BitVec 32) (c10_i32_392 : BitVec 32) (c9_i32_390 : BitVec 32) (c5_i32_388 : BitVec 32) (c12_i32_386 : BitVec 32) (c3_i32_384 : BitVec 32) (c7_i32_382 : BitVec 32) (c6_i32_380 : BitVec 32) (c8_i32_378 : BitVec 32) (c2_i32_376 : BitVec 32) (c1_i32_374 : BitVec 32) (c0_i32_371 : BitVec 32) (c4_i32_372 : BitVec 32) (c0_i32_754 : BitVec 32) : Fin 4 → Nat :=
  let c1_755 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_399 : BitVec 32 := 15#32
  let v503 : BitVec 1 := Scalar.cmpi .eq v2 c15_i32_399
  let c14_i32_397 : BitVec 32 := 14#32
  let v501 : BitVec 1 := Scalar.cmpi .eq v2 c14_i32_397
  let c13_i32_395 : BitVec 32 := 13#32
  let v499 : BitVec 1 := Scalar.cmpi .eq v2 c13_i32_395
  let c12_i32_393 : BitVec 32 := 12#32
  let v497 : BitVec 1 := Scalar.cmpi .eq v2 c12_i32_393
  let c11_i32_391 : BitVec 32 := 11#32
  let v495 : BitVec 1 := Scalar.cmpi .eq v2 c11_i32_391
  let c10_i32_389 : BitVec 32 := 10#32
  let v493 : BitVec 1 := Scalar.cmpi .eq v2 c10_i32_389
  let c9_i32_387 : BitVec 32 := 9#32
  let v491 : BitVec 1 := Scalar.cmpi .eq v2 c9_i32_387
  let c8_i32_385 : BitVec 32 := 8#32
  let v489 : BitVec 1 := Scalar.cmpi .eq v2 c8_i32_385
  let c7_i32_383 : BitVec 32 := 7#32
  let v487 : BitVec 1 := Scalar.cmpi .eq v2 c7_i32_383
  let c6_i32_381 : BitVec 32 := 6#32
  let v485 : BitVec 1 := Scalar.cmpi .eq v2 c6_i32_381
  let c5_i32_379 : BitVec 32 := 5#32
  let v483 : BitVec 1 := Scalar.cmpi .eq v2 c5_i32_379
  let c4_i32_377 : BitVec 32 := 4#32
  let v481 : BitVec 1 := Scalar.cmpi .eq v2 c4_i32_377
  let c3_i32_375 : BitVec 32 := 3#32
  let v479 : BitVec 1 := Scalar.cmpi .eq v2 c3_i32_375
  let c2_i32_373 : BitVec 32 := 2#32
  let v477 : BitVec 1 := Scalar.cmpi .eq v2 c2_i32_373
  let c1_i32_370 : BitVec 32 := 1#32
  let v475 : BitVec 1 := Scalar.cmpi .eq v2 c1_i32_370
  let v476 : BitVec 32 := Scalar.select v475 c0_i32_371 c4_i32_372
  let v478 : BitVec 32 := Scalar.select v477 c1_i32_374 v476
  let v480 : BitVec 32 := Scalar.select v479 c2_i32_376 v478
  let v482 : BitVec 32 := Scalar.select v481 c8_i32_378 v480
  let v484 : BitVec 32 := Scalar.select v483 c6_i32_380 v482
  let v486 : BitVec 32 := Scalar.select v485 c7_i32_382 v484
  let v488 : BitVec 32 := Scalar.select v487 c3_i32_384 v486
  let v490 : BitVec 32 := Scalar.select v489 c12_i32_386 v488
  let v492 : BitVec 32 := Scalar.select v491 c5_i32_388 v490
  let v494 : BitVec 32 := Scalar.select v493 c9_i32_390 v492
  let v496 : BitVec 32 := Scalar.select v495 c10_i32_392 v494
  let v498 : BitVec 32 := Scalar.select v497 c13_i32_394 v496
  let v500 : BitVec 32 := Scalar.select v499 c14_i32_396 v498
  let v502 : BitVec 32 := Scalar.select v501 c15_i32_398 v500
  let v504 : BitVec 32 := Scalar.select v503 c11_i32_400 v502
  let c4_i32_753 : BitVec 32 := 4#32
  let v878 : BitVec 32 := Scalar.muli v504 c4_i32_753
  let v879 : BitVec 32 := Scalar.addi v878 c0_i32_754
  let v881 : Index := Scalar.indexCast v879
  let c0_756 : Index := 0#32
  let c0_757 : Index := 0#32
  ![1, v881.toNat, 0, 0]
def k0_off15_at (r : Fin 60) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 30 then
    if r.val < 15 then
      if r.val < 7 then
        if r.val < 3 then
          if r.val < 1 then
            (11#32, 15#32, 14#32, 13#32, 10#32, 9#32, 5#32, 12#32, 3#32, 7#32, 6#32, 8#32, 2#32, 1#32, 0#32, 4#32, 0#32)
          else
            if r.val < 2 then
              (11#32, 15#32, 14#32, 13#32, 10#32, 9#32, 5#32, 12#32, 3#32, 7#32, 6#32, 8#32, 2#32, 1#32, 0#32, 4#32, 1#32)
            else
              (11#32, 15#32, 14#32, 13#32, 10#32, 9#32, 5#32, 12#32, 3#32, 7#32, 6#32, 8#32, 2#32, 1#32, 0#32, 4#32, 2#32)
        else
          if r.val < 5 then
            if r.val < 4 then
              (11#32, 15#32, 14#32, 13#32, 10#32, 9#32, 5#32, 12#32, 3#32, 7#32, 6#32, 8#32, 2#32, 1#32, 0#32, 4#32, 3#32)
            else
              (14#32, 13#32, 12#32, 8#32, 15#32, 11#32, 10#32, 4#32, 6#32, 5#32, 9#32, 0#32, 7#32, 3#32, 2#32, 1#32, 0#32)
          else
            if r.val < 6 then
              (14#32, 13#32, 12#32, 8#32, 15#32, 11#32, 10#32, 4#32, 6#32, 5#32, 9#32, 0#32, 7#32, 3#32, 2#32, 1#32, 1#32)
            else
              (14#32, 13#32, 12#32, 8#32, 15#32, 11#32, 10#32, 4#32, 6#32, 5#32, 9#32, 0#32, 7#32, 3#32, 2#32, 1#32, 2#32)
      else
        if r.val < 11 then
          if r.val < 9 then
            if r.val < 8 then
              (14#32, 13#32, 12#32, 8#32, 15#32, 11#32, 10#32, 4#32, 6#32, 5#32, 9#32, 0#32, 7#32, 3#32, 2#32, 1#32, 3#32)
            else
              (10#32, 11#32, 15#32, 14#32, 9#32, 5#32, 6#32, 13#32, 2#32, 3#32, 7#32, 12#32, 1#32, 0#32, 4#32, 8#32, 0#32)
          else
            if r.val < 10 then
              (10#32, 11#32, 15#32, 14#32, 9#32, 5#32, 6#32, 13#32, 2#32, 3#32, 7#32, 12#32, 1#32, 0#32, 4#32, 8#32, 1#32)
            else
              (10#32, 11#32, 15#32, 14#32, 9#32, 5#32, 6#32, 13#32, 2#32, 3#32, 7#32, 12#32, 1#32, 0#32, 4#32, 8#32, 2#32)
        else
          if r.val < 13 then
            if r.val < 12 then
              (10#32, 11#32, 15#32, 14#32, 9#32, 5#32, 6#32, 13#32, 2#32, 3#32, 7#32, 12#32, 1#32, 0#32, 4#32, 8#32, 3#32)
            else
              (13#32, 12#32, 8#32, 4#32, 14#32, 15#32, 11#32, 0#32, 5#32, 9#32, 10#32, 1#32, 6#32, 7#32, 3#32, 2#32, 0#32)
          else
            if r.val < 14 then
              (13#32, 12#32, 8#32, 4#32, 14#32, 15#32, 11#32, 0#32, 5#32, 9#32, 10#32, 1#32, 6#32, 7#32, 3#32, 2#32, 1#32)
            else
              (13#32, 12#32, 8#32, 4#32, 14#32, 15#32, 11#32, 0#32, 5#32, 9#32, 10#32, 1#32, 6#32, 7#32, 3#32, 2#32, 2#32)
    else
      if r.val < 22 then
        if r.val < 18 then
          if r.val < 16 then
            (13#32, 12#32, 8#32, 4#32, 14#32, 15#32, 11#32, 0#32, 5#32, 9#32, 10#32, 1#32, 6#32, 7#32, 3#32, 2#32, 3#32)
          else
            if r.val < 17 then
              (9#32, 10#32, 11#32, 15#32, 5#32, 6#32, 7#32, 14#32, 1#32, 2#32, 3#32, 13#32, 0#32, 4#32, 8#32, 12#32, 0#32)
            else
              (9#32, 10#32, 11#32, 15#32, 5#32, 6#32, 7#32, 14#32, 1#32, 2#32, 3#32, 13#32, 0#32, 4#32, 8#32, 12#32, 1#32)
        else
          if r.val < 20 then
            if r.val < 19 then
              (9#32, 10#32, 11#32, 15#32, 5#32, 6#32, 7#32, 14#32, 1#32, 2#32, 3#32, 13#32, 0#32, 4#32, 8#32, 12#32, 2#32)
            else
              (9#32, 10#32, 11#32, 15#32, 5#32, 6#32, 7#32, 14#32, 1#32, 2#32, 3#32, 13#32, 0#32, 4#32, 8#32, 12#32, 3#32)
          else
            if r.val < 21 then
              (12#32, 8#32, 4#32, 0#32, 13#32, 14#32, 15#32, 1#32, 9#32, 10#32, 11#32, 2#32, 5#32, 6#32, 7#32, 3#32, 0#32)
            else
              (12#32, 8#32, 4#32, 0#32, 13#32, 14#32, 15#32, 1#32, 9#32, 10#32, 11#32, 2#32, 5#32, 6#32, 7#32, 3#32, 1#32)
      else
        if r.val < 26 then
          if r.val < 24 then
            if r.val < 23 then
              (12#32, 8#32, 4#32, 0#32, 13#32, 14#32, 15#32, 1#32, 9#32, 10#32, 11#32, 2#32, 5#32, 6#32, 7#32, 3#32, 2#32)
            else
              (12#32, 8#32, 4#32, 0#32, 13#32, 14#32, 15#32, 1#32, 9#32, 10#32, 11#32, 2#32, 5#32, 6#32, 7#32, 3#32, 3#32)
          else
            if r.val < 25 then
              (5#32, 9#32, 10#32, 11#32, 6#32, 7#32, 3#32, 15#32, 0#32, 1#32, 2#32, 14#32, 4#32, 8#32, 12#32, 13#32, 0#32)
            else
              (5#32, 9#32, 10#32, 11#32, 6#32, 7#32, 3#32, 15#32, 0#32, 1#32, 2#32, 14#32, 4#32, 8#32, 12#32, 13#32, 1#32)
        else
          if r.val < 28 then
            if r.val < 27 then
              (5#32, 9#32, 10#32, 11#32, 6#32, 7#32, 3#32, 15#32, 0#32, 1#32, 2#32, 14#32, 4#32, 8#32, 12#32, 13#32, 2#32)
            else
              (5#32, 9#32, 10#32, 11#32, 6#32, 7#32, 3#32, 15#32, 0#32, 1#32, 2#32, 14#32, 4#32, 8#32, 12#32, 13#32, 3#32)
          else
            if r.val < 29 then
              (8#32, 4#32, 0#32, 1#32, 12#32, 13#32, 14#32, 2#32, 10#32, 11#32, 15#32, 3#32, 9#32, 5#32, 6#32, 7#32, 0#32)
            else
              (8#32, 4#32, 0#32, 1#32, 12#32, 13#32, 14#32, 2#32, 10#32, 11#32, 15#32, 3#32, 9#32, 5#32, 6#32, 7#32, 1#32)
  else
    if r.val < 45 then
      if r.val < 37 then
        if r.val < 33 then
          if r.val < 31 then
            (8#32, 4#32, 0#32, 1#32, 12#32, 13#32, 14#32, 2#32, 10#32, 11#32, 15#32, 3#32, 9#32, 5#32, 6#32, 7#32, 2#32)
          else
            if r.val < 32 then
              (8#32, 4#32, 0#32, 1#32, 12#32, 13#32, 14#32, 2#32, 10#32, 11#32, 15#32, 3#32, 9#32, 5#32, 6#32, 7#32, 3#32)
            else
              (6#32, 5#32, 9#32, 10#32, 7#32, 3#32, 2#32, 11#32, 4#32, 0#32, 1#32, 15#32, 8#32, 12#32, 13#32, 14#32, 0#32)
        else
          if r.val < 35 then
            if r.val < 34 then
              (6#32, 5#32, 9#32, 10#32, 7#32, 3#32, 2#32, 11#32, 4#32, 0#32, 1#32, 15#32, 8#32, 12#32, 13#32, 14#32, 1#32)
            else
              (6#32, 5#32, 9#32, 10#32, 7#32, 3#32, 2#32, 11#32, 4#32, 0#32, 1#32, 15#32, 8#32, 12#32, 13#32, 14#32, 2#32)
          else
            if r.val < 36 then
              (6#32, 5#32, 9#32, 10#32, 7#32, 3#32, 2#32, 11#32, 4#32, 0#32, 1#32, 15#32, 8#32, 12#32, 13#32, 14#32, 3#32)
            else
              (4#32, 0#32, 1#32, 2#32, 8#32, 12#32, 13#32, 3#32, 11#32, 15#32, 14#32, 7#32, 10#32, 9#32, 5#32, 6#32, 0#32)
      else
        if r.val < 41 then
          if r.val < 39 then
            if r.val < 38 then
              (4#32, 0#32, 1#32, 2#32, 8#32, 12#32, 13#32, 3#32, 11#32, 15#32, 14#32, 7#32, 10#32, 9#32, 5#32, 6#32, 1#32)
            else
              (4#32, 0#32, 1#32, 2#32, 8#32, 12#32, 13#32, 3#32, 11#32, 15#32, 14#32, 7#32, 10#32, 9#32, 5#32, 6#32, 2#32)
          else
            if r.val < 40 then
              (4#32, 0#32, 1#32, 2#32, 8#32, 12#32, 13#32, 3#32, 11#32, 15#32, 14#32, 7#32, 10#32, 9#32, 5#32, 6#32, 3#32)
            else
              (7#32, 6#32, 5#32, 9#32, 3#32, 2#32, 1#32, 10#32, 8#32, 4#32, 0#32, 11#32, 12#32, 13#32, 14#32, 15#32, 0#32)
        else
          if r.val < 43 then
            if r.val < 42 then
              (7#32, 6#32, 5#32, 9#32, 3#32, 2#32, 1#32, 10#32, 8#32, 4#32, 0#32, 11#32, 12#32, 13#32, 14#32, 15#32, 1#32)
            else
              (7#32, 6#32, 5#32, 9#32, 3#32, 2#32, 1#32, 10#32, 8#32, 4#32, 0#32, 11#32, 12#32, 13#32, 14#32, 15#32, 2#32)
          else
            if r.val < 44 then
              (7#32, 6#32, 5#32, 9#32, 3#32, 2#32, 1#32, 10#32, 8#32, 4#32, 0#32, 11#32, 12#32, 13#32, 14#32, 15#32, 3#32)
            else
              (0#32, 1#32, 2#32, 3#32, 4#32, 8#32, 12#32, 7#32, 15#32, 14#32, 13#32, 6#32, 11#32, 10#32, 9#32, 5#32, 0#32)
    else
      if r.val < 52 then
        if r.val < 48 then
          if r.val < 46 then
            (0#32, 1#32, 2#32, 3#32, 4#32, 8#32, 12#32, 7#32, 15#32, 14#32, 13#32, 6#32, 11#32, 10#32, 9#32, 5#32, 1#32)
          else
            if r.val < 47 then
              (0#32, 1#32, 2#32, 3#32, 4#32, 8#32, 12#32, 7#32, 15#32, 14#32, 13#32, 6#32, 11#32, 10#32, 9#32, 5#32, 2#32)
            else
              (0#32, 1#32, 2#32, 3#32, 4#32, 8#32, 12#32, 7#32, 15#32, 14#32, 13#32, 6#32, 11#32, 10#32, 9#32, 5#32, 3#32)
        else
          if r.val < 50 then
            if r.val < 49 then
              (3#32, 7#32, 6#32, 5#32, 2#32, 1#32, 0#32, 9#32, 12#32, 8#32, 4#32, 10#32, 13#32, 14#32, 15#32, 11#32, 0#32)
            else
              (3#32, 7#32, 6#32, 5#32, 2#32, 1#32, 0#32, 9#32, 12#32, 8#32, 4#32, 10#32, 13#32, 14#32, 15#32, 11#32, 1#32)
          else
            if r.val < 51 then
              (3#32, 7#32, 6#32, 5#32, 2#32, 1#32, 0#32, 9#32, 12#32, 8#32, 4#32, 10#32, 13#32, 14#32, 15#32, 11#32, 2#32)
            else
              (3#32, 7#32, 6#32, 5#32, 2#32, 1#32, 0#32, 9#32, 12#32, 8#32, 4#32, 10#32, 13#32, 14#32, 15#32, 11#32, 3#32)
      else
        if r.val < 56 then
          if r.val < 54 then
            if r.val < 53 then
              (1#32, 2#32, 3#32, 7#32, 0#32, 4#32, 8#32, 6#32, 14#32, 13#32, 12#32, 5#32, 15#32, 11#32, 10#32, 9#32, 0#32)
            else
              (1#32, 2#32, 3#32, 7#32, 0#32, 4#32, 8#32, 6#32, 14#32, 13#32, 12#32, 5#32, 15#32, 11#32, 10#32, 9#32, 1#32)
          else
            if r.val < 55 then
              (1#32, 2#32, 3#32, 7#32, 0#32, 4#32, 8#32, 6#32, 14#32, 13#32, 12#32, 5#32, 15#32, 11#32, 10#32, 9#32, 2#32)
            else
              (1#32, 2#32, 3#32, 7#32, 0#32, 4#32, 8#32, 6#32, 14#32, 13#32, 12#32, 5#32, 15#32, 11#32, 10#32, 9#32, 3#32)
        else
          if r.val < 58 then
            if r.val < 57 then
              (2#32, 3#32, 7#32, 6#32, 1#32, 0#32, 4#32, 5#32, 13#32, 12#32, 8#32, 9#32, 14#32, 15#32, 11#32, 10#32, 0#32)
            else
              (2#32, 3#32, 7#32, 6#32, 1#32, 0#32, 4#32, 5#32, 13#32, 12#32, 8#32, 9#32, 14#32, 15#32, 11#32, 10#32, 1#32)
          else
            if r.val < 59 then
              (2#32, 3#32, 7#32, 6#32, 1#32, 0#32, 4#32, 5#32, 13#32, 12#32, 8#32, 9#32, 14#32, 15#32, 11#32, 10#32, 2#32)
            else
              (2#32, 3#32, 7#32, 6#32, 1#32, 0#32, 4#32, 5#32, 13#32, 12#32, 8#32, 9#32, 14#32, 15#32, 11#32, 10#32, 3#32)
def k0_off16 (d0 : Dev nD) (c11_i32_400 : BitVec 32) (c15_i32_398 : BitVec 32) (c14_i32_396 : BitVec 32) (c13_i32_394 : BitVec 32) (c10_i32_392 : BitVec 32) (c9_i32_390 : BitVec 32) (c5_i32_388 : BitVec 32) (c12_i32_386 : BitVec 32) (c3_i32_384 : BitVec 32) (c7_i32_382 : BitVec 32) (c6_i32_380 : BitVec 32) (c8_i32_378 : BitVec 32) (c2_i32_376 : BitVec 32) (c1_i32_374 : BitVec 32) (c0_i32_371 : BitVec 32) (c4_i32_372 : BitVec 32) (c0_i32_754 : BitVec 32) : Fin 4 → Nat :=
  let c1_761 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_399 : BitVec 32 := 15#32
  let v503 : BitVec 1 := Scalar.cmpi .eq v2 c15_i32_399
  let c14_i32_397 : BitVec 32 := 14#32
  let v501 : BitVec 1 := Scalar.cmpi .eq v2 c14_i32_397
  let c13_i32_395 : BitVec 32 := 13#32
  let v499 : BitVec 1 := Scalar.cmpi .eq v2 c13_i32_395
  let c12_i32_393 : BitVec 32 := 12#32
  let v497 : BitVec 1 := Scalar.cmpi .eq v2 c12_i32_393
  let c11_i32_391 : BitVec 32 := 11#32
  let v495 : BitVec 1 := Scalar.cmpi .eq v2 c11_i32_391
  let c10_i32_389 : BitVec 32 := 10#32
  let v493 : BitVec 1 := Scalar.cmpi .eq v2 c10_i32_389
  let c9_i32_387 : BitVec 32 := 9#32
  let v491 : BitVec 1 := Scalar.cmpi .eq v2 c9_i32_387
  let c8_i32_385 : BitVec 32 := 8#32
  let v489 : BitVec 1 := Scalar.cmpi .eq v2 c8_i32_385
  let c7_i32_383 : BitVec 32 := 7#32
  let v487 : BitVec 1 := Scalar.cmpi .eq v2 c7_i32_383
  let c6_i32_381 : BitVec 32 := 6#32
  let v485 : BitVec 1 := Scalar.cmpi .eq v2 c6_i32_381
  let c5_i32_379 : BitVec 32 := 5#32
  let v483 : BitVec 1 := Scalar.cmpi .eq v2 c5_i32_379
  let c4_i32_377 : BitVec 32 := 4#32
  let v481 : BitVec 1 := Scalar.cmpi .eq v2 c4_i32_377
  let c3_i32_375 : BitVec 32 := 3#32
  let v479 : BitVec 1 := Scalar.cmpi .eq v2 c3_i32_375
  let c2_i32_373 : BitVec 32 := 2#32
  let v477 : BitVec 1 := Scalar.cmpi .eq v2 c2_i32_373
  let c1_i32_370 : BitVec 32 := 1#32
  let v475 : BitVec 1 := Scalar.cmpi .eq v2 c1_i32_370
  let v476 : BitVec 32 := Scalar.select v475 c0_i32_371 c4_i32_372
  let v478 : BitVec 32 := Scalar.select v477 c1_i32_374 v476
  let v480 : BitVec 32 := Scalar.select v479 c2_i32_376 v478
  let v482 : BitVec 32 := Scalar.select v481 c8_i32_378 v480
  let v484 : BitVec 32 := Scalar.select v483 c6_i32_380 v482
  let v486 : BitVec 32 := Scalar.select v485 c7_i32_382 v484
  let v488 : BitVec 32 := Scalar.select v487 c3_i32_384 v486
  let v490 : BitVec 32 := Scalar.select v489 c12_i32_386 v488
  let v492 : BitVec 32 := Scalar.select v491 c5_i32_388 v490
  let v494 : BitVec 32 := Scalar.select v493 c9_i32_390 v492
  let v496 : BitVec 32 := Scalar.select v495 c10_i32_392 v494
  let v498 : BitVec 32 := Scalar.select v497 c13_i32_394 v496
  let v500 : BitVec 32 := Scalar.select v499 c14_i32_396 v498
  let v502 : BitVec 32 := Scalar.select v501 c15_i32_398 v500
  let v504 : BitVec 32 := Scalar.select v503 c11_i32_400 v502
  let c4_i32_753 : BitVec 32 := 4#32
  let v878 : BitVec 32 := Scalar.muli v504 c4_i32_753
  let v879 : BitVec 32 := Scalar.addi v878 c0_i32_754
  let v894 : Index := Scalar.indexCast v879
  let c0_762 : Index := 0#32
  let c0_763 : Index := 0#32
  ![1, v894.toNat, 0, 0]
def k0_off16_at (r : Fin 60) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 :=
  if r.val < 30 then
    if r.val < 15 then
      if r.val < 7 then
        if r.val < 3 then
          if r.val < 1 then
            (11#32, 15#32, 14#32, 13#32, 10#32, 9#32, 5#32, 12#32, 3#32, 7#32, 6#32, 8#32, 2#32, 1#32, 0#32, 4#32, 0#32)
          else
            if r.val < 2 then
              (11#32, 15#32, 14#32, 13#32, 10#32, 9#32, 5#32, 12#32, 3#32, 7#32, 6#32, 8#32, 2#32, 1#32, 0#32, 4#32, 1#32)
            else
              (11#32, 15#32, 14#32, 13#32, 10#32, 9#32, 5#32, 12#32, 3#32, 7#32, 6#32, 8#32, 2#32, 1#32, 0#32, 4#32, 2#32)
        else
          if r.val < 5 then
            if r.val < 4 then
              (11#32, 15#32, 14#32, 13#32, 10#32, 9#32, 5#32, 12#32, 3#32, 7#32, 6#32, 8#32, 2#32, 1#32, 0#32, 4#32, 3#32)
            else
              (14#32, 13#32, 12#32, 8#32, 15#32, 11#32, 10#32, 4#32, 6#32, 5#32, 9#32, 0#32, 7#32, 3#32, 2#32, 1#32, 0#32)
          else
            if r.val < 6 then
              (14#32, 13#32, 12#32, 8#32, 15#32, 11#32, 10#32, 4#32, 6#32, 5#32, 9#32, 0#32, 7#32, 3#32, 2#32, 1#32, 1#32)
            else
              (14#32, 13#32, 12#32, 8#32, 15#32, 11#32, 10#32, 4#32, 6#32, 5#32, 9#32, 0#32, 7#32, 3#32, 2#32, 1#32, 2#32)
      else
        if r.val < 11 then
          if r.val < 9 then
            if r.val < 8 then
              (14#32, 13#32, 12#32, 8#32, 15#32, 11#32, 10#32, 4#32, 6#32, 5#32, 9#32, 0#32, 7#32, 3#32, 2#32, 1#32, 3#32)
            else
              (10#32, 11#32, 15#32, 14#32, 9#32, 5#32, 6#32, 13#32, 2#32, 3#32, 7#32, 12#32, 1#32, 0#32, 4#32, 8#32, 0#32)
          else
            if r.val < 10 then
              (10#32, 11#32, 15#32, 14#32, 9#32, 5#32, 6#32, 13#32, 2#32, 3#32, 7#32, 12#32, 1#32, 0#32, 4#32, 8#32, 1#32)
            else
              (10#32, 11#32, 15#32, 14#32, 9#32, 5#32, 6#32, 13#32, 2#32, 3#32, 7#32, 12#32, 1#32, 0#32, 4#32, 8#32, 2#32)
        else
          if r.val < 13 then
            if r.val < 12 then
              (10#32, 11#32, 15#32, 14#32, 9#32, 5#32, 6#32, 13#32, 2#32, 3#32, 7#32, 12#32, 1#32, 0#32, 4#32, 8#32, 3#32)
            else
              (13#32, 12#32, 8#32, 4#32, 14#32, 15#32, 11#32, 0#32, 5#32, 9#32, 10#32, 1#32, 6#32, 7#32, 3#32, 2#32, 0#32)
          else
            if r.val < 14 then
              (13#32, 12#32, 8#32, 4#32, 14#32, 15#32, 11#32, 0#32, 5#32, 9#32, 10#32, 1#32, 6#32, 7#32, 3#32, 2#32, 1#32)
            else
              (13#32, 12#32, 8#32, 4#32, 14#32, 15#32, 11#32, 0#32, 5#32, 9#32, 10#32, 1#32, 6#32, 7#32, 3#32, 2#32, 2#32)
    else
      if r.val < 22 then
        if r.val < 18 then
          if r.val < 16 then
            (13#32, 12#32, 8#32, 4#32, 14#32, 15#32, 11#32, 0#32, 5#32, 9#32, 10#32, 1#32, 6#32, 7#32, 3#32, 2#32, 3#32)
          else
            if r.val < 17 then
              (9#32, 10#32, 11#32, 15#32, 5#32, 6#32, 7#32, 14#32, 1#32, 2#32, 3#32, 13#32, 0#32, 4#32, 8#32, 12#32, 0#32)
            else
              (9#32, 10#32, 11#32, 15#32, 5#32, 6#32, 7#32, 14#32, 1#32, 2#32, 3#32, 13#32, 0#32, 4#32, 8#32, 12#32, 1#32)
        else
          if r.val < 20 then
            if r.val < 19 then
              (9#32, 10#32, 11#32, 15#32, 5#32, 6#32, 7#32, 14#32, 1#32, 2#32, 3#32, 13#32, 0#32, 4#32, 8#32, 12#32, 2#32)
            else
              (9#32, 10#32, 11#32, 15#32, 5#32, 6#32, 7#32, 14#32, 1#32, 2#32, 3#32, 13#32, 0#32, 4#32, 8#32, 12#32, 3#32)
          else
            if r.val < 21 then
              (12#32, 8#32, 4#32, 0#32, 13#32, 14#32, 15#32, 1#32, 9#32, 10#32, 11#32, 2#32, 5#32, 6#32, 7#32, 3#32, 0#32)
            else
              (12#32, 8#32, 4#32, 0#32, 13#32, 14#32, 15#32, 1#32, 9#32, 10#32, 11#32, 2#32, 5#32, 6#32, 7#32, 3#32, 1#32)
      else
        if r.val < 26 then
          if r.val < 24 then
            if r.val < 23 then
              (12#32, 8#32, 4#32, 0#32, 13#32, 14#32, 15#32, 1#32, 9#32, 10#32, 11#32, 2#32, 5#32, 6#32, 7#32, 3#32, 2#32)
            else
              (12#32, 8#32, 4#32, 0#32, 13#32, 14#32, 15#32, 1#32, 9#32, 10#32, 11#32, 2#32, 5#32, 6#32, 7#32, 3#32, 3#32)
          else
            if r.val < 25 then
              (5#32, 9#32, 10#32, 11#32, 6#32, 7#32, 3#32, 15#32, 0#32, 1#32, 2#32, 14#32, 4#32, 8#32, 12#32, 13#32, 0#32)
            else
              (5#32, 9#32, 10#32, 11#32, 6#32, 7#32, 3#32, 15#32, 0#32, 1#32, 2#32, 14#32, 4#32, 8#32, 12#32, 13#32, 1#32)
        else
          if r.val < 28 then
            if r.val < 27 then
              (5#32, 9#32, 10#32, 11#32, 6#32, 7#32, 3#32, 15#32, 0#32, 1#32, 2#32, 14#32, 4#32, 8#32, 12#32, 13#32, 2#32)
            else
              (5#32, 9#32, 10#32, 11#32, 6#32, 7#32, 3#32, 15#32, 0#32, 1#32, 2#32, 14#32, 4#32, 8#32, 12#32, 13#32, 3#32)
          else
            if r.val < 29 then
              (8#32, 4#32, 0#32, 1#32, 12#32, 13#32, 14#32, 2#32, 10#32, 11#32, 15#32, 3#32, 9#32, 5#32, 6#32, 7#32, 0#32)
            else
              (8#32, 4#32, 0#32, 1#32, 12#32, 13#32, 14#32, 2#32, 10#32, 11#32, 15#32, 3#32, 9#32, 5#32, 6#32, 7#32, 1#32)
  else
    if r.val < 45 then
      if r.val < 37 then
        if r.val < 33 then
          if r.val < 31 then
            (8#32, 4#32, 0#32, 1#32, 12#32, 13#32, 14#32, 2#32, 10#32, 11#32, 15#32, 3#32, 9#32, 5#32, 6#32, 7#32, 2#32)
          else
            if r.val < 32 then
              (8#32, 4#32, 0#32, 1#32, 12#32, 13#32, 14#32, 2#32, 10#32, 11#32, 15#32, 3#32, 9#32, 5#32, 6#32, 7#32, 3#32)
            else
              (6#32, 5#32, 9#32, 10#32, 7#32, 3#32, 2#32, 11#32, 4#32, 0#32, 1#32, 15#32, 8#32, 12#32, 13#32, 14#32, 0#32)
        else
          if r.val < 35 then
            if r.val < 34 then
              (6#32, 5#32, 9#32, 10#32, 7#32, 3#32, 2#32, 11#32, 4#32, 0#32, 1#32, 15#32, 8#32, 12#32, 13#32, 14#32, 1#32)
            else
              (6#32, 5#32, 9#32, 10#32, 7#32, 3#32, 2#32, 11#32, 4#32, 0#32, 1#32, 15#32, 8#32, 12#32, 13#32, 14#32, 2#32)
          else
            if r.val < 36 then
              (6#32, 5#32, 9#32, 10#32, 7#32, 3#32, 2#32, 11#32, 4#32, 0#32, 1#32, 15#32, 8#32, 12#32, 13#32, 14#32, 3#32)
            else
              (4#32, 0#32, 1#32, 2#32, 8#32, 12#32, 13#32, 3#32, 11#32, 15#32, 14#32, 7#32, 10#32, 9#32, 5#32, 6#32, 0#32)
      else
        if r.val < 41 then
          if r.val < 39 then
            if r.val < 38 then
              (4#32, 0#32, 1#32, 2#32, 8#32, 12#32, 13#32, 3#32, 11#32, 15#32, 14#32, 7#32, 10#32, 9#32, 5#32, 6#32, 1#32)
            else
              (4#32, 0#32, 1#32, 2#32, 8#32, 12#32, 13#32, 3#32, 11#32, 15#32, 14#32, 7#32, 10#32, 9#32, 5#32, 6#32, 2#32)
          else
            if r.val < 40 then
              (4#32, 0#32, 1#32, 2#32, 8#32, 12#32, 13#32, 3#32, 11#32, 15#32, 14#32, 7#32, 10#32, 9#32, 5#32, 6#32, 3#32)
            else
              (7#32, 6#32, 5#32, 9#32, 3#32, 2#32, 1#32, 10#32, 8#32, 4#32, 0#32, 11#32, 12#32, 13#32, 14#32, 15#32, 0#32)
        else
          if r.val < 43 then
            if r.val < 42 then
              (7#32, 6#32, 5#32, 9#32, 3#32, 2#32, 1#32, 10#32, 8#32, 4#32, 0#32, 11#32, 12#32, 13#32, 14#32, 15#32, 1#32)
            else
              (7#32, 6#32, 5#32, 9#32, 3#32, 2#32, 1#32, 10#32, 8#32, 4#32, 0#32, 11#32, 12#32, 13#32, 14#32, 15#32, 2#32)
          else
            if r.val < 44 then
              (7#32, 6#32, 5#32, 9#32, 3#32, 2#32, 1#32, 10#32, 8#32, 4#32, 0#32, 11#32, 12#32, 13#32, 14#32, 15#32, 3#32)
            else
              (0#32, 1#32, 2#32, 3#32, 4#32, 8#32, 12#32, 7#32, 15#32, 14#32, 13#32, 6#32, 11#32, 10#32, 9#32, 5#32, 0#32)
    else
      if r.val < 52 then
        if r.val < 48 then
          if r.val < 46 then
            (0#32, 1#32, 2#32, 3#32, 4#32, 8#32, 12#32, 7#32, 15#32, 14#32, 13#32, 6#32, 11#32, 10#32, 9#32, 5#32, 1#32)
          else
            if r.val < 47 then
              (0#32, 1#32, 2#32, 3#32, 4#32, 8#32, 12#32, 7#32, 15#32, 14#32, 13#32, 6#32, 11#32, 10#32, 9#32, 5#32, 2#32)
            else
              (0#32, 1#32, 2#32, 3#32, 4#32, 8#32, 12#32, 7#32, 15#32, 14#32, 13#32, 6#32, 11#32, 10#32, 9#32, 5#32, 3#32)
        else
          if r.val < 50 then
            if r.val < 49 then
              (3#32, 7#32, 6#32, 5#32, 2#32, 1#32, 0#32, 9#32, 12#32, 8#32, 4#32, 10#32, 13#32, 14#32, 15#32, 11#32, 0#32)
            else
              (3#32, 7#32, 6#32, 5#32, 2#32, 1#32, 0#32, 9#32, 12#32, 8#32, 4#32, 10#32, 13#32, 14#32, 15#32, 11#32, 1#32)
          else
            if r.val < 51 then
              (3#32, 7#32, 6#32, 5#32, 2#32, 1#32, 0#32, 9#32, 12#32, 8#32, 4#32, 10#32, 13#32, 14#32, 15#32, 11#32, 2#32)
            else
              (3#32, 7#32, 6#32, 5#32, 2#32, 1#32, 0#32, 9#32, 12#32, 8#32, 4#32, 10#32, 13#32, 14#32, 15#32, 11#32, 3#32)
      else
        if r.val < 56 then
          if r.val < 54 then
            if r.val < 53 then
              (1#32, 2#32, 3#32, 7#32, 0#32, 4#32, 8#32, 6#32, 14#32, 13#32, 12#32, 5#32, 15#32, 11#32, 10#32, 9#32, 0#32)
            else
              (1#32, 2#32, 3#32, 7#32, 0#32, 4#32, 8#32, 6#32, 14#32, 13#32, 12#32, 5#32, 15#32, 11#32, 10#32, 9#32, 1#32)
          else
            if r.val < 55 then
              (1#32, 2#32, 3#32, 7#32, 0#32, 4#32, 8#32, 6#32, 14#32, 13#32, 12#32, 5#32, 15#32, 11#32, 10#32, 9#32, 2#32)
            else
              (1#32, 2#32, 3#32, 7#32, 0#32, 4#32, 8#32, 6#32, 14#32, 13#32, 12#32, 5#32, 15#32, 11#32, 10#32, 9#32, 3#32)
        else
          if r.val < 58 then
            if r.val < 57 then
              (2#32, 3#32, 7#32, 6#32, 1#32, 0#32, 4#32, 5#32, 13#32, 12#32, 8#32, 9#32, 14#32, 15#32, 11#32, 10#32, 0#32)
            else
              (2#32, 3#32, 7#32, 6#32, 1#32, 0#32, 4#32, 5#32, 13#32, 12#32, 8#32, 9#32, 14#32, 15#32, 11#32, 10#32, 1#32)
          else
            if r.val < 59 then
              (2#32, 3#32, 7#32, 6#32, 1#32, 0#32, 4#32, 5#32, 13#32, 12#32, 8#32, 9#32, 14#32, 15#32, 11#32, 10#32, 2#32)
            else
              (2#32, 3#32, 7#32, 6#32, 1#32, 0#32, 4#32, 5#32, 13#32, 12#32, 8#32, 9#32, 14#32, 15#32, 11#32, 10#32, 3#32)
def k0_dev19 (d0 : Dev nD) : Nat :=
  let c0_i32_1033 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1032 : BitVec 32 := 1#32
  let v1264 : BitVec 32 := Scalar.muli v62 c1_i32_1032
  let v1265 : BitVec 32 := Scalar.addi c0_i32_1033 v1264
  v1265.toNat
def k0_dev20 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1041 : BitVec 32 := 1#32
  let v1273 : BitVec 32 := Scalar.muli v62 c1_i32_1041
  let v1274 : BitVec 32 := Scalar.addi c0_i32_1042 v1273
  v1274.toNat
def k0_dev21 (d0 : Dev nD) : Nat :=
  let c0_i32_1100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1099 : BitVec 32 := 1#32
  let v1326 : BitVec 32 := Scalar.muli v32 c1_i32_1099
  let v1327 : BitVec 32 := Scalar.addi c0_i32_1100 v1326
  v1327.toNat
def k0_dev22 (d0 : Dev nD) : Nat :=
  let c0_i32_1109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1108 : BitVec 32 := 1#32
  let v1335 : BitVec 32 := Scalar.muli v32 c1_i32_1108
  let v1336 : BitVec 32 := Scalar.addi c0_i32_1109 v1335
  v1336.toNat
def k0_dev23 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1166 : BitVec 32 := 1#32
  let v1388 : BitVec 32 := Scalar.muli v62 c1_i32_1166
  let v1389 : BitVec 32 := Scalar.addi c0_i32_1167 v1388
  v1389.toNat
def k0_dev24 (d0 : Dev nD) : Nat :=
  let c0_i32_1176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1175 : BitVec 32 := 1#32
  let v1397 : BitVec 32 := Scalar.muli v62 c1_i32_1175
  let v1398 : BitVec 32 := Scalar.addi c0_i32_1176 v1397
  v1398.toNat
def k0_dev25 (d0 : Dev nD) : Nat :=
  let c0_i32_1234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1233 : BitVec 32 := 1#32
  let v1450 : BitVec 32 := Scalar.muli v32 c1_i32_1233
  let v1451 : BitVec 32 := Scalar.addi c0_i32_1234 v1450
  v1451.toNat
def k0_dev26 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1242 : BitVec 32 := 1#32
  let v1459 : BitVec 32 := Scalar.muli v32 c1_i32_1242
  let v1460 : BitVec 32 := Scalar.addi c0_i32_1243 v1459
  v1460.toNat
def k0_dev27 (d0 : Dev nD) : Nat :=
  let c0_i32_1579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1578 : BitVec 32 := 1#32
  let v1948 : BitVec 32 := Scalar.muli v62 c1_i32_1578
  let v1949 : BitVec 32 := Scalar.addi c0_i32_1579 v1948
  v1949.toNat
def k0_dev28 (d0 : Dev nD) : Nat :=
  let c0_i32_1588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1587 : BitVec 32 := 1#32
  let v1957 : BitVec 32 := Scalar.muli v62 c1_i32_1587
  let v1958 : BitVec 32 := Scalar.addi c0_i32_1588 v1957
  v1958.toNat
def k0_dev29 (d0 : Dev nD) : Nat :=
  let c0_i32_1646 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1645 : BitVec 32 := 1#32
  let v2010 : BitVec 32 := Scalar.muli v32 c1_i32_1645
  let v2011 : BitVec 32 := Scalar.addi c0_i32_1646 v2010
  v2011.toNat
def k0_dev30 (d0 : Dev nD) : Nat :=
  let c0_i32_1655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1654 : BitVec 32 := 1#32
  let v2019 : BitVec 32 := Scalar.muli v32 c1_i32_1654
  let v2020 : BitVec 32 := Scalar.addi c0_i32_1655 v2019
  v2020.toNat
def k0_dev31 (d0 : Dev nD) : Nat :=
  let c0_i32_1713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1712 : BitVec 32 := 1#32
  let v2072 : BitVec 32 := Scalar.muli v62 c1_i32_1712
  let v2073 : BitVec 32 := Scalar.addi c0_i32_1713 v2072
  v2073.toNat
def k0_dev32 (d0 : Dev nD) : Nat :=
  let c0_i32_1722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_1721 : BitVec 32 := 1#32
  let v2081 : BitVec 32 := Scalar.muli v62 c1_i32_1721
  let v2082 : BitVec 32 := Scalar.addi c0_i32_1722 v2081
  v2082.toNat
def k0_dev33 (d0 : Dev nD) : Nat :=
  let c0_i32_1780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1779 : BitVec 32 := 1#32
  let v2134 : BitVec 32 := Scalar.muli v32 c1_i32_1779
  let v2135 : BitVec 32 := Scalar.addi c0_i32_1780 v2134
  v2135.toNat
def k0_dev34 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_1788 : BitVec 32 := 1#32
  let v2143 : BitVec 32 := Scalar.muli v32 c1_i32_1788
  let v2144 : BitVec 32 := Scalar.addi c0_i32_1789 v2143
  v2144.toNat
def k0_dev35 (d0 : Dev nD) : Nat :=
  let c0_i32_2125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2124 : BitVec 32 := 1#32
  let v2632 : BitVec 32 := Scalar.muli v62 c1_i32_2124
  let v2633 : BitVec 32 := Scalar.addi c0_i32_2125 v2632
  v2633.toNat
def k0_dev36 (d0 : Dev nD) : Nat :=
  let c0_i32_2134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2133 : BitVec 32 := 1#32
  let v2641 : BitVec 32 := Scalar.muli v62 c1_i32_2133
  let v2642 : BitVec 32 := Scalar.addi c0_i32_2134 v2641
  v2642.toNat
def k0_dev37 (d0 : Dev nD) : Nat :=
  let c0_i32_2192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2191 : BitVec 32 := 1#32
  let v2694 : BitVec 32 := Scalar.muli v32 c1_i32_2191
  let v2695 : BitVec 32 := Scalar.addi c0_i32_2192 v2694
  v2695.toNat
def k0_dev38 (d0 : Dev nD) : Nat :=
  let c0_i32_2201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2200 : BitVec 32 := 1#32
  let v2703 : BitVec 32 := Scalar.muli v32 c1_i32_2200
  let v2704 : BitVec 32 := Scalar.addi c0_i32_2201 v2703
  v2704.toNat
def k0_dev39 (d0 : Dev nD) : Nat :=
  let c0_i32_2259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2258 : BitVec 32 := 1#32
  let v2756 : BitVec 32 := Scalar.muli v62 c1_i32_2258
  let v2757 : BitVec 32 := Scalar.addi c0_i32_2259 v2756
  v2757.toNat
def k0_dev40 (d0 : Dev nD) : Nat :=
  let c0_i32_2268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2267 : BitVec 32 := 1#32
  let v2765 : BitVec 32 := Scalar.muli v62 c1_i32_2267
  let v2766 : BitVec 32 := Scalar.addi c0_i32_2268 v2765
  v2766.toNat
def k0_dev41 (d0 : Dev nD) : Nat :=
  let c0_i32_2326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2325 : BitVec 32 := 1#32
  let v2818 : BitVec 32 := Scalar.muli v32 c1_i32_2325
  let v2819 : BitVec 32 := Scalar.addi c0_i32_2326 v2818
  v2819.toNat
def k0_dev42 (d0 : Dev nD) : Nat :=
  let c0_i32_2335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2334 : BitVec 32 := 1#32
  let v2827 : BitVec 32 := Scalar.muli v32 c1_i32_2334
  let v2828 : BitVec 32 := Scalar.addi c0_i32_2335 v2827
  v2828.toNat
def k0_dev43 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2670 : BitVec 32 := 1#32
  let v3316 : BitVec 32 := Scalar.muli v62 c1_i32_2670
  let v3317 : BitVec 32 := Scalar.addi c0_i32_2671 v3316
  v3317.toNat
def k0_dev44 (d0 : Dev nD) : Nat :=
  let c0_i32_2680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2679 : BitVec 32 := 1#32
  let v3325 : BitVec 32 := Scalar.muli v62 c1_i32_2679
  let v3326 : BitVec 32 := Scalar.addi c0_i32_2680 v3325
  v3326.toNat
def k0_dev45 (d0 : Dev nD) : Nat :=
  let c0_i32_2738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2737 : BitVec 32 := 1#32
  let v3378 : BitVec 32 := Scalar.muli v32 c1_i32_2737
  let v3379 : BitVec 32 := Scalar.addi c0_i32_2738 v3378
  v3379.toNat
def k0_dev46 (d0 : Dev nD) : Nat :=
  let c0_i32_2747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2746 : BitVec 32 := 1#32
  let v3387 : BitVec 32 := Scalar.muli v32 c1_i32_2746
  let v3388 : BitVec 32 := Scalar.addi c0_i32_2747 v3387
  v3388.toNat
def k0_dev47 (d0 : Dev nD) : Nat :=
  let c0_i32_2805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2804 : BitVec 32 := 1#32
  let v3440 : BitVec 32 := Scalar.muli v62 c1_i32_2804
  let v3441 : BitVec 32 := Scalar.addi c0_i32_2805 v3440
  v3441.toNat
def k0_dev48 (d0 : Dev nD) : Nat :=
  let c0_i32_2814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_2813 : BitVec 32 := 1#32
  let v3449 : BitVec 32 := Scalar.muli v62 c1_i32_2813
  let v3450 : BitVec 32 := Scalar.addi c0_i32_2814 v3449
  v3450.toNat
def k0_dev49 (d0 : Dev nD) : Nat :=
  let c0_i32_2872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2871 : BitVec 32 := 1#32
  let v3502 : BitVec 32 := Scalar.muli v32 c1_i32_2871
  let v3503 : BitVec 32 := Scalar.addi c0_i32_2872 v3502
  v3503.toNat
def k0_dev50 (d0 : Dev nD) : Nat :=
  let c0_i32_2881 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_2880 : BitVec 32 := 1#32
  let v3511 : BitVec 32 := Scalar.muli v32 c1_i32_2880
  let v3512 : BitVec 32 := Scalar.addi c0_i32_2881 v3511
  v3512.toNat
def k0_dev51 (d0 : Dev nD) : Nat :=
  let c0_i32_3217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3216 : BitVec 32 := 1#32
  let v4000 : BitVec 32 := Scalar.muli v62 c1_i32_3216
  let v4001 : BitVec 32 := Scalar.addi c0_i32_3217 v4000
  v4001.toNat
def k0_dev52 (d0 : Dev nD) : Nat :=
  let c0_i32_3226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3225 : BitVec 32 := 1#32
  let v4009 : BitVec 32 := Scalar.muli v62 c1_i32_3225
  let v4010 : BitVec 32 := Scalar.addi c0_i32_3226 v4009
  v4010.toNat
def k0_dev53 (d0 : Dev nD) : Nat :=
  let c0_i32_3284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_3283 : BitVec 32 := 1#32
  let v4062 : BitVec 32 := Scalar.muli v32 c1_i32_3283
  let v4063 : BitVec 32 := Scalar.addi c0_i32_3284 v4062
  v4063.toNat
def k0_dev54 (d0 : Dev nD) : Nat :=
  let c0_i32_3293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_3292 : BitVec 32 := 1#32
  let v4071 : BitVec 32 := Scalar.muli v32 c1_i32_3292
  let v4072 : BitVec 32 := Scalar.addi c0_i32_3293 v4071
  v4072.toNat
def k0_dev55 (d0 : Dev nD) : Nat :=
  let c0_i32_3351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3350 : BitVec 32 := 1#32
  let v4124 : BitVec 32 := Scalar.muli v62 c1_i32_3350
  let v4125 : BitVec 32 := Scalar.addi c0_i32_3351 v4124
  v4125.toNat
def k0_dev56 (d0 : Dev nD) : Nat :=
  let c0_i32_3360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3359 : BitVec 32 := 1#32
  let v4133 : BitVec 32 := Scalar.muli v62 c1_i32_3359
  let v4134 : BitVec 32 := Scalar.addi c0_i32_3360 v4133
  v4134.toNat
def k0_dev57 (d0 : Dev nD) : Nat :=
  let c0_i32_3418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_3417 : BitVec 32 := 1#32
  let v4186 : BitVec 32 := Scalar.muli v32 c1_i32_3417
  let v4187 : BitVec 32 := Scalar.addi c0_i32_3418 v4186
  v4187.toNat
def k0_dev58 (d0 : Dev nD) : Nat :=
  let c0_i32_3427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c11_i32_15 : BitVec 32 := 11#32
  let c14_i32_13 : BitVec 32 := 14#32
  let v29 : BitVec 1 := Scalar.cmpi .eq v2 c14_i32_13
  let c15_i32 : BitVec 32 := 15#32
  let c13_i32_12 : BitVec 32 := 13#32
  let v27 : BitVec 1 := Scalar.cmpi .eq v2 c13_i32_12
  let c14_i32 : BitVec 32 := 14#32
  let c12_i32_11 : BitVec 32 := 12#32
  let v25 : BitVec 1 := Scalar.cmpi .eq v2 c12_i32_11
  let c13_i32 : BitVec 32 := 13#32
  let c11_i32 : BitVec 32 := 11#32
  let v23 : BitVec 1 := Scalar.cmpi .eq v2 c11_i32
  let c10_i32_10 : BitVec 32 := 10#32
  let c10_i32 : BitVec 32 := 10#32
  let v21 : BitVec 1 := Scalar.cmpi .eq v2 c10_i32
  let c9_i32_9 : BitVec 32 := 9#32
  let c9_i32 : BitVec 32 := 9#32
  let v19 : BitVec 1 := Scalar.cmpi .eq v2 c9_i32
  let c5_i32_8 : BitVec 32 := 5#32
  let c8_i32_7 : BitVec 32 := 8#32
  let v17 : BitVec 1 := Scalar.cmpi .eq v2 c8_i32_7
  let c12_i32 : BitVec 32 := 12#32
  let c7_i32_5 : BitVec 32 := 7#32
  let v15 : BitVec 1 := Scalar.cmpi .eq v2 c7_i32_5
  let c3_i32_6 : BitVec 32 := 3#32
  let c6_i32_4 : BitVec 32 := 6#32
  let v13 : BitVec 1 := Scalar.cmpi .eq v2 c6_i32_4
  let c7_i32 : BitVec 32 := 7#32
  let c5_i32 : BitVec 32 := 5#32
  let v11 : BitVec 1 := Scalar.cmpi .eq v2 c5_i32
  let c6_i32 : BitVec 32 := 6#32
  let c4_i32_3 : BitVec 32 := 4#32
  let v9 : BitVec 1 := Scalar.cmpi .eq v2 c4_i32_3
  let c8_i32 : BitVec 32 := 8#32
  let c3_i32 : BitVec 32 := 3#32
  let v7 : BitVec 1 := Scalar.cmpi .eq v2 c3_i32
  let c2_i32_2 : BitVec 32 := 2#32
  let c2_i32 : BitVec 32 := 2#32
  let v5 : BitVec 1 := Scalar.cmpi .eq v2 c2_i32
  let c1_i32_1 : BitVec 32 := 1#32
  let c1_i32_0 : BitVec 32 := 1#32
  let v3 : BitVec 1 := Scalar.cmpi .eq v2 c1_i32_0
  let c0_i32 : BitVec 32 := 0#32
  let c4_i32 : BitVec 32 := 4#32
  let v4 : BitVec 32 := Scalar.select v3 c0_i32 c4_i32
  let v6 : BitVec 32 := Scalar.select v5 c1_i32_1 v4
  let v8 : BitVec 32 := Scalar.select v7 c2_i32_2 v6
  let v10 : BitVec 32 := Scalar.select v9 c8_i32 v8
  let v12 : BitVec 32 := Scalar.select v11 c6_i32 v10
  let v14 : BitVec 32 := Scalar.select v13 c7_i32 v12
  let v16 : BitVec 32 := Scalar.select v15 c3_i32_6 v14
  let v18 : BitVec 32 := Scalar.select v17 c12_i32 v16
  let v20 : BitVec 32 := Scalar.select v19 c5_i32_8 v18
  let v22 : BitVec 32 := Scalar.select v21 c9_i32_9 v20
  let v24 : BitVec 32 := Scalar.select v23 c10_i32_10 v22
  let v26 : BitVec 32 := Scalar.select v25 c13_i32 v24
  let v28 : BitVec 32 := Scalar.select v27 c14_i32 v26
  let v30 : BitVec 32 := Scalar.select v29 c15_i32 v28
  let v32 : BitVec 32 := Scalar.select v31 c11_i32_15 v30
  let c1_i32_3426 : BitVec 32 := 1#32
  let v4195 : BitVec 32 := Scalar.muli v32 c1_i32_3426
  let v4196 : BitVec 32 := Scalar.addi c0_i32_3427 v4195
  v4196.toNat
def k0_dev59 (d0 : Dev nD) : Nat :=
  let c0_i32_3763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3762 : BitVec 32 := 1#32
  let v4684 : BitVec 32 := Scalar.muli v62 c1_i32_3762
  let v4685 : BitVec 32 := Scalar.addi c0_i32_3763 v4684
  v4685.toNat
def k0_dev60 (d0 : Dev nD) : Nat :=
  let c0_i32_3772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3771 : BitVec 32 := 1#32
  let v4693 : BitVec 32 := Scalar.muli v62 c1_i32_3771
  let v4694 : BitVec 32 := Scalar.addi c0_i32_3772 v4693
  v4694.toNat
def k0_dev61 (d0 : Dev nD) : Nat :=
  let c0_i32_3848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3847 : BitVec 32 := 1#32
  let v4760 : BitVec 32 := Scalar.muli v62 c1_i32_3847
  let v4761 : BitVec 32 := Scalar.addi c0_i32_3848 v4760
  v4761.toNat
def k0_dev62 (d0 : Dev nD) : Nat :=
  let c0_i32_3857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_45 : BitVec 32 := 15#32
  let v61 : BitVec 1 := Scalar.cmpi .eq v2 c15_i32_45
  let c14_i32_46 : BitVec 32 := 14#32
  let c14_i32_43 : BitVec 32 := 14#32
  let v59 : BitVec 1 := Scalar.cmpi .eq v2 c14_i32_43
  let c13_i32_44 : BitVec 32 := 13#32
  let c13_i32_41 : BitVec 32 := 13#32
  let v57 : BitVec 1 := Scalar.cmpi .eq v2 c13_i32_41
  let c12_i32_42 : BitVec 32 := 12#32
  let c12_i32_39 : BitVec 32 := 12#32
  let v55 : BitVec 1 := Scalar.cmpi .eq v2 c12_i32_39
  let c8_i32_40 : BitVec 32 := 8#32
  let c11_i32_37 : BitVec 32 := 11#32
  let v53 : BitVec 1 := Scalar.cmpi .eq v2 c11_i32_37
  let c15_i32_38 : BitVec 32 := 15#32
  let c10_i32_35 : BitVec 32 := 10#32
  let v51 : BitVec 1 := Scalar.cmpi .eq v2 c10_i32_35
  let c11_i32_36 : BitVec 32 := 11#32
  let c9_i32_33 : BitVec 32 := 9#32
  let v49 : BitVec 1 := Scalar.cmpi .eq v2 c9_i32_33
  let c10_i32_34 : BitVec 32 := 10#32
  let c8_i32_31 : BitVec 32 := 8#32
  let v47 : BitVec 1 := Scalar.cmpi .eq v2 c8_i32_31
  let c4_i32_32 : BitVec 32 := 4#32
  let c7_i32_29 : BitVec 32 := 7#32
  let v45 : BitVec 1 := Scalar.cmpi .eq v2 c7_i32_29
  let c6_i32_30 : BitVec 32 := 6#32
  let c6_i32_27 : BitVec 32 := 6#32
  let v43 : BitVec 1 := Scalar.cmpi .eq v2 c6_i32_27
  let c5_i32_28 : BitVec 32 := 5#32
  let c5_i32_25 : BitVec 32 := 5#32
  let v41 : BitVec 1 := Scalar.cmpi .eq v2 c5_i32_25
  let c9_i32_26 : BitVec 32 := 9#32
  let c4_i32_23 : BitVec 32 := 4#32
  let v39 : BitVec 1 := Scalar.cmpi .eq v2 c4_i32_23
  let c0_i32_24 : BitVec 32 := 0#32
  let c3_i32_21 : BitVec 32 := 3#32
  let v37 : BitVec 1 := Scalar.cmpi .eq v2 c3_i32_21
  let c7_i32_22 : BitVec 32 := 7#32
  let c2_i32_19 : BitVec 32 := 2#32
  let v35 : BitVec 1 := Scalar.cmpi .eq v2 c2_i32_19
  let c3_i32_20 : BitVec 32 := 3#32
  let c1_i32_16 : BitVec 32 := 1#32
  let v33 : BitVec 1 := Scalar.cmpi .eq v2 c1_i32_16
  let c2_i32_17 : BitVec 32 := 2#32
  let c1_i32_18 : BitVec 32 := 1#32
  let v34 : BitVec 32 := Scalar.select v33 c2_i32_17 c1_i32_18
  let v36 : BitVec 32 := Scalar.select v35 c3_i32_20 v34
  let v38 : BitVec 32 := Scalar.select v37 c7_i32_22 v36
  let v40 : BitVec 32 := Scalar.select v39 c0_i32_24 v38
  let v42 : BitVec 32 := Scalar.select v41 c9_i32_26 v40
  let v44 : BitVec 32 := Scalar.select v43 c5_i32_28 v42
  let v46 : BitVec 32 := Scalar.select v45 c6_i32_30 v44
  let v48 : BitVec 32 := Scalar.select v47 c4_i32_32 v46
  let v50 : BitVec 32 := Scalar.select v49 c10_i32_34 v48
  let v52 : BitVec 32 := Scalar.select v51 c11_i32_36 v50
  let v54 : BitVec 32 := Scalar.select v53 c15_i32_38 v52
  let v56 : BitVec 32 := Scalar.select v55 c8_i32_40 v54
  let v58 : BitVec 32 := Scalar.select v57 c12_i32_42 v56
  let v60 : BitVec 32 := Scalar.select v59 c13_i32_44 v58
  let v62 : BitVec 32 := Scalar.select v61 c14_i32_46 v60
  let c1_i32_3856 : BitVec 32 := 1#32
  let v4769 : BitVec 32 := Scalar.muli v62 c1_i32_3856
  let v4770 : BitVec 32 := Scalar.addi c0_i32_3857 v4769
  v4770.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64x64x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S32x256x4096 : Shape := ⟨3, ![32, 256, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 57
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S512x4096, .f32⟩
  | .hbm, ⟨2, _⟩ => ⟨S32x256x64x64, .f32⟩
  | .hbm, ⟨3, _⟩ => ⟨S32x256x64x64, .f32⟩
  | .hbm, ⟨4, _⟩ => ⟨S4096x512, .f32⟩
  | .hbm, ⟨5, _⟩ => ⟨S32x256x4096, .f32⟩
  | .hbm, ⟨6, _⟩ => ⟨S32x256x64x64, .f32⟩
  | .hbm, ⟨7, _⟩ => ⟨S256, .i32⟩
  | .hbm, ⟨8, _⟩ => ⟨S256x1, .i32⟩
  | .hbm, ⟨9, _⟩ => ⟨S256, .i32⟩
  | .hbm, ⟨10, _⟩ => ⟨S1x256, .i32⟩
  | .hbm, ⟨11, _⟩ => ⟨S256x256, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i1⟩
  | .hbm, ⟨18, _⟩ => ⟨S32x64x256x256, .f32⟩
  | .hbm, ⟨19, _⟩ => ⟨S_, .f32⟩
  | .hbm, ⟨20, _⟩ => ⟨S32x64x256x256, .f32⟩
  | .hbm, ⟨21, _⟩ => ⟨S32x64x256x256, .f32⟩
  | .hbm, ⟨22, _⟩ => ⟨S1x1x256x256, .i1⟩
  | .hbm, ⟨23, _⟩ => ⟨S_, .f32⟩
  | .hbm, ⟨24, _⟩ => ⟨S_, .f32⟩
  | .hbm, ⟨25, _⟩ => ⟨S32x64x256x256, .i1⟩
  | .hbm, ⟨26, _⟩ => ⟨S32x64x256x256, .f32⟩
  | .hbm, ⟨27, _⟩ => ⟨S32x64x256x256, .f32⟩
  | .hbm, ⟨28, _⟩ => ⟨S_, .f32⟩
  | .hbm, ⟨29, _⟩ => ⟨S32x64x256, .f32⟩
  | .hbm, ⟨30, _⟩ => ⟨S32x64x256x1, .f32⟩
  | .hbm, ⟨31, _⟩ => ⟨S32x64x256x256, .f32⟩
  | .hbm, ⟨32, _⟩ => ⟨S32x64x256x256, .f32⟩
  | .hbm, ⟨33, _⟩ => ⟨S32x64x256x256, .f32⟩
  | .hbm, ⟨34, _⟩ => ⟨S_, .i1⟩
  | .hbm, ⟨35, _⟩ => ⟨S256, .i1⟩
  | .hbm, ⟨36, _⟩ => ⟨S1x1x256x1, .i1⟩
  | .hbm, ⟨37, _⟩ => ⟨S_, .f32⟩
  | .hbm, ⟨38, _⟩ => ⟨S32x64x256, .f32⟩
  | .hbm, ⟨39, _⟩ => ⟨S32x64x256x1, .f32⟩
  | .hbm, ⟨40, _⟩ => ⟨S_, .f32⟩
  | .hbm, ⟨41, _⟩ => ⟨S_, .f32⟩
  | .hbm, ⟨42, _⟩ => ⟨S32x64x256x1, .i1⟩
  | .hbm, ⟨43, _⟩ => ⟨S32x64x256x1, .f32⟩
  | .hbm, ⟨44, _⟩ => ⟨S32x64x256x1, .f32⟩
  | .hbm, ⟨45, _⟩ => ⟨S32x64x256x256, .f32⟩
  | .hbm, ⟨46, _⟩ => ⟨S32x64x256x256, .f32⟩
  | .hbm, ⟨47, _⟩ => ⟨S1x1x256x1, .i1⟩
  | .hbm, ⟨48, _⟩ => ⟨S_, .f32⟩
  | .hbm, ⟨49, _⟩ => ⟨S_, .f32⟩
  | .hbm, ⟨50, _⟩ => ⟨S32x64x256x256, .i1⟩
  | .hbm, ⟨51, _⟩ => ⟨S32x64x256x256, .f32⟩
  | .hbm, ⟨52, _⟩ => ⟨S32x64x256x256, .f32⟩
  | .hbm, ⟨53, _⟩ => ⟨S32x64x64x256, .f32⟩
  | .hbm, ⟨54, _⟩ => ⟨S32x256x64x64, .f32⟩
  | .hbm, ⟨55, _⟩ => ⟨S32x256x4096, .f32⟩
  | .hbm, ⟨56, _⟩ => ⟨S32x256x512, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Body.lean ====
/-
  The kernel's body, restated: the same operations, named by the ROUND they belong to.

  A device deals with the sixteen column blocks of `Wq` (and the sixteen row blocks of `Wo`) in the order r = 0 … 15: r = 0 is its own, r odd comes over
  its left neighbour and r even over its right neighbour. The transfer that makes block r arrive at the neighbour is number i = r - 1 (`Fin 15`), in two
  halves `s`, each of one piece of `Wq` and one of `Wo`.
-/
module

public import proofs.«01_k».proof.Proof.Gen.KernelIdeal
public import proofs.«01_k».proof.Proof.Gen.KernelIdeal.Points
public import Idealize.ShloMosaic.Lib.Pipeline.Regions

@[expose] public section

set_option synthInstance.maxSize 4096

noncomputable section

namespace Cert.Ring

open Cert.KernelIdeal Cert.KernelIdeal.Gen
open Idealize.ShloMosaic Idealize.ShloMosaic.TcCoe
open Idealize.SL Idealize.SL.Sem

variable {F : FTy → Type} [FloatOps F]

/-- The kernel's programs. -/
abbrev KProg (F : FTy → Type) [FloatOps F] (α : Type) := Prog (TpuEff nD τ sig (Elt F) Λ₀ .tc) α

/-! ## The buffers -/

abbrev xM : Memref sig .tc .vmem S2x256x512 .bf16 := Memref.whole cc0_stg0_0
abbrev aM : Memref sig .tc .vmem S512x256 .bf16 := Memref.whole cc0_stg1_0
abbrev bM : Memref sig .tc .vmem S256x512 .bf16 := Memref.whole cc0_stg2_0
abbrev kM : Memref sig .tc .vmem S2x64x64x256 .bf16 := Memref.whole cc0_stg3_0
abbrev vM : Memref sig .tc .vmem S2x64x256x64 .bf16 := Memref.whole cc0_stg4_0
abbrev yM : Memref sig .tc .vmem S2x256x512 .f32 := Memref.whole cc0_stg5_0
/-- Where the whole of `Wq` and of `Wo` is gathered. -/
abbrev wM : Memref sig .tc .vmem S512x4096 .bf16 := Memref.whole cc0_scratch0
abbrev oM : Memref sig .tc .vmem S4096x512 .bf16 := Memref.whole cc0_scratch1

/-! ## The printed offsets, by the round -/

def t3 (d : Dev nD) (r : Fin 16) : Fin 2 → ℕ :=
  k0_off3 d (k0_off3_at r).1 (k0_off3_at r).2.1 (k0_off3_at r).2.2.1 (k0_off3_at r).2.2.2.1 (k0_off3_at r).2.2.2.2.1 (k0_off3_at r).2.2.2.2.2.1 (k0_off3_at r).2.2.2.2.2.2.1 (k0_off3_at r).2.2.2.2.2.2.2.1 (k0_off3_at r).2.2.2.2.2.2.2.2.1 (k0_off3_at r).2.2.2.2.2.2.2.2.2.1 (k0_off3_at r).2.2.2.2.2.2.2.2.2.2.1 (k0_off3_at r).2.2.2.2.2.2.2.2.2.2.2.1 (k0_off3_at r).2.2.2.2.2.2.2.2.2.2.2.2.1 (k0_off3_at r).2.2.2.2.2.2.2.2.2.2.2.2.2.1 (k0_off3_at r).2.2.2.2.2.2.2.2.2.2.2.2.2.2.1 (k0_off3_at r).2.2.2.2.2.2.2.2.2.2.2.2.2.2.2
def t4 (d : Dev nD) (r : Fin 16) : Fin 2 → ℕ :=
  k0_off4 d (k0_off4_at r).1 (k0_off4_at r).2.1 (k0_off4_at r).2.2.1 (k0_off4_at r).2.2.2.1 (k0_off4_at r).2.2.2.2.1 (k0_off4_at r).2.2.2.2.2.1 (k0_off4_at r).2.2.2.2.2.2.1 (k0_off4_at r).2.2.2.2.2.2.2.1 (k0_off4_at r).2.2.2.2.2.2.2.2.1 (k0_off4_at r).2.2.2.2.2.2.2.2.2.1 (k0_off4_at r).2.2.2.2.2.2.2.2.2.2.1 (k0_off4_at r).2.2.2.2.2.2.2.2.2.2.2.1 (k0_off4_at r).2.2.2.2.2.2.2.2.2.2.2.2.1 (k0_off4_at r).2.2.2.2.2.2.2.2.2.2.2.2.2.1 (k0_off4_at r).2.2.2.2.2.2.2.2.2.2.2.2.2.2.1 (k0_off4_at r).2.2.2.2.2.2.2.2.2.2.2.2.2.2.2
def t5 (d : Dev nD) (r : Fin 16) : Fin 2 → ℕ :=
  k0_off5 d (k0_off5_at r).1 (k0_off5_at r).2.1 (k0_off5_at r).2.2.1 (k0_off5_at r).2.2.2.1 (k0_off5_at r).2.2.2.2.1 (k0_off5_at r).2.2.2.2.2.1 (k0_off5_at r).2.2.2.2.2.2.1 (k0_off5_at r).2.2.2.2.2.2.2.1 (k0_off5_at r).2.2.2.2.2.2.2.2.1 (k0_off5_at r).2.2.2.2.2.2.2.2.2.1 (k0_off5_at r).2.2.2.2.2.2.2.2.2.2.1 (k0_off5_at r).2.2.2.2.2.2.2.2.2.2.2.1 (k0_off5_at r).2.2.2.2.2.2.2.2.2.2.2.2.1 (k0_off5_at r).2.2.2.2.2.2.2.2.2.2.2.2.2.1 (k0_off5_at r).2.2.2.2.2.2.2.2.2.2.2.2.2.2.1 (k0_off5_at r).2.2.2.2.2.2.2.2.2.2.2.2.2.2.2
def t6 (d : Dev nD) (r : Fin 16) : Fin 2 → ℕ :=
  k0_off6 d (k0_off6_at r).1 (k0_off6_at r).2.1 (k0_off6_at r).2.2.1 (k0_off6_at r).2.2.2.1 (k0_off6_at r).2.2.2.2.1 (k0_off6_at r).2.2.2.2.2.1 (k0_off6_at r).2.2.2.2.2.2.1 (k0_off6_at r).2.2.2.2.2.2.2.1 (k0_off6_at r).2.2.2.2.2.2.2.2.1 (k0_off6_at r).2.2.2.2.2.2.2.2.2.1 (k0_off6_at r).2.2.2.2.2.2.2.2.2.2.1 (k0_off6_at r).2.2.2.2.2.2.2.2.2.2.2.1 (k0_off6_at r).2.2.2.2.2.2.2.2.2.2.2.2.1 (k0_off6_at r).2.2.2.2.2.2.2.2.2.2.2.2.2.1 (k0_off6_at r).2.2.2.2.2.2.2.2.2.2.2.2.2.2.1 (k0_off6_at r).2.2.2.2.2.2.2.2.2.2.2.2.2.2.2
def t11 (d : Dev nD) (r : Fin 15) : Fin 2 → ℕ :=
  k0_off11 d (k0_off11_at r).1 (k0_off11_at r).2.1 (k0_off11_at r).2.2.1 (k0_off11_at r).2.2.2.1 (k0_off11_at r).2.2.2.2.1 (k0_off11_at r).2.2.2.2.2.1 (k0_off11_at r).2.2.2.2.2.2.1 (k0_off11_at r).2.2.2.2.2.2.2.1 (k0_off11_at r).2.2.2.2.2.2.2.2.1 (k0_off11_at r).2.2.2.2.2.2.2.2.2.1 (k0_off11_at r).2.2.2.2.2.2.2.2.2.2.1 (k0_off11_at r).2.2.2.2.2.2.2.2.2.2.2.1 (k0_off11_at r).2.2.2.2.2.2.2.2.2.2.2.2.1 (k0_off11_at r).2.2.2.2.2.2.2.2.2.2.2.2.2.1 (k0_off11_at r).2.2.2.2.2.2.2.2.2.2.2.2.2.2.1 (k0_off11_at r).2.2.2.2.2.2.2.2.2.2.2.2.2.2.2
def t12 (d : Dev nD) (r : Fin 15) : Fin 2 → ℕ :=
  k0_off12 d (k0_off12_at r).1 (k0_off12_at r).2.1 (k0_off12_at r).2.2.1 (k0_off12_at r).2.2.2.1 (k0_off12_at r).2.2.2.2.1 (k0_off12_at r).2.2.2.2.2.1 (k0_off12_at r).2.2.2.2.2.2.1 (k0_off12_at r).2.2.2.2.2.2.2.1 (k0_off12_at r).2.2.2.2.2.2.2.2.1 (k0_off12_at r).2.2.2.2.2.2.2.2.2.1 (k0_off12_at r).2.2.2.2.2.2.2.2.2.2.1 (k0_off12_at r).2.2.2.2.2.2.2.2.2.2.2.1 (k0_off12_at r).2.2.2.2.2.2.2.2.2.2.2.2.1 (k0_off12_at r).2.2.2.2.2.2.2.2.2.2.2.2.2.1 (k0_off12_at r).2.2.2.2.2.2.2.2.2.2.2.2.2.2.1 (k0_off12_at r).2.2.2.2.2.2.2.2.2.2.2.2.2.2.2
def t13 (d : Dev nD) (r : Fin 60) : Fin 4 → ℕ :=
  k0_off13 d (k0_off13_at r).1 (k0_off13_at r).2.1 (k0_off13_at r).2.2.1 (k0_off13_at r).2.2.2.1 (k0_off13_at r).2.2.2.2.1 (k0_off13_at r).2.2.2.2.2.1 (k0_off13_at r).2.2.2.2.2.2.1 (k0_off13_at r).2.2.2.2.2.2.2.1 (k0_off13_at r).2.2.2.2.2.2.2.2.1 (k0_off13_at r).2.2.2.2.2.2.2.2.2.1 (k0_off13_at r).2.2.2.2.2.2.2.2.2.2.1 (k0_off13_at r).2.2.2.2.2.2.2.2.2.2.2.1 (k0_off13_at r).2.2.2.2.2.2.2.2.2.2.2.2.1 (k0_off13_at r).2.2.2.2.2.2.2.2.2.2.2.2.2.1 (k0_off13_at r).2.2.2.2.2.2.2.2.2.2.2.2.2.2.1 (k0_off13_at r).2.2.2.2.2.2.2.2.2.2.2.2.2.2.2.1 (k0_off13_at r).2.2.2.2.2.2.2.2.2.2.2.2.2.2.2.2
def t14 (d : Dev nD) (r : Fin 60) : Fin 4 → ℕ :=
  k0_off14 d (k0_off14_at r).1 (k0_off14_at r).2.1 (k0_off14_at r).2.2.1 (k0_off14_at r).2.2.2.1 (k0_off14_at r).2.2.2.2.1 (k0_off14_at r).2.2.2.2.2.1 (k0_off14_at r).2.2.2.2.2.2.1 (k0_off14_at r).2.2.2.2.2.2.2.1 (k0_off14_at r).2.2.2.2.2.2.2.2.1 (k0_off14_at r).2.2.2.2.2.2.2.2.2.1 (k0_off14_at r).2.2.2.2.2.2.2.2.2.2.1 (k0_off14_at r).2.2.2.2.2.2.2.2.2.2.2.1 (k0_off14_at r).2.2.2.2.2.2.2.2.2.2.2.2.1 (k0_off14_at r).2.2.2.2.2.2.2.2.2.2.2.2.2.1 (k0_off14_at r).2.2.2.2.2.2.2.2.2.2.2.2.2.2.1 (k0_off14_at r).2.2.2.2.2.2.2.2.2.2.2.2.2.2.2.1 (k0_off14_at r).2.2.2.2.2.2.2.2.2.2.2.2.2.2.2.2
def t15 (d : Dev nD) (r : Fin 60) : Fin 4 → ℕ :=
  k0_off15 d (k0_off15_at r).1 (k0_off15_at r).2.1 (k0_off15_at r).2.2.1 (k0_off15_at r).2.2.2.1 (k0_off15_at r).2.2.2.2.1 (k0_off15_at r).2.2.2.2.2.1 (k0_off15_at r).2.2.2.2.2.2.1 (k0_off15_at r).2.2.2.2.2.2.2.1 (k0_off15_at r).2.2.2.2.2.2.2.2.1 (k0_off15_at r).2.2.2.2.2.2.2.2.2.1 (k0_off15_at r).2.2.2.2.2.2.2.2.2.2.1 (k0_off15_at r).2.2.2.2.2.2.2.2.2.2.2.1 (k0_off15_at r).2.2.2.2.2.2.2.2.2.2.2.2.1 (k0_off15_at r).2.2.2.2.2.2.2.2.2.2.2.2.2.1 (k0_off15_at r).2.2.2.2.2.2.2.2.2.2.2.2.2.2.1 (k0_off15_at r).2.2.2.2.2.2.2.2.2.2.2.2.2.2.2.1 (k0_off15_at r).2.2.2.2.2.2.2.2.2.2.2.2.2.2.2.2
def t16 (d : Dev nD) (r : Fin 60) : Fin 4 → ℕ :=
  k0_off16 d (k0_off16_at r).1 (k0_off16_at r).2.1 (k0_off16_at r).2.2.1 (k0_off16_at r).2.2.2.1 (k0_off16_at r).2.2.2.2.1 (k0_off16_at r).2.2.2.2.2.1 (k0_off16_at r).2.2.2.2.2.2.1 (k0_off16_at r).2.2.2.2.2.2.2.1 (k0_off16_at r).2.2.2.2.2.2.2.2.1 (k0_off16_at r).2.2.2.2.2.2.2.2.2.1 (k0_off16_at r).2.2.2.2.2.2.2.2.2.2.1 (k0_off16_at r).2.2.2.2.2.2.2.2.2.2.2.1 (k0_off16_at r).2.2.2.2.2.2.2.2.2.2.2.2.1 (k0_off16_at r).2.2.2.2.2.2.2.2.2.2.2.2.2.1 (k0_off16_at r).2.2.2.2.2.2.2.2.2.2.2.2.2.2.1 (k0_off16_at r).2.2.2.2.2.2.2.2.2.2.2.2.2.2.2.1 (k0_off16_at r).2.2.2.2.2.2.2.2.2.2.2.2.2.2.2.2

/-- The piece of `Wq` (of `Wo`) of round `r` and half `s`. -/
def pW (s : Bool) (d : Dev nD) (r : Fin 16) : Fin 2 → ℕ := match s with | false => t3 d r | true => t5 d r
def pO (s : Bool) (d : Dev nD) (r : Fin 16) : Fin 2 → ℕ := match s with | false => t4 d r | true => t6 d r

theorem pW_inb (s : Bool) (d : Dev nD) (r : Fin 16) : ∀ a, pW s d r a + S256x256.size a ≤ S512x4096.size a := by
  cases s
  · exact k0_off3_inb d r
  · exact k0_off5_inb d r
theorem pO_inb (s : Bool) (d : Dev nD) (r : Fin 16) : ∀ a, pO s d r a + S256x256.size a ≤ S4096x512.size a := by
  cases s
  · exact k0_off4_inb d r
  · exact k0_off6_inb d r
theorem pW_words (s : Bool) (d : Dev nD) (r : Fin 16) : (Rect.unit (s := S512x4096) (pW s d r) S256x256.size (pW_inb s d r)).WholeWords (EltTy.packing .bf16) := by
  cases s
  · exact k0_off3_wordsbf16 d r
  · exact k0_off5_wordsbf16 d r
theorem pO_words (s : Bool) (d : Dev nD) (r : Fin 16) : (Rect.unit (s := S4096x512) (pO s d r) S256x256.size (pO_inb s d r)).WholeWords (EltTy.packing .bf16) := by
  cases s
  · exact k0_off4_wordsbf16 d r
  · exact k0_off6_wordsbf16 d r

/-! ## The semaphores -/

/-- The numbers of the sender's semaphore and of the receiver's, of transfer `i`, half `s`, of `Wq` (`a = false`) or `Wo`. -/
def sndN (a : Bool) (i : Fin 15) (s : Bool) : ℕ :=
  (if i.val % 2 = 0 then cond a 38 6 else cond a 97 69) + i.val + s.toNat
def rcvN (a : Bool) (i : Fin 15) (s : Bool) : ℕ :=
  (if i.val % 2 = 0 then cond a 54 22 else cond a 111 83) + i.val + s.toNat
theorem sndN_lt : ∀ (a : Bool) (i : Fin 15) (s : Bool), sndN a i s < 126 := by decide
theorem rcvN_lt : ∀ (a : Bool) (i : Fin 15) (s : Bool), rcvN a i s < 126 := by decide
def sndS (a : Bool) (i : Fin 15) (s : Bool) : DmaSem sig := ⟨sndN a i s, sndN_lt a i s⟩
def rcvS (a : Bool) (i : Fin 15) (s : Bool) : DmaSem sig := ⟨rcvN a i s, rcvN_lt a i s⟩

/-- The barrier's semaphore. -/
abbrev barS : Sem sig := (SemArray.scalar (sig.barrier 0 rfl) : Sems sig S_).sem

/-! ## The pieces of the body -/

/-- The round whose block transfer `i` carries. -/
def pre (i : Fin 15) : Fin 16 := ⟨i.val - 1, by omega⟩
def rnd (i : Fin 15) : Fin 16 := ⟨i.val + 1, by omega⟩

abbrev pcW (s : Bool) (d : Dev nD) (r : Fin 16) : Memref sig .tc .vmem S256x256 .bf16 :=
  wM.slice (Rect.unit (s := S512x4096) (pW s d r) S256x256.size (pW_inb s d r)) (fun _ => rfl)
abbrev pcO (s : Bool) (d : Dev nD) (r : Fin 16) : Memref sig .tc .vmem S256x256 .bf16 :=
  oM.slice (Rect.unit (s := S4096x512) (pO s d r) S256x256.size (pO_inb s d r)) (fun _ => rfl)

/-- The device transfer `i` goes to: the right neighbour for an even `i`, the left for an odd. -/
def dstD (i : Fin 15) (d : Dev nD) : Dev nD := if i.val % 2 = 0 then ⟨k0_dev3 d, k0_dev3_lt d⟩ else ⟨k0_dev5 d, k0_dev5_lt d⟩

def sendW (d : Dev nD) (i : Fin 15) (s : Bool) : KProg F PUnit :=
  Prog.lift (.enqueueDma (pcW s d (pre i)) (.remote (Dev.tc (dstD i d)) (pcW s d (pre i)) (.dma (sndS false i s))) (.dma (rcvS false i s))
    ((Memref.isWhole_whole cc0_scratch0).wordExact_slice rfl _ (pW_words s d (pre i))) ((Memref.isWhole_whole cc0_scratch0).wordExact_slice rfl _ (pW_words s d (pre i)))
    ⟨⟨rfl, Or.inl rfl⟩, trivial⟩)
def sendO (d : Dev nD) (i : Fin 15) (s : Bool) : KProg F PUnit :=
  Prog.lift (.enqueueDma (pcO s d (pre i)) (.remote (Dev.tc (dstD i d)) (pcO s d (pre i)) (.dma (sndS true i s))) (.dma (rcvS true i s))
    ((Memref.isWhole_whole cc0_scratch1).wordExact_slice rfl _ (pO_words s d (pre i))) ((Memref.isWhole_whole cc0_scratch1).wordExact_slice rfl _ (pO_words s d (pre i)))
    ⟨⟨rfl, Or.inl rfl⟩, trivial⟩)
/-- Both pieces of half `s` leave. -/
def send (d : Dev nD) (i : Fin 15) (s : Bool) : KProg F PUnit := do
  sendW d i s
  sendO d i s

def waitW (d : Dev nD) (sm : DmaSem sig) (s : Bool) (r : Fin 16) : KProg F PUnit :=
  Prog.lift (.waitDma2 sm (pcW s d r) (pcW s d r)
    ((Memref.isWhole_whole cc0_scratch0).wordExact_slice rfl _ (pW_words s d r)) ((Memref.isWhole_whole cc0_scratch0).wordExact_slice rfl _ (pW_words s d r)))
def waitO (d : Dev nD) (sm : DmaSem sig) (s : Bool) (r : Fin 16) : KProg F PUnit :=
  Prog.lift (.waitDma2 sm (pcO s d r) (pcO s d r)
    ((Memref.isWhole_whole cc0_scratch1).wordExact_slice rfl _ (pO_words s d r)) ((Memref.isWhole_whole cc0_scratch1).wordExact_slice rfl _ (pO_words s d r)))

/-- Both pieces of half `s` of transfer `i` have arrived. -/
def arrive (d : Dev nD) (i : Fin 15) (s : Bool) : KProg F PUnit := do
  waitW d (rcvS false i s) s (rnd i)
  waitO d (rcvS true i s) s (rnd i)
/-- They have arrived, and leave again for the next device. -/
def relay (d : Dev nD) (i i' : Fin 15) (s : Bool) : KProg F PUnit := do
  arrive d i s
  send d i' s
/-- Both pieces of half `s` of transfer `i` have left. -/
def sent (d : Dev nD) (i : Fin 15) (s : Bool) : KProg F PUnit := do
  waitW d (sndS false i s) s (pre i)
  waitO d (sndS true i s) s (pre i)

/-! ## One block's contribution -/

/-- Which key is within reach of which query. -/
def band : IVec S256x256 1 :=
  cmpi .sle (absi (subi (iota .tc S256x256 32 [0] iota_S256x256_d0_w32) (iota .tc S256x256 32 [1] iota_S256x256_d1_w32))) (broadcast S256x256 128#32)

def xscaled (x : Vec F S2x256x512 .bf16) : FVec F S512x512 .bf16 :=
  mulf (shapeCast S512x512 (shapeCast S2x256x512 x shapeCasts_S2x256x512_S2x256x512) shapeCasts_S2x256x512_S512x512)
    (broadcast S512x512 (Scalar.ofBits .bf16 0x3E00#16))

/-- The four heads' queries. -/
def queries (x : FVec F S512x512 .bf16) (w : Vec F S512x256 .bf16) : FVec F S512x256 .bf16 :=
  truncf .bf16 (matmul dot_S512x512_S512x256_S512x256_1_0_0_1_n_n none x w (constant S512x256 .f32 0x00000000#32)) bitsLt_bf16_f32

/-- One head's masked exponentials. -/
def expo (q : FVec F S256x64 .bf16) (k : Vec F S1x1x64x256 .bf16) : FVec F S256x256 .f32 :=
  select band
    (exp (matmul dot_S256x64_S64x256_S256x256_1_0_0_1_n_n none q
      (shapeCast S64x256 (shapeCast S1x64x256 k shapeCasts_S1x1x64x256_S1x64x256) shapeCasts_S1x64x256_S64x256) (constant S256x256 .f32 0x00000000#32)))
    (broadcast S256x256 (Scalar.ofBits .f32 0x00000000#32))
/-- Divided by their row's sum. -/
def weights (e : FVec F S256x256 .f32) : FVec F S256x256 .bf16 :=
  truncf .bf16 (divf e (broadcastTo S256x256
    (shapeCast S256x1 (multiReduction .add [1] S256 e 0x00000000#32 reduces_S256x256_S256 (.inl rfl) rfl) shapeCasts_S256_S256x1)
    broadcasts_S256x1_S256x256)) bitsLt_bf16_f32
/-- One head's attention. -/
def head (q : FVec F S256x64 .bf16) (k : Vec F S1x1x64x256 .bf16) (v : Vec F S1x1x256x64 .bf16) : FVec F S256x64 .f32 :=
  matmul dot_S256x256_S256x64_S256x64_1_0_0_1_n_n none (weights (expo q k))
    (shapeCast S256x64 (shapeCast S1x256x64 v shapeCasts_S1x1x256x64_S1x256x64) shapeCasts_S1x256x64_S256x64) (constant S256x64 .f32 0x00000000#32)

def heads (q : FVec F S256x256 .bf16) (k : Fin 4 → Vec F S1x1x64x256 .bf16) (v : Fin 4 → Vec F S1x1x256x64 .bf16) : FVec F S256x256 .f32 :=
  concatenate S256x256 1
    [⟨S256x64, head (extractStridedSlice S256x64 ![0, 0] q slices_S256x256_o0_0_S256x64) (k 0) (v 0)⟩,
     ⟨S256x64, head (extractStridedSlice S256x64 ![0, 64] q slices_S256x256_o0_64_S256x64) (k 1) (v 1)⟩,
     ⟨S256x64, head (extractStridedSlice S256x64 ![0, 128] q slices_S256x256_o0_128_S256x64) (k 2) (v 2)⟩,
     ⟨S256x64, head (extractStridedSlice S256x64 ![0, 192] q slices_S256x256_o0_192_S256x64) (k 3) (v 3)⟩]
    concatenates_S256x64_S256x64_S256x64_S256x64_S256x256_d1

/-- What the four heads of one block add to the result. -/
def contrib (x : FVec F S512x512 .bf16) (w : Vec F S512x256 .bf16) (o : Vec F S256x512 .bf16)
    (k k' : Fin 4 → Vec F S1x1x64x256 .bf16) (v v' : Fin 4 → Vec F S1x1x256x64 .bf16) : FVec F S2x256x512 .f32 :=
  shapeCast S2x256x512 (matmul dot_S512x256_S256x512_S512x512_1_0_0_1_n_n none
    (truncf .bf16 (concatenate S512x256 0
      [⟨S256x256, heads (extractStridedSlice S256x256 ![0, 0] (queries x w) slices_S512x256_o0_0_S256x256) k v⟩,
       ⟨S256x256, heads (extractStridedSlice S256x256 ![256, 0] (queries x w) slices_S512x256_o256_0_S256x256) k' v'⟩]
      concatenates_S256x256_S256x256_S512x256_d0) bitsLt_bf16_f32)
    o (constant S512x512 .f32 0x00000000#32)) shapeCasts_S512x512_S2x256x512

abbrev loadW (o : Fin 2 → ℕ) (h : ∀ a, o a + S512x256.size a ≤ S512x4096.size a) : KProg F (Vec F S512x256 .bf16) :=
  Prog.lift (.load wM (Rect.unit (s := S512x4096) o S512x256.size h).toLoadRect (View.loadsAt_vmem h_S512x256))
abbrev loadO (o : Fin 2 → ℕ) (h : ∀ a, o a + S256x512.size a ≤ S4096x512.size a) : KProg F (Vec F S256x512 .bf16) :=
  Prog.lift (.load oM (Rect.unit (s := S4096x512) o S256x512.size h).toLoadRect (View.loadsAt_vmem h_S256x512))
abbrev loadK (o : Fin 4 → ℕ) (h : ∀ a, o a + S1x1x64x256.size a ≤ S2x64x64x256.size a) : KProg F (Vec F S1x1x64x256 .bf16) :=
  Prog.lift (.load kM (Rect.unit (s := S2x64x64x256) o S1x1x64x256.size h).toLoadRect (View.loadsAt_vmem h_S1x1x64x256))
abbrev loadV (o : Fin 4 → ℕ) (h : ∀ a, o a + S1x1x256x64.size a ≤ S2x64x256x64.size a) : KProg F (Vec F S1x1x256x64 .bf16) :=
  Prog.lift (.load vM (Rect.unit (s := S2x64x256x64) o S1x1x256x64.size h).toLoadRect (View.loadsAt_vmem h_S1x1x256x64))
abbrev loadY : KProg F (Vec F S2x256x512 .f32) :=
  Prog.lift (.load yM (Rect.unit (s := S2x256x512) ![0, 0, 0] S2x256x512.size inb_S2x256x512_S2x256x512_0_0_0).toLoadRect (View.loadsAt_vmem h_S2x256x512))
abbrev storeY (y : Vec F S2x256x512 .f32) : KProg F PUnit :=
  Prog.lift (.store yM (Rect.unit (s := S2x256x512) ![0, 0, 0] S2x256x512.size inb_S2x256x512_S2x256x512_0_0_0) y Finset.univ
    (View.stores_vmem_bits_univ h_S2x256x512 rfl) (.inl rfl))

/-- The four heads of one block: the block's weights, the keys and values of two batches, added to the result. -/
def block (x : FVec F S512x512 .bf16)
    (oW : Fin 2 → ℕ) (hW : ∀ a, oW a + S512x256.size a ≤ S512x4096.size a)
    (oO : Fin 2 → ℕ) (hO : ∀ a, oO a + S256x512.size a ≤ S4096x512.size a)
    (oK : Bool → Fin 4 → Fin 4 → ℕ) (hK : ∀ b h a, oK b h a + S1x1x64x256.size a ≤ S2x64x64x256.size a)
    (oV : Bool → Fin 4 → Fin 4 → ℕ) (hV : ∀ b h a, oV b h a + S1x1x256x64.size a ≤ S2x64x256x64.size a) : KProg F PUnit := do
  let w ← loadW oW hW
  let o ← loadO oO hO
  let k0 ← loadK (oK false 0) (hK false 0)
  let v0 ← loadV (oV false 0) (hV false 0)
  let k1 ← loadK (oK false 1) (hK false 1)
  let v1 ← loadV (oV false 1) (hV false 1)
  let k2 ← loadK (oK false 2) (hK false 2)
  let v2 ← loadV (oV false 2) (hV false 2)
  let k3 ← loadK (oK false 3) (hK false 3)
  let v3 ← loadV (oV false 3) (hV false 3)
  let k4 ← loadK (oK true 0) (hK true 0)
  let v4 ← loadV (oV true 0) (hV true 0)
  let k5 ← loadK (oK true 1) (hK true 1)
  let v5 ← loadV (oV true 1) (hV true 1)
  let k6 ← loadK (oK true 2) (hK true 2)
  let v6 ← loadV (oV true 2) (hV true 2)
  let k7 ← loadK (oK true 3) (hK true 3)
  let v7 ← loadV (oV true 3) (hV true 3)
  let y ← loadY
  let _ ← loadY
  storeY (addf (shapeCast S2x256x512 y shapeCasts_S2x256x512_S2x256x512)
    (contrib x w o ![k0, k1, k2, k3] ![k4, k5, k6, k7] ![v0, v1, v2, v3] ![v4, v5, v6, v7]))

/-- The device's own block. -/
def ownBlock (d : Dev nD) (x : FVec F S512x512 .bf16) : KProg F PUnit :=
  block x (k0_off1 d) (k0_off1_inb d) (k0_off2 d) (k0_off2_inb d)
    (fun b h => match b with | false => k0_off7 d (BitVec.ofNat 32 h.val) | true => k0_off9 d (BitVec.ofNat 32 h.val))
    (fun b h => match b with | false => k0_off7_inb d h | true => k0_off9_inb d h)
    (fun b h => match b with | false => k0_off8 d (BitVec.ofNat 32 h.val) | true => k0_off10 d (BitVec.ofNat 32 h.val))
    (fun b h => match b with | false => k0_off8_inb d h | true => k0_off10_inb d h)

def hd (i : Fin 15) (h : Fin 4) : Fin 60 := ⟨4 * i.val + h.val, by omega⟩

/-- The block transfer `i` brought. -/
def gotBlock (d : Dev nD) (x : FVec F S512x512 .bf16) (i : Fin 15) : KProg F PUnit :=
  block x (t11 d i) (k0_off11_inb d i) (t12 d i) (k0_off12_inb d i)
    (fun b h => match b with | false => t13 d (hd i h) | true => t15 d (hd i h))
    (fun b h => match b with | false => k0_off13_inb d (hd i h) | true => k0_off15_inb d (hd i h))
    (fun b h => match b with | false => t14 d (hd i h) | true => t16 d (hd i h))
    (fun b h => match b with | false => k0_off14_inb d (hd i h) | true => k0_off16_inb d (hd i h))

/-! ## The body -/

/-- The devices tell their neighbours they may be written to; the own blocks go where the whole is gathered; the result is cleared. -/
def opening (d : Dev nD) : KProg F (FVec F S512x512 .bf16) := do
  semSignalWord (⟨k0_dev1 d, k0_dev1_lt d⟩ : Dev nD) barS 1#32
  semSignalWord (⟨k0_dev2 d, k0_dev2_lt d⟩ : Dev nD) barS 1#32
  semWaitWord barS 2#32
  let x ← Prog.lift (.load xM (Rect.unit (s := S2x256x512) ![0, 0, 0] S2x256x512.size inb_S2x256x512_S2x256x512_0_0_0).toLoadRect (View.loadsAt_vmem h_S2x256x512))
  let a ← Prog.lift (.load aM (Rect.unit (s := S512x256) ![0, 0] S512x256.size inb_S512x256_S512x256_0_0).toLoadRect (View.loadsAt_vmem h_S512x256))
  let _ ← loadW (k0_off1 d) (k0_off1_inb d)
  Prog.lift (.store wM (Rect.unit (s := S512x4096) (k0_off1 d) S512x256.size (k0_off1_inb d))
    (shapeCast S512x256 (shapeCast S512x256 a shapeCasts_S512x256_S512x256) shapeCasts_S512x256_S512x256) Finset.univ
    (View.stores_vmem h_S512x256 ((Memref.isWhole_whole cc0_scratch0).storeExact_slice rfl _ (k0_off1_packedbf16 d)) (fun _ => rfl)) (.inl rfl))
  let b ← Prog.lift (.load bM (Rect.unit (s := S256x512) ![0, 0] S256x512.size inb_S256x512_S256x512_0_0).toLoadRect (View.loadsAt_vmem h_S256x512))
  let _ ← loadO (k0_off2 d) (k0_off2_inb d)
  Prog.lift (.store oM (Rect.unit (s := S4096x512) (k0_off2 d) S256x512.size (k0_off2_inb d))
    (shapeCast S256x512 (shapeCast S256x512 b shapeCasts_S256x512_S256x512) shapeCasts_S256x512_S256x512) Finset.univ
    (View.stores_vmem h_S256x512 ((Memref.isWhole_whole cc0_scratch1).storeExact_slice rfl _ (k0_off2_packedbf16 d)) (fun _ => rfl)) (.inl rfl))
  let _ ← loadY
  storeY (broadcast S2x256x512 (Scalar.ofBits .f32 0x00000000#32))
  pure (xscaled x)

/-- The first transfers, of the own block, both ways. -/
def starts (d : Dev nD) : KProg F PUnit := do
  send d 0 false
  send d 1 false
  send d 0 true
  send d 1 true

/-- Rounds `2h + 1` and `2h + 2`, both blocks of which go on. -/
def hop (d : Dev nD) (x : FVec F S512x512 .bf16) (h : Fin 6) : KProg F PUnit := do
  relay d ⟨2 * h.val, by omega⟩ ⟨2 * h.val + 2, by omega⟩ false
  relay d ⟨2 * h.val + 1, by omega⟩ ⟨2 * h.val + 3, by omega⟩ false
  relay d ⟨2 * h.val, by omega⟩ ⟨2 * h.val + 2, by omega⟩ true
  relay d ⟨2 * h.val + 1, by omega⟩ ⟨2 * h.val + 3, by omega⟩ true
  gotBlock d x ⟨2 * h.val, by omega⟩
  gotBlock d x ⟨2 * h.val + 1, by omega⟩

/-- Rounds 13 and 14: the block that came from the left goes on once more. -/
def hop6 (d : Dev nD) (x : FVec F S512x512 .bf16) : KProg F PUnit := do
  relay d 12 14 false
  arrive d 13 false
  relay d 12 14 true
  arrive d 13 true
  gotBlock d x 12
  gotBlock d x 13

/-- Round 15. -/
def hop7 (d : Dev nD) (x : FVec F S512x512 .bf16) : KProg F PUnit := do
  arrive d 14 false
  arrive d 14 true
  gotBlock d x 14

/-- Transfers `2h` and `2h + 1` have left. -/
def flush (d : Dev nD) (h : Fin 7) : KProg F PUnit := do
  sent d ⟨2 * h.val, by omega⟩ false
  sent d ⟨2 * h.val + 1, by omega⟩ false
  sent d ⟨2 * h.val, by omega⟩ true
  sent d ⟨2 * h.val + 1, by omega⟩ true

def talk (d : Dev nD) : KProg F PUnit := do
  let x ← opening d
  starts d
  ownBlock d x
  hop d x 0; hop d x 1; hop d x 2; hop d x 3; hop d x 4; hop d x 5
  hop6 d x
  hop7 d x
  flush d 0; flush d 1; flush d 2; flush d 3; flush d 4; flush d 5; flush d 6
  sent d 14 false
  sent d 14 true

/-- The body as the pipeline calls it. -/
def body : KProg F PUnit :=
  cc0__body xM (Memref.isWhole_whole _) aM (Memref.isWhole_whole _) bM (Memref.isWhole_whole _) kM (Memref.isWhole_whole _) vM (Memref.isWhole_whole _)
    yM (Memref.isWhole_whole _) wM (Memref.isWhole_whole _) oM (Memref.isWhole_whole _)
    cc0_scratch2 cc0_scratch3 cc0_scratch4 cc0_scratch5 cc0_scratch6 cc0_scratch7 cc0_scratch8 cc0_scratch9

theorem body_eq : body (F := F) = (do let d ← Prog.lift .deviceId; talk d) := by
  chain_rfl

end Cert.Ring
-- ==== Proof.Table.lean ====
/-
  The ring of the sixteen devices, and the places in the gathered weights that the printed offsets name.
-/
module

public import proofs.«01_k».proof.Proof.Body

@[expose] public section

noncomputable section

namespace Cert.Ring

open Cert.KernelIdeal Cert.KernelIdeal.Gen
open Idealize.ShloMosaic

/-! ## The ring -/

/-- The devices in the order of the ring, and each device's place in it. -/
def cyc : Fin 16 → Fin 16 := ![0, 1, 2, 3, 7, 6, 5, 9, 10, 11, 15, 14, 13, 12, 8, 4]
def pos : Fin 16 → Fin 16 := ![0, 1, 2, 3, 15, 6, 5, 4, 14, 7, 8, 9, 13, 12, 11, 10]

theorem cyc_pos : ∀ d, cyc (pos d) = d := by decide
theorem pos_cyc : ∀ p, pos (cyc p) = p := by decide

/-- The left and the right neighbour. -/
def lft (d : Dev nD) : Dev nD := cyc (pos d - 1)
def rgt (d : Dev nD) : Dev nD := cyc (pos d + 1)

theorem lft_rgt : ∀ d, lft (rgt d) = d := by decide
theorem rgt_lft : ∀ d, rgt (lft d) = d := by decide
theorem lft_ne : ∀ d, lft d ≠ d := by decide
theorem rgt_ne : ∀ d, rgt d ≠ d := by decide
theorem lft_ne_rgt : ∀ d, lft d ≠ rgt d := by decide

theorem dev1_eq (d : Dev nD) : (⟨k0_dev1 d, k0_dev1_lt d⟩ : Dev nD) = lft d := by
  revert d; decide +kernel
theorem dev2_eq (d : Dev nD) : (⟨k0_dev2 d, k0_dev2_lt d⟩ : Dev nD) = rgt d := by
  revert d; decide +kernel

/-- Where transfer `i` of device `d` goes, and whence the one it receives comes. -/
def nxt (i : Fin 15) (d : Dev nD) : Dev nD := if i.val % 2 = 0 then rgt d else lft d
def prv (i : Fin 15) (d : Dev nD) : Dev nD := if i.val % 2 = 0 then lft d else rgt d

theorem prv_nxt (i : Fin 15) (d : Dev nD) : prv i (nxt i d) = d := by
  unfold prv nxt; split
  · exact lft_rgt d
  · exact rgt_lft d
theorem nxt_prv (i : Fin 15) (d : Dev nD) : nxt i (prv i d) = d := by
  unfold prv nxt; split
  · exact rgt_lft d
  · exact lft_rgt d
def nxtE (i : Fin 15) : Dev nD ≃ Dev nD := ⟨nxt i, prv i, prv_nxt i, nxt_prv i⟩

theorem dstD_eq (i : Fin 15) (d : Dev nD) : dstD i d = nxt i d := by
  have h3 : ∀ d : Dev nD, (⟨k0_dev3 d, k0_dev3_lt d⟩ : Dev nD) = rgt d := by decide +kernel
  have h5 : ∀ d : Dev nD, (⟨k0_dev5 d, k0_dev5_lt d⟩ : Dev nD) = lft d := by decide +kernel
  unfold dstD nxt; rw [h3, h5]

/-! ## Whose block each round deals with -/

/-- The device whose block round `r` of device `d` deals with: its own, then by turns the next one to the left and the next one to the right. -/
def chunk (r : Fin 16) (d : Dev nD) : Fin 16 :=
  if r.val % 2 = 1 then cyc (pos d - Fin.ofNat 16 ((r.val + 1) / 2)) else cyc (pos d + Fin.ofNat 16 (r.val / 2))

theorem chunk_zero : ∀ d, chunk 0 d = d := by decide
/-- A transfer carries the block that its receiver's round deals with. -/
theorem chunk_pre : ∀ (i : Fin 15) (d : Dev nD), chunk (pre i) d = chunk (rnd i) (nxt i d) := by decide +kernel
theorem chunk_inj : ∀ (d : Dev nD) (r r' : Fin 16), chunk r d = chunk r' d → r = r' := by decide +kernel

def chunkE (d : Dev nD) : Fin 16 ≃ Fin 16 :=
  Equiv.ofBijective (fun r => chunk r d) (Finite.injective_iff_bijective.mp fun r r' h => chunk_inj d r r' h)
theorem chunkE_apply (d : Dev nD) (r : Fin 16) : chunkE d r = chunk r d := rfl

/-! ## The printed offsets -/

theorem off1_eq (d : Dev nD) : k0_off1 d = ![0, 256 * d.val] := by revert d; decide +kernel
theorem off2_eq (d : Dev nD) : k0_off2 d = ![256 * d.val, 0] := by revert d; decide +kernel
theorem pW_eq (s : Bool) (d : Dev nD) (r : Fin 16) : pW s d r = ![256 * s.toNat, 256 * (chunk r d).val] := by
  revert s d r; decide +kernel
theorem pO_eq (s : Bool) (d : Dev nD) (r : Fin 16) : pO s d r = ![256 * (chunk r d).val, 256 * s.toNat] := by
  revert s d r; decide +kernel
theorem t11_eq (d : Dev nD) (i : Fin 15) : t11 d i = ![0, 256 * (chunk (rnd i) d).val] := by revert d i; decide +kernel
theorem t12_eq (d : Dev nD) (i : Fin 15) : t12 d i = ![256 * (chunk (rnd i) d).val, 0] := by revert d i; decide +kernel
theorem off7_eq (d : Dev nD) (h : Fin 4) : k0_off7 d (BitVec.ofNat 32 h.val) = ![0, 4 * d.val + h.val, 0, 0] := by revert d h; decide +kernel
theorem off8_eq (d : Dev nD) (h : Fin 4) : k0_off8 d (BitVec.ofNat 32 h.val) = ![0, 4 * d.val + h.val, 0, 0] := by revert d h; decide +kernel
theorem off9_eq (d : Dev nD) (h : Fin 4) : k0_off9 d (BitVec.ofNat 32 h.val) = ![1, 4 * d.val + h.val, 0, 0] := by revert d h; decide +kernel
theorem off10_eq (d : Dev nD) (h : Fin 4) : k0_off10 d (BitVec.ofNat 32 h.val) = ![1, 4 * d.val + h.val, 0, 0] := by revert d h; decide +kernel
theorem t13_eq (d : Dev nD) (i : Fin 15) (h : Fin 4) : t13 d (hd i h) = ![0, 4 * (chunk (rnd i) d).val + h.val, 0, 0] := by
  revert d i h; decide +kernel
theorem t14_eq (d : Dev nD) (i : Fin 15) (h : Fin 4) : t14 d (hd i h) = ![0, 4 * (chunk (rnd i) d).val + h.val, 0, 0] := by
  revert d i h; decide +kernel
theorem t15_eq (d : Dev nD) (i : Fin 15) (h : Fin 4) : t15 d (hd i h) = ![1, 4 * (chunk (rnd i) d).val + h.val, 0, 0] := by
  revert d i h; decide +kernel
theorem t16_eq (d : Dev nD) (i : Fin 15) (h : Fin 4) : t16 d (hd i h) = ![1, 4 * (chunk (rnd i) d).val + h.val, 0, 0] := by
  revert d i h; decide +kernel

/-! ## The semaphores are all different -/

/-- The transfers, by number, half and matrix. -/
abbrev Job : Type := Fin 15 × Bool × Bool

/-- The kernel's own semaphores: a transfer's at its sender (`false`) and at its receiver (`true`). -/
def semOf (k : Bool × Job) : DmaSem sig := match k with
  | (false, i, s, a) => sndS a i s
  | (true, i, s, a) => rcvS a i s

theorem semOf_inj : Function.Injective semOf := by
  have h : ∀ k k' : Bool × Job, (semOf k).val = (semOf k').val → k = k' := by decide +kernel
  exact fun k k' hk => h k k' (congrArg Fin.val hk)

end Cert.Ring
-- ==== Proof.Pieces.lean ====
/-
  The gathered weights, cut in sixteen blocks and each block in two halves: the pieces the transfers move. The pieces' elements are disjoint and are
  all of the array, and a transfer between the same piece of two devices leaves the source's contents there.
-/
module

public import proofs.«01_k».proof.Proof.Table
public import Idealize.ShloMosaic.Lib.Pipeline.Kit
public import Idealize.ShloMosaic.Lib.Rounds
public import Idealize.ShloMosaic.Lib.Tactic
public import Idealize.ShloMosaic.Lib.Pipeline.Value
public import Idealize.ShloMosaic.Lib.Pointwise.Index

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The elements of a piece -/

theorem inW (k : Fin 16) (s : Bool) : ∀ a, (![256 * s.toNat, 256 * k.val] : Fin 2 → ℕ) a + S256x256.size a ≤ S512x4096.size a := by
  have := k.isLt
  have := Bool.toNat_le s
  intro a; fin_cases a <;> simp <;> omega
theorem inO (k : Fin 16) (s : Bool) : ∀ a, (![256 * k.val, 256 * s.toNat] : Fin 2 → ℕ) a + S256x256.size a ≤ S4096x512.size a := by
  have := k.isLt
  have := Bool.toNat_le s
  intro a; fin_cases a <;> simp <;> omega
theorem inWB (k : Fin 16) : ∀ a, (![0, 256 * k.val] : Fin 2 → ℕ) a + S512x256.size a ≤ S512x4096.size a := by
  have := k.isLt
  intro a; fin_cases a <;> simp; omega
theorem inOB (k : Fin 16) : ∀ a, (![256 * k.val, 0] : Fin 2 → ℕ) a + S256x512.size a ≤ S4096x512.size a := by
  have := k.isLt
  intro a; fin_cases a <;> simp; omega

/-- Half `s` of block `k`: 256 of the 512 rows of `Wq`, of the 512 columns of `Wo`. -/
def setW (k : Fin 16) (s : Bool) : Finset S512x4096.Idx := (Rect.unit (s := S512x4096) ![256 * s.toNat, 256 * k.val] S256x256.size (inW k s)).set
def setO (k : Fin 16) (s : Bool) : Finset S4096x512.Idx := (Rect.unit (s := S4096x512) ![256 * k.val, 256 * s.toNat] S256x256.size (inO k s)).set
/-- Block `k`. -/
def blkW (k : Fin 16) : Finset S512x4096.Idx := (Rect.unit (s := S512x4096) ![0, 256 * k.val] S512x256.size (inWB k)).set
def blkO (k : Fin 16) : Finset S4096x512.Idx := (Rect.unit (s := S4096x512) ![256 * k.val, 0] S256x512.size (inOB k)).set

theorem mem_setW (k : Fin 16) (s : Bool) (i : S512x4096.Idx) : i ∈ setW k s ↔ (i 0).val / 256 = s.toNat ∧ (i 1).val / 256 = k.val := by
  unfold setW; rw [Rect.mem_set_unit, Fin.forall_fin_two]
  simp; omega
theorem mem_setO (k : Fin 16) (s : Bool) (i : S4096x512.Idx) : i ∈ setO k s ↔ (i 0).val / 256 = k.val ∧ (i 1).val / 256 = s.toNat := by
  unfold setO; rw [Rect.mem_set_unit, Fin.forall_fin_two]
  simp; omega
theorem mem_blkW (k : Fin 16) (i : S512x4096.Idx) : i ∈ blkW k ↔ (i 1).val / 256 = k.val := by
  have h0 : (i 0).val < 512 := (i 0).isLt
  unfold blkW; rw [Rect.mem_set_unit, Fin.forall_fin_two]
  simp; omega
theorem mem_blkO (k : Fin 16) (i : S4096x512.Idx) : i ∈ blkO k ↔ (i 0).val / 256 = k.val := by
  have h0 : (i 1).val < 512 := (i 1).isLt
  unfold blkO; rw [Rect.mem_set_unit, Fin.forall_fin_two]
  simp; omega

theorem toNat_inj {s t : Bool} (h : s.toNat = t.toNat) : s = t := by revert s t; decide

theorem setW_disj (p p' : Fin 16 × Bool) (h : p ≠ p') : Disjoint (setW p.1 p.2) (setW p'.1 p'.2) := by
  rw [Finset.disjoint_left]
  intro i hi hi'
  rw [mem_setW] at hi hi'
  exact h (Prod.ext (Fin.ext (hi.2.symm.trans hi'.2)) (toNat_inj (hi.1.symm.trans hi'.1)))
theorem setO_disj (p p' : Fin 16 × Bool) (h : p ≠ p') : Disjoint (setO p.1 p.2) (setO p'.1 p'.2) := by
  rw [Finset.disjoint_left]
  intro i hi hi'
  rw [mem_setO] at hi hi'
  exact h (Prod.ext (Fin.ext (hi.1.symm.trans hi'.1)) (toNat_inj (hi.2.symm.trans hi'.2)))

theorem blkW_eq (k : Fin 16) : blkW k = setW k false ∪ setW k true := by
  ext i
  have h0 : (i 0).val < 512 := (i 0).isLt
  rw [Finset.mem_union, mem_setW, mem_setW, mem_blkW]
  simp; omega
theorem blkO_eq (k : Fin 16) : blkO k = setO k false ∪ setO k true := by
  ext i
  have h0 : (i 1).val < 512 := (i 1).isLt
  rw [Finset.mem_union, mem_setO, mem_setO, mem_blkO]
  simp; omega

theorem setW_all : (Finset.univ : Finset (Fin 16 × Bool)).biUnion (fun p => setW p.1 p.2) = Finset.univ := by
  ext i
  have h0 : (i 0).val < 512 := (i 0).isLt
  have h1 : (i 1).val < 4096 := (i 1).isLt
  simp only [Finset.mem_biUnion, Finset.mem_univ, true_and, iff_true]
  refine ⟨(⟨(i 1).val / 256, by omega⟩, decide (256 ≤ (i 0).val)), ?_⟩
  rw [mem_setW]
  by_cases h : 256 ≤ (i 0).val <;> simp [h] <;> omega
theorem setO_all : (Finset.univ : Finset (Fin 16 × Bool)).biUnion (fun p => setO p.1 p.2) = Finset.univ := by
  ext i
  have h0 : (i 0).val < 4096 := (i 0).isLt
  have h1 : (i 1).val < 512 := (i 1).isLt
  simp only [Finset.mem_biUnion, Finset.mem_univ, true_and, iff_true]
  refine ⟨(⟨(i 0).val / 256, by omega⟩, decide (256 ≤ (i 1).val)), ?_⟩
  rw [mem_setO]
  by_cases h : 256 ≤ (i 1).val <;> simp [h] <;> omega

theorem pcW_set (s : Bool) (d : Dev nD) (r : Fin 16) : (pcW s d r).view.set = setW (chunk r d) s := by
  show ((View.whole cc0_scratch0).slice _).set = _
  rw [View.set_slice_whole]
  have h : ∀ o (ho : ∀ a, o a + S256x256.size a ≤ S512x4096.size a), o = ![256 * s.toNat, 256 * (chunk r d).val] →
      (Rect.unit (s := S512x4096) o S256x256.size ho).set = setW (chunk r d) s := by intro o ho e; subst e; rfl
  exact h _ _ (pW_eq s d r)
theorem pcO_set (s : Bool) (d : Dev nD) (r : Fin 16) : (pcO s d r).view.set = setO (chunk r d) s := by
  show ((View.whole cc0_scratch1).slice _).set = _
  rw [View.set_slice_whole]
  have h : ∀ o (ho : ∀ a, o a + S256x256.size a ≤ S4096x512.size a), o = ![256 * (chunk r d).val, 256 * s.toNat] →
      (Rect.unit (s := S4096x512) o S256x256.size ho).set = setO (chunk r d) s := by intro o ho e; subst e; rfl
  exact h _ _ (pO_eq s d r)

/-! ## The gathered weights -/

/-- Every device's part of the two matrices. -/
structure Parts (F : FTy → Type) [FloatOps F] where
  A : Fin 16 → Vec F S512x256 .bf16
  B : Fin 16 → Vec F S256x512 .bf16

/-- `Wq` whole: column `j` is column `j % 256` of device `j / 256`'s part; -/
def gW (p : Parts F) : Vec F S512x4096 .bf16 := fun i =>
  p.A ⟨(i 1).val / 256, by have : (i 1).val < 4096 := (i 1).isLt; omega⟩
    (ix2 (i 0) ⟨(i 1).val % 256, Nat.mod_lt _ (by decide)⟩)
/-- `Wo` whole: likewise by rows. -/
def gO (p : Parts F) : Vec F S4096x512 .bf16 := fun i =>
  p.B ⟨(i 0).val / 256, by have : (i 0).val < 4096 := (i 0).isLt; omega⟩
    (ix2 ⟨(i 0).val % 256, Nat.mod_lt _ (by decide)⟩ (i 1))

/-! ## Holding a piece -/

/-- Half `s` of block `k` of `Wq` (`a = false`) or `Wo` where device `c` gathers it, at what is gathered there. -/
def piece (p : Parts F) (a : Bool) (c : Dev nD) (q : PosShare TreeShare) (k : Fin 16) (s : Bool) : sProp 𝕄 := match a with
  | false => ((c : Thread nD τ).loc cc0_scratch0) ↦[setW k s]{q} gW p
  | true => ((c : Thread nD τ).loc cc0_scratch1) ↦[setO k s]{q} gO p
/-- The same at anything. -/
def anyPiece (a : Bool) (c : Dev nD) (k : Fin 16) (s : Bool) : sProp 𝕄 := match a with
  | false => iprop(∃ f : Buf (Elt F) ((c : Thread nD τ).loc cc0_scratch0), ((c : Thread nD τ).loc cc0_scratch0) ↦[setW k s]{fullShare} f)
  | true => iprop(∃ f : Buf (Elt F) ((c : Thread nD τ).loc cc0_scratch1), ((c : Thread nD τ).loc cc0_scratch1) ↦[setO k s]{fullShare} f)
/-- Block `k` of both. -/
def blocks (p : Parts F) (c : Dev nD) (q : PosShare TreeShare) (k : Fin 16) : sProp 𝕄 :=
  iprop((((c : Thread nD τ).loc cc0_scratch0) ↦[blkW k]{q} gW p) ∗ ((c : Thread nD τ).loc cc0_scratch1) ↦[blkO k]{q} gO p)

instance piece_storable (p : Parts F) (a : Bool) (c : Dev nD) (q) (k : Fin 16) (s : Bool) :
    BI.Storable (upEmb : UEmb _ 𝕄) (piece p a c q k s) := by
  cases a <;> (unfold piece; infer_instance)
instance anyPiece_storable (a : Bool) (c : Dev nD) (k : Fin 16) (s : Bool) :
    BI.Storable (upEmb : UEmb _ 𝕄) (anyPiece (F := F) a c k s) := by
  cases a <;> (unfold anyPiece; infer_instance)

/-- A share of a piece in two parts. -/
theorem piece_share (p : Parts F) (a : Bool) (c : Dev nD) (q : PosShare TreeShare) (k : Fin 16) (s : Bool) :
    (piece p a c q k s : sProp 𝕄) ⊣⊢ iprop(piece p a c q.left k s ∗ piece p a c q.right k s) := by
  cases a
  · exact pointsTo_share (PosShare.mem_left_op_right q)
  · exact pointsTo_share (PosShare.mem_left_op_right q)

theorem piece_any (p : Parts F) (a : Bool) (c : Dev nD) (k : Fin 16) (s : Bool) :
    (piece p a c fullShare k s : sProp 𝕄) ⊢ anyPiece a c k s := by
  cases a <;> (unfold piece anyPiece; iintro H; iexists _; iexact H)

/-- The four pieces of a block are the block. -/
theorem blocks_pieces (p : Parts F) (c : Dev nD) (q : PosShare TreeShare) (k : Fin 16) :
    (blocks p c q k : sProp 𝕄) ⊣⊢ iprop((piece p false c q k false ∗ piece p true c q k false) ∗ piece p false c q k true ∗ piece p true c q k true) := by
  have hW : ((((c : Thread nD τ).loc cc0_scratch0) ↦[blkW k]{q} gW p : sProp 𝕄))
      ⊣⊢ iprop((((c : Thread nD τ).loc cc0_scratch0) ↦[setW k false]{q} gW p) ∗ ((c : Thread nD τ).loc cc0_scratch0) ↦[setW k true]{q} gW p) := by
    rw [blkW_eq]; exact pointsTo_union (setW_disj (k, false) (k, true) (by simp))
  have hO : ((((c : Thread nD τ).loc cc0_scratch1) ↦[blkO k]{q} gO p : sProp 𝕄))
      ⊣⊢ iprop((((c : Thread nD τ).loc cc0_scratch1) ↦[setO k false]{q} gO p) ∗ ((c : Thread nD τ).loc cc0_scratch1) ↦[setO k true]{q} gO p) := by
    rw [blkO_eq]; exact pointsTo_union (setO_disj (k, false) (k, true) (by simp))
  unfold blocks piece
  constructor
  · iintro ⟨H, H'⟩
    ihave G := hW.1 $$ H
    ihave G' := hO.1 $$ H'
    icases G with ⟨G1, G2⟩
    icases G' with ⟨G3, G4⟩
    isplitl [G1 G3]
    · isplitl [G1] <;> iassumption
    · isplitl [G2] <;> iassumption
  · iintro ⟨⟨G1, G3⟩, G2, G4⟩
    isplitl [G1 G2]
    · iapply hW.2; isplitl [G1] <;> iassumption
    · iapply hO.2; isplitl [G3] <;> iassumption

theorem any_intro0 (c : Dev nD) (k : Fin 16) (s : Bool) (f : Buf (Elt F) ((c : Thread nD τ).loc cc0_scratch0)) :
    (((c : Thread nD τ).loc cc0_scratch0) ↦[setW k s]{fullShare} f : sProp 𝕄) ⊢ anyPiece false c k s := by
  unfold anyPiece; iintro H; iexists f; iexact H
theorem any_intro1 (c : Dev nD) (k : Fin 16) (s : Bool) (f : Buf (Elt F) ((c : Thread nD τ).loc cc0_scratch1)) :
    (((c : Thread nD τ).loc cc0_scratch1) ↦[setO k s]{fullShare} f : sProp 𝕄) ⊢ anyPiece true c k s := by
  unfold anyPiece; iintro H; iexists f; iexact H

/-- The whole of what is gathered, at anything, is its pieces. -/
theorem whole_pieces (c : Dev nD) (f : Buf (Elt F) ((c : Thread nD τ).loc cc0_scratch0)) (g : Buf (Elt F) ((c : Thread nD τ).loc cc0_scratch1)) :
    iprop((((c : Thread nD τ).loc cc0_scratch0) ↦{fullShare} f) ∗ ((c : Thread nD τ).loc cc0_scratch1) ↦{fullShare} g)
      ⊢ (bigSep Finset.univ (fun x : Fin 16 × Bool => iprop(anyPiece (F := F) false c x.1 x.2 ∗ anyPiece (F := F) true c x.1 x.2)) : sProp 𝕄) := by
  rw [bigSep_sep']
  have e1 : (((c : Thread nD τ).loc cc0_scratch0) ↦{fullShare} f : sProp 𝕄)
      ⊢ bigSep Finset.univ (fun x : Fin 16 × Bool => anyPiece (F := F) false c x.1 x.2) := by
    rw [← setW_all, pointsTo_biUnion _ _ (fun t _ t' _ h => setW_disj t t' h)]
    exact BI.bigSep_mono fun x _ => any_intro0 c x.1 x.2 f
  have e2 : (((c : Thread nD τ).loc cc0_scratch1) ↦{fullShare} g : sProp 𝕄)
      ⊢ bigSep Finset.univ (fun x : Fin 16 × Bool => anyPiece (F := F) true c x.1 x.2) := by
    rw [← setO_all, pointsTo_biUnion _ _ (fun t _ t' _ h => setO_disj t t' h)]
    exact BI.bigSep_mono fun x _ => any_intro1 c x.1 x.2 g
  exact BIClass.sep_mono e1 e2

/-- The gathered blocks together are the two arrays. -/
theorem blocks_whole (p : Parts F) (c : Dev nD) :
    (bigSep Finset.univ (fun k : Fin 16 => blocks p c fullShare k) : sProp 𝕄)
      ⊢ iprop((((c : Thread nD τ).loc cc0_scratch0) ↦{fullShare} gW p) ∗ ((c : Thread nD τ).loc cc0_scratch1) ↦{fullShare} gO p) := by
  unfold blocks
  rw [bigSep_sep']
  have hW : (Finset.univ : Finset (Fin 16)).biUnion blkW = Finset.univ := by
    ext i; simp only [Finset.mem_biUnion, Finset.mem_univ, true_and, iff_true]
    exact ⟨⟨(i 1).val / 256, by have : (i 1).val < 4096 := (i 1).isLt; omega⟩, (mem_blkW _ i).2 rfl⟩
  have hO : (Finset.univ : Finset (Fin 16)).biUnion blkO = Finset.univ := by
    ext i; simp only [Finset.mem_biUnion, Finset.mem_univ, true_and, iff_true]
    exact ⟨⟨(i 0).val / 256, by have : (i 0).val < 4096 := (i 0).isLt; omega⟩, (mem_blkO _ i).2 rfl⟩
  have dW : ∀ t t' : Fin 16, t ≠ t' → Disjoint (blkW t) (blkW t') := fun t t' h => Finset.disjoint_left.2 fun i hi hi' =>
    h (Fin.ext (((mem_blkW t i).1 hi).symm.trans ((mem_blkW t' i).1 hi')))
  have dO : ∀ t t' : Fin 16, t ≠ t' → Disjoint (blkO t) (blkO t') := fun t t' h => Finset.disjoint_left.2 fun i hi hi' =>
    h (Fin.ext (((mem_blkO t i).1 hi).symm.trans ((mem_blkO t' i).1 hi')))
  rw [← hW, ← hO, pointsTo_biUnion _ _ (fun t _ t' _ h => dW t t' h), pointsTo_biUnion _ _ (fun t _ t' _ h => dO t t' h)]

/-! ## What a transfer leaves, and what the own block's stores leave -/

theorem landW (p : Parts F) (s : Bool) (d : Dev nD) (r : Fin 16) (c : Dev nD) (q : PosShare TreeShare) (fd : (cc0_scratch0 : Ref sig .tc).ty.Contents (Elt F)) :
    (((c : Thread nD τ).loc cc0_scratch0) ↦[setW (chunk r d) s]{q}
      ((pcW s d r).view.write (Elt F) fd ((pcW s d r).view.read (Elt F) (gW p)) Finset.univ) : sProp 𝕄) = piece p false c q (chunk r d) s := by
  unfold piece
  refine pointsTo_congr fun i hi => ?_
  rw [View.write_read_eq_piecewise, View.setOn_univ, pcW_set]
  exact Finset.piecewise_eq_of_mem _ _ _ hi
theorem landO (p : Parts F) (s : Bool) (d : Dev nD) (r : Fin 16) (c : Dev nD) (q : PosShare TreeShare) (fd : (cc0_scratch1 : Ref sig .tc).ty.Contents (Elt F)) :
    (((c : Thread nD τ).loc cc0_scratch1) ↦[setO (chunk r d) s]{q}
      ((pcO s d r).view.write (Elt F) fd ((pcO s d r).view.read (Elt F) (gO p)) Finset.univ) : sProp 𝕄) = piece p true c q (chunk r d) s := by
  unfold piece
  refine pointsTo_congr fun i hi => ?_
  rw [View.write_read_eq_piecewise, View.setOn_univ, pcO_set]
  exact Finset.piecewise_eq_of_mem _ _ _ hi

end Cert.Ring
-- ==== Proof.Protocol.lean ====
/-
  The protocol of the two rings, written down before any of it is run.

  Cells. Every device has a barrier cell; and for each transfer i, half s and matrix a ("job") a cell at the sender and a cell at the receiver.
  Each cell lives through one round.

    barrier of d     two duties of one unit. From d's right neighbour (`true`): the pieces d's rightward transfers will land in, on that neighbour.
                     From the left one (`false`): likewise for the leftward transfers.
    receiver's cell  one duty, paid by the transfer: the piece, at what is gathered there.
    sender's cell    one duty, paid by the transfer: the share of the piece it was sent from.

  A device owes the receivers' credits of all its transfers, in the order it starts them, and a unit to each neighbour's barrier. The barrier is below
  every transfer and transfer i below transfer i + 1: whoever waits for transfer i owes later transfers only.
-/
module

public import proofs.«01_k».proof.Proof.Pieces

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

abbrev barCell (c : Dev nD) : GSem nD τ sig := ((c : Thread nD τ), .reg barS)
abbrev cell (k : Bool × Job) (c : Dev nD) : GSem nD τ sig := ((c : Thread nD τ), .dma (semOf k))

/-- The credit of one piece. -/
abbrev N : ℕ := (pcW false 0 0).view.dmaCredit
theorem N_pos : 0 < N := View.dmaCredit_pos _ (by decide)

/-- The share a transfer is sent from: the receiver's half of a block that goes on, quarters of the own block, which goes both ways. -/
def qT (i : Fin 15) : PosShare TreeShare := if i = 0 then fullShare.right.left else if i = 1 then fullShare.right.right else fullShare.right

theorem qT_pos {i : Fin 15} (h : 2 ≤ i.val) : qT i = fullShare.right := by
  unfold qT
  rw [if_neg (fun e => by rw [e] at h; exact absurd h (by decide)), if_neg (fun e => by rw [e] at h; exact absurd h (by decide))]

/-! ## The payloads -/

/-- What device `d` must be given for the transfer `j`: where it lands, and that the receiver's cell is open. -/
def grant (d : Dev nD) (j : Job) : sProp 𝕄 :=
  iprop(anyPiece (F := F) j.2.2 (nxt j.1 d) (chunk (pre j.1) d) j.2.1 ∗ reached ER (cell (true, j) (nxt j.1 d)) 0)

/-- Whether a transfer goes right. -/
def isRight (j : Job) : Bool := decide (j.1.val % 2 = 0)

def barPay (d : Dev nD) (b : Bool) : sProp 𝕄 := bigSep (Finset.univ.filter fun j => isRight j = b) (grant (F := F) d)

variable (p : Parts F)

def pay (k : Bool × Job) (c : Dev nD) : sProp 𝕄 := match k with
  | (false, i, s, a) => piece p a c (qT i) (chunk (pre i) c) s
  | (true, i, s, a) => piece p a c fullShare (chunk (rnd i) c) s

instance grant_storable (d : Dev nD) (j : Job) : BI.Storable (upEmb : UEmb _ 𝕄) (grant (F := F) d j) := by unfold grant; infer_instance
instance barPay_storable (d : Dev nD) (b : Bool) : BI.Storable (upEmb : UEmb _ 𝕄) (barPay (F := F) d b) := by unfold barPay; infer_instance
instance pay_storable (k : Bool × Job) (c : Dev nD) : BI.Storable (upEmb : UEmb _ 𝕄) (pay p k c) := by
  obtain ⟨b, i, s, a⟩ := k; cases b <;> (unfold pay; infer_instance)

open Classical in
/-- The payload of a transfer's cell, by the number of its semaphore. -/
def dmaPay (q : SemLoc sig) (c : Dev nD) : sProp 𝕄 := if h : ∃ k : Bool × Job, q = .dma (semOf k) then pay p h.choose c else iprop(emp)

theorem dmaPay_eq (k : Bool × Job) (c : Dev nD) : dmaPay p (.dma (semOf k)) c = pay p k c := by
  have h : ∃ k' : Bool × Job, (SemLoc.dma (semOf k) : SemLoc sig) = .dma (semOf k') := ⟨k, rfl⟩
  unfold dmaPay; rw [dif_pos h]
  have e : semOf h.choose = semOf k := (SemLoc.dma.inj h.choose_spec).symm
  rw [semOf_inj e]

instance dmaPay_storable (q : SemLoc sig) (c : Dev nD) : BI.Storable (upEmb : UEmb _ 𝕄) (dmaPay p q c) := by
  unfold dmaPay; split <;> infer_instance

/-! ## The schedule -/

def plan : Rounds.Schedule (GSem nD τ sig) Bool 𝕄 where
  duties g r := if r = 0 then (if g.2 = .reg barS then Finset.univ else {false}) else ∅
  unitless _ := False
  amount g _ _ := if g.2 = .reg barS then 1 else N
  payload g _ b := if g.2 = .reg barS then barPay g.1.1 b else dmaPay p g.2 g.1.1
  amount_pos g _ _ _ := by
    by_cases h : g.2 = .reg barS
    · rw [if_pos h]; exact Nat.one_pos
    · rw [if_neg h]; exact N_pos

instance plan_storable (g : GSem nD τ sig) (r : ℕ) (b : Bool) : BI.Storable (upEmb : UEmb _ 𝕄) ((plan p).payload g r b) := by
  show BI.Storable upEmb (if g.2 = .reg barS then barPay g.1.1 b else dmaPay p g.2 g.1.1)
  split <;> infer_instance

section Facts
variable (c : Dev nD) (k : Bool × Job)

theorem dma_ne_bar : (SemLoc.dma (semOf k) : SemLoc sig) ≠ .reg barS := fun h => by cases h

theorem duties_bar : (plan p).duties (barCell c) 0 = Finset.univ := by dsimp only [plan]; rw [if_pos rfl, if_pos rfl]
theorem duties_dma : (plan p).duties (cell k c) 0 = {false} := by dsimp only [plan]; rw [if_pos rfl, if_neg (dma_ne_bar k)]
theorem duties_later (g : GSem nD τ sig) : ∀ r, 0 + 1 ≤ r → (plan p).duties g r = ∅ := fun r hr => by dsimp only [plan]; rw [if_neg (fun h => by omega)]
theorem amount_bar (b : Bool) : (plan p).amount (barCell c) 0 b = 1 := by dsimp only [plan]; exact if_pos rfl
theorem amount_dma (b : Bool) : (plan p).amount (cell k c) 0 b = N := by dsimp only [plan]; exact if_neg (dma_ne_bar k)
theorem expect_bar : (plan p).expect (barCell c) 0 = 2 := by
  unfold Schedule.expect Schedule.amountOf
  rw [duties_bar, Finset.sum_congr rfl fun d _ => amount_bar p c d, Finset.sum_const, Finset.card_univ, Fintype.card_bool, smul_eq_mul]
theorem expect_dma : (plan p).expect (cell k c) 0 = N := by
  unfold Schedule.expect Schedule.amountOf; rw [duties_dma, Finset.sum_singleton, amount_dma]
theorem payload_bar (b : Bool) : (plan p).payload (barCell c) 0 b = barPay c b := by dsimp only [plan]; exact if_pos rfl
theorem payload_dma (b : Bool) : (plan p).payload (cell k c) 0 b = pay p k c := by
  dsimp only [plan]; rw [if_neg (dma_ne_bar k)]; exact dmaPay_eq p k c
theorem rest_bar : bigSep ((plan p).duties (barCell c) 0 \ ∅) (fun b => (plan p).payload (barCell c) 0 b) = bigSep Finset.univ (grant (F := F) c) := by
  rw [Finset.sdiff_empty, duties_bar, bigSep_univ_at _ true, bigSep_congr (fun b _ => payload_bar p c b), payload_bar,
    show (Finset.univ.erase true : Finset Bool) = {false} from by decide, bigSep_singleton,
    bigSep_filter_split Finset.univ (fun j => isRight j = true)]
  simp only [Bool.not_eq_true]
  rfl
theorem rest_dma : bigSep ((plan p).duties (cell k c) 0 \ ∅) (fun b => (plan p).payload (cell k c) 0 b) = pay p k c := by
  rw [Finset.sdiff_empty, duties_dma, bigSep_singleton, payload_dma]
end Facts

/-! ## The order, and what is owed -/

/-- The half of a transfer. -/
abbrev Half : Type := Fin 15 × Bool

/-- Both halves of the transfers `2h` and `2h + 1`, in the order in which they leave (and in which they are waited for). -/
def pair (h : Fin 7) : List Half :=
  [(⟨2 * h.val, by omega⟩, false), (⟨2 * h.val + 1, by omega⟩, false), (⟨2 * h.val, by omega⟩, true), (⟨2 * h.val + 1, by omega⟩, true)]
/-- What is left of the order once `7 - n` pairs are through. -/
def left : (n : ℕ) → List Half
  | 0 => [(14, false), (14, true)]
  | n + 1 => pair (Fin.ofNat 7 (6 - n)) ++ left n

/-- What the transfer `j` owes its receiver. -/
def due (c : Dev nD) (j : Job) : CellTallies nD τ sig Unit := tallyAt (cell (true, j) (nxt j.1 c)) () N

def owedL (c : Dev nD) : List Half → CellTallies nD τ sig Unit
  | [] => 0
  | q :: l => (owedL c l + due c (q.1, q.2, true)) + due c (q.1, q.2, false)

/-- What device `c` owes before anything: its transfers, and its neighbours' barriers a unit. -/
def owed₁ (c : Dev nD) : CellTallies nD τ sig Unit := owedL c (left 7) + tallyAt (barCell (rgt c)) () 1
def owed₀ (c : Dev nD) : CellTallies nD τ sig Unit := owed₁ c + tallyAt (barCell (lft c)) () 1

theorem due_pos {c : Dev nD} {j : Job} {g : GSem nD τ sig} {u : Unit} (h : 0 < due c j g u) : g = cell (true, j) (nxt j.1 c) := by
  unfold due at h; rw [tallyAt_apply] at h
  by_contra hn; rw [if_neg (fun h' => hn h'.1)] at h; exact Nat.lt_irrefl 0 h

theorem owedL_pos {c : Dev nD} {g : GSem nD τ sig} {u : Unit} :
    ∀ {l : List Half}, 0 < owedL c l g u → ∃ q ∈ l, ∃ a, g = cell (true, (q.1, q.2, a)) (nxt q.1 c)
  | [], h => absurd h (Nat.lt_irrefl 0)
  | q :: l, h => by
    unfold owedL at h
    rw [Pi.add_apply, Finsupp.add_apply, Pi.add_apply, Finsupp.add_apply] at h
    rcases Nat.add_pos_iff_pos_or_pos.mp h with h | h
    · rcases Nat.add_pos_iff_pos_or_pos.mp h with h | h
      · obtain ⟨q', hq', a, e⟩ := owedL_pos h
        exact ⟨q', List.mem_cons_of_mem _ hq', a, e⟩
      · exact ⟨q, List.mem_cons_self, true, due_pos h⟩
    · exact ⟨q, List.mem_cons_self, false, due_pos h⟩

theorem owed₀_pos {c : Dev nD} {g : GSem nD τ sig} {u : Unit} (h : 0 < owed₀ c g u) :
    (∃ j : Job, g = cell (true, j) (nxt j.1 c)) ∨ g = barCell (rgt c) ∨ g = barCell (lft c) := by
  unfold owed₀ owed₁ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨q, -, a, e⟩ := owedL_pos h
      exact .inl ⟨(q.1, q.2, a), e⟩
    · rw [tallyAt_apply] at h
      by_contra hn; rw [if_neg (fun h' => hn (.inr (.inl h'.1)))] at h; exact Nat.lt_irrefl 0 h
  · rw [tallyAt_apply] at h
    by_contra hn; rw [if_neg (fun h' => hn (.inr (.inr h'.1)))] at h; exact Nat.lt_irrefl 0 h

/-! ## The levels -/

def L (g : GSem nD τ sig) : Finset Unit := if g.1.2 = .tc then {()} else ∅
open Classical in
def lv (g : GSem nD τ sig) (_ : Unit) : ℕ :=
  if g.2 = .reg barS then 1 else if h : ∃ j : Job, g.2 = .dma (semOf (true, j)) then 2 + h.choose.1.val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (j : Job) : lv (cell (true, j) c) () = 2 + j.1.val := by
  have h : ∃ j' : Job, (cell (true, j) c).2 = .dma (semOf (true, j')) := ⟨j, rfl⟩
  unfold lv; rw [if_neg (dma_ne_bar (true, j)), dif_pos h]
  have e : semOf (true, h.choose) = semOf (true, j) := (SemLoc.dma.inj h.choose_spec).symm
  have e' : h.choose = j := congrArg Prod.snd (semOf_inj e)
  rw [e']

theorem mayWait_bar (c : Dev nD) (l : List Half) : (levAts L lv : sProp 𝕄) ⊢ MayWait (c : Thread nD τ) (.reg barS) () (owedL c l) :=
  MayOwe.of_cut (L := L) (lev := lv) 1 (fun x hx => by rw [Finset.mem_singleton.mp hx, L_tc]; exact Finset.mem_singleton_self _)
    (fun g u hg => by obtain ⟨q, -, a, rfl⟩ := owedL_pos hg; exact Finset.mem_singleton_self _)
    (fun x hx => by rw [Finset.mem_singleton.mp hx]; exact le_of_eq (lv_bar c))
    (fun g u hg => by obtain ⟨q, -, a, rfl⟩ := owedL_pos hg; rw [lv_recv]; omega)

theorem mayWait_recv (c : Dev nD) (j : Job) (l : List Half) (hl : ∀ q ∈ l, j.1 < q.1) :
    (levAts L lv : sProp 𝕄) ⊢ MayWait (c : Thread nD τ) (.dma (semOf (true, j))) () (owedL c l) :=
  MayOwe.of_cut (L := L) (lev := lv) (2 + j.1.val) (fun x hx => by rw [Finset.mem_singleton.mp hx, L_tc]; exact Finset.mem_singleton_self _)
    (fun g u hg => by obtain ⟨q, -, a, rfl⟩ := owedL_pos hg; exact Finset.mem_singleton_self _)
    (fun x hx => by rw [Finset.mem_singleton.mp hx]; exact le_of_eq (lv_recv c j))
    (fun g u hg => by
      obtain ⟨q, hq, a, rfl⟩ := owedL_pos hg
      rw [lv_recv]; have := hl q hq; exact Nat.add_lt_add_left this 2)

/-! ## The invariants -/

def barEmb : Dev nD ↪ GSem nD τ sig := ⟨fun c => barCell c, fun _ _ h => congrArg (fun g : GSem nD τ sig => g.1.1) h⟩
def dmaEmb : Dev nD × (Bool × Job) ↪ GSem nD τ sig :=
  ⟨fun x => cell x.2 x.1, fun _ _ h =>
    Prod.ext (congrArg (fun g : GSem nD τ sig => g.1.1) h) (semOf_inj (SemLoc.dma.inj (congrArg Prod.snd h)))⟩
abbrev barCells : Finset (GSem nD τ sig) := Finset.univ.map barEmb
abbrev dmaCells : Finset (GSem nD τ sig) := Finset.univ.map dmaEmb

/-- What every device may consult: every cell's invariant, under one map of names; and that every barrier cell is open. -/
def recs (κ : GSem nD τ sig → ℕ) : sProp 𝕄 :=
  iprop((bigSep (barCells ∪ dmaCells) fun g => cellInv ER (plan p) (κ g) g) ∗ bigSep barCells fun g => reached ER g 0)

instance recs_persistent (κ : GSem nD τ sig → ℕ) : BI.Persistent (recs p κ) := by unfold recs; infer_instance

theorem inv_bar (κ : GSem nD τ sig → ℕ) (c : Dev nD) : (recs p κ : sProp 𝕄) ⊢ cellInv ER (plan p) (κ (barCell c)) (barCell c) := by
  have h : (bigSep (barCells ∪ dmaCells) fun g => (cellInv ER (plan p) (κ g) g : sProp 𝕄)) ⊢ cellInv ER (plan p) (κ (barCell c)) (barCell c) :=
    bigSep_elim (Finset.mem_union_left _ (Finset.mem_map_of_mem barEmb (Finset.mem_univ c)))
  unfold recs
  iintro ⟨H, -⟩
  iapply h $$ H
theorem inv_dma (κ : GSem nD τ sig → ℕ) (k : Bool × Job) (c : Dev nD) : (recs p κ : sProp 𝕄) ⊢ cellInv ER (plan p) (κ (cell k c)) (cell k c) := by
  have h : (bigSep (barCells ∪ dmaCells) fun g => (cellInv ER (plan p) (κ g) g : sProp 𝕄)) ⊢ cellInv ER (plan p) (κ (cell k c)) (cell k c) :=
    bigSep_elim (Finset.mem_union_right _ (Finset.mem_map_of_mem dmaEmb (Finset.mem_univ (c, k))))
  unfold recs
  iintro ⟨H, -⟩
  iapply h $$ H
theorem reached_bar (κ : GSem nD τ sig → ℕ) (c : Dev nD) : (recs p κ : sProp 𝕄) ⊢ reached ER (barCell c) 0 := by
  have h : (bigSep barCells fun g => (reached ER g 0 : sProp 𝕄)) ⊢ reached ER (barCell c) 0 :=
    bigSep_elim (Finset.mem_map_of_mem barEmb (Finset.mem_univ c))
  unfold recs
  iintro ⟨-, H⟩
  iapply h $$ H

end Cert.Ring
-- ==== Proof.Steps.lean ====
/-
  The steps of the talk: a piece leaves, a piece arrives, a piece has left; by halves (a piece of `Wq` and one of `Wo`).
-/
module

public import proofs.«01_k».proof.Proof.Protocol

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What device `c` may run `prog` from, to reach `Kt`. -/
abbrev wpc {α : Type} (c : Dev nD) (prog : KProg F α) (Kt : α → sProp 𝕄) : sProp 𝕄 :=
  wp frame (wpE (defs₀ (F := F)) 𝒱₀ (c : Thread nD τ) none) Set.univ prog Kt

/-! ## What a device holds for a transfer -/

/-- To start it: the way, and the two duties' tokens. -/
def cap (c : Dev nD) (j : Job) : sProp 𝕄 :=
  iprop(grant (F := F) c j ∗ dutyTok ER (cell (false, j) c) 0 false ∗ reached ER (cell (false, j) c) 0 ∗ dutyTok ER (cell (true, j) (nxt j.1 c)) 0 false)
/-- To wait at one of its cells. -/
def ticket (c : Dev nD) (k : Bool × Job) : sProp 𝕄 := iprop(atPos ER (cell k c) 0 ∅ 0 ∗ cred (tallyAt (cell k c) () N))

/-- What a device owes, whatever it has waited on. -/
def owe (c : Dev nD) (O : CellTallies nD τ sig Unit) : sProp 𝕄 := iprop(∃ W, owes (c : Thread nD τ) O W)

variable (p : Parts F) (κ : GSem nD τ sig → ℕ)

/-- A piece leaves: `m` its place, `fs` the gathered array. -/
theorem wp_leave {sh : Shape} (a : Bool) (c n : Dev nD) (i : Fin 15) (s : Bool) (hn : n = nxt i c) (m : Memref sig .tc .vmem sh .bf16)
    (fs : (c' : Dev nD) → Buf (Elt F) (m.view.loc (c' : Thread nD τ)))
    (hp : ∀ (c' : Dev nD) q, (m.view.loc (c' : Thread nD τ) ↦[m.view.set]{q} fs c') = piece p a c' q (chunk (pre i) c) s)
    (ha : ∀ c' : Dev nD, anyPiece (F := F) a c' (chunk (pre i) c) s = iprop(∃ fd : Buf (Elt F) (m.view.loc (c' : Thread nD τ)), m.view.loc (c' : Thread nD τ) ↦[m.view.set]{fullShare} fd))
    (hl : ∀ (c' : Dev nD) (fd : Buf (Elt F) (m.view.loc (c' : Thread nD τ))), (m.view.loc (c' : Thread nD τ) ↦[m.view.set]{fullShare} (m.view.write (Elt F) fd (m.view.read (Elt F) (fs c)) Finset.univ))
      = piece p a c' fullShare (chunk (pre i) c) s)
    (hN : m.view.amount (.dma (rcvS a i s)) = N)
    {hsc : (m : Memref sig (Dev.tc n : Thread nD τ).2.kind .vmem _ _).view.ref.isScScratch = false}
    {hsrc hdst : m.view.WordExact}
    {hsem : DmaTarget.Typed .vmem (.dma (rcvS a i s)) (.remote (Dev.tc n : Thread nD τ) m (.dma (sndS a i s)) hsc)}
    (O : CellTallies nD τ sig Unit) (Kt : PUnit → sProp 𝕄) :
    iprop(recs p κ ∗ piece p a c (qT i) (chunk (pre i) c) s ∗ cap c (i, s, a) ∗ owe c (O + due c (i, s, a))
        ∗ (cred (tallyAt (cell (false, (i, s, a)) c) () N) ∗ owe c O -∗ Kt ⟨⟩))
      ⊢ wpc c (Prog.lift (.enqueueDma m (.remote (Dev.tc n) m (.dma (sndS a i s)) hsc) (.dma (rcvS a i s)) hsrc hdst hsem)) Kt := by
  subst hn
  have e₁ : ((c : Thread nD τ), SemLoc.dma (sndS a i s)) = cell (false, (i, s, a)) c := rfl
  have e₂ : ((nxt i c : Thread nD τ), SemLoc.dma (rcvS a i s)) = cell (true, (i, s, a)) (nxt i c) := rfl
  unfold wpc cap grant owe Prog.lift
  rw [ha]
  iintro ⟨#HR, Hp, ⟨⟨⟨%fd, Hd⟩, #HrV⟩, HtS, #HrS, HtV⟩, ⟨%W, HO⟩, Hk⟩
  ihave #HIs := (inv_dma p κ (false, (i, s, a)) c) $$ HR
  ihave #HIv := (inv_dma p κ (true, (i, s, a)) (nxt i c)) $$ HR
  iapply (Rounds.wp_send_pointsTo 𝒱₀ ER (plan p) (c : Thread nD τ) none (c' := (nxt i c : Thread nD τ)) (src := m) (dst := m)
      (sS := .dma (sndS a i s)) (sem := .dma (rcvS a i s)) (q := qT i) (fs := fs c)
      (κ₁ := κ (cell (false, (i, s, a)) c)) (κ₂ := κ (cell (true, (i, s, a)) (nxt i c)))
      (r₁ := 0) (r₂ := 0) (d₁ := false) (d₂ := false) (fd := fd)
      (by rw [e₁, duties_dma]; exact Finset.mem_singleton_self _)
      (by rw [e₂, duties_dma]; exact Finset.mem_singleton_self _)
      () () N hN (amount_dma p c (false, (i, s, a)) false) (amount_dma p (nxt i c) (true, (i, s, a)) false) O rfl (W := W)
      (by rw [hp]; exact Entails.of_eq (payload_dma p c (false, (i, s, a)) false).symm)
      (by rw [hl, chunk_pre]; exact Entails.of_eq (payload_dma p (nxt i c) (true, (i, s, a)) false).symm)) $$ [Hp Hd HO HtS HtV]
  · rw [hp, e₁, e₂]
    isplitr; · iexact HIs
    isplitr; · iexact HIv
    isplitl [Hp]; · iexact Hp
    isplitl [Hd]; · iexact Hd
    isplitl [HO]; · iexact HO
    isplitl [HtS]; · iexact HtS
    isplitr; · iexact HrS
    isplitl [HtV]; · iexact HtV
    iexact HrV
  rw [e₁]
  iintro ⟨Hc, HO⟩
  rw [wp_ret]
  imodintro
  iapply Hk
  isplitl [Hc]; · iexact Hc
  iexists W; iexact HO

theorem wp_sendW (c : Dev nD) (i : Fin 15) (s : Bool) (O : CellTallies nD τ sig Unit) (Kt : PUnit → sProp 𝕄) :
    iprop(recs p κ ∗ piece p false c (qT i) (chunk (pre i) c) s ∗ cap c (i, s, false) ∗ owe c (O + due c (i, s, false))
        ∗ (cred (tallyAt (cell (false, (i, s, false)) c) () N) ∗ owe c O -∗ Kt ⟨⟩))
      ⊢ wpc c (sendW c i s) Kt :=
  wp_leave p κ false c _ i s (dstD_eq i c) (pcW s c (pre i)) (fun _ => gW p) (fun _ _ => by rw [pcW_set]; rfl) (fun _ => by rw [pcW_set]; rfl)
    (fun c' fd => by rw [pcW_set, landW]) rfl O Kt

theorem wp_sendO (c : Dev nD) (i : Fin 15) (s : Bool) (O : CellTallies nD τ sig Unit) (Kt : PUnit → sProp 𝕄) :
    iprop(recs p κ ∗ piece p true c (qT i) (chunk (pre i) c) s ∗ cap c (i, s, true) ∗ owe c (O + due c (i, s, true))
        ∗ (cred (tallyAt (cell (false, (i, s, true)) c) () N) ∗ owe c O -∗ Kt ⟨⟩))
      ⊢ wpc c (sendO c i s) Kt :=
  wp_leave p κ true c _ i s (dstD_eq i c) (pcO s c (pre i)) (fun _ => gO p) (fun _ _ => by rw [pcO_set]; rfl) (fun _ => by rw [pcO_set]; rfl)
    (fun c' fd => by rw [pcO_set, landO]) rfl O Kt

/-- A wait for a piece at the cell `k`, above which is everything still owed. -/
theorem wp_await (c : Dev nD) (k : Bool × Job) {sh : Shape} (m : Memref sig .tc .vmem sh .bf16) (hN : m.view.dmaCredit = N)
    {h₁ h₂ : m.view.WordExact} (O : CellTallies nD τ sig Unit) (hO : (levAts L lv : sProp 𝕄) ⊢ MayWait (c : Thread nD τ) (.dma (semOf k)) () O)
    (Kt : PUnit → sProp 𝕄) :
    iprop(recs p κ ∗ levAts L lv ∗ ticket c k ∗ owe c O ∗ (pay p k c ∗ semVal (cell k c) 0 ∗ owe c O -∗ Kt ⟨⟩))
      ⊢ wpc c (Prog.lift (.waitDma2 (semOf k) m m h₁ h₂)) Kt := by
  unfold wpc ticket owe Prog.lift
  iintro ⟨#HR, #HL, ⟨Hat, Hc⟩, ⟨%W, HO⟩, Hk⟩
  ihave #HI := (inv_dma p κ k c) $$ HR
  iapply (Rounds.wp_wait_rest_token 𝒱₀ ER (plan p) (c : Thread nD τ) none (κ := κ (cell k c))
      (wpE_waitDma2_eq 𝒱₀ (c : Thread nD τ) none Set.univ) (Set.mem_univ _) () (O := O) (W := W) (R := 0) (m := 0) (T := ∅)
      ((Nat.zero_add _).trans (hN.trans (expect_dma p c k).symm))) $$ [Hat Hc HO]
  · rw [hN]
    isplitr; · iexact HI
    isplitl [Hc]; · iexact Hc
    isplitl [HO]; · iexact HO
    isplitr; · iapply hO $$ HL
    iexact Hat
  rw [show ((c : Thread nD τ), SemLoc.dma (semOf k)) = cell k c from rfl, rest_dma]
  iintro ⟨HO, Hat, -, Hp⟩
  rw [wp_ret]
  imod (Rounds.cell_close ER (plan p) (Set.mem_univ (κ (cell k c))) id (duties_later p (cell k c))) $$ [Hat] with Hv
  · isplitr; · iexact HI
    iexact Hat
  imodintro
  iapply Hk
  isplitl [Hp]; · iexact Hp
  isplitl [Hv]; · iexact Hv
  iexists _; iexact HO

/-! ## Halves -/

def both (c : Dev nD) (q : PosShare TreeShare) (k : Fin 16) (s : Bool) : sProp 𝕄 := iprop(piece p false c q k s ∗ piece p true c q k s)
/-- What it takes to send a half, and to wait until it has left. -/
def caps (c : Dev nD) (h : Half) : sProp 𝕄 :=
  iprop((cap (F := F) c (h.1, h.2, false) ∗ atPos ER (cell (false, (h.1, h.2, false)) c) 0 ∅ 0)
    ∗ cap (F := F) c (h.1, h.2, true) ∗ atPos ER (cell (false, (h.1, h.2, true)) c) 0 ∅ 0)
def tickets (c : Dev nD) (b : Bool) (h : Half) : sProp 𝕄 :=
  iprop(ticket (F := F) c (b, (h.1, h.2, false)) ∗ ticket (F := F) c (b, (h.1, h.2, true)))
/-- Both cells are done with. -/
def shut (c : Dev nD) (b : Bool) (h : Half) : sProp 𝕄 :=
  iprop(semVal (cell (b, (h.1, h.2, false)) c) 0 ∗ semVal (cell (b, (h.1, h.2, true)) c) 0)

theorem both_share (c : Dev nD) (q : PosShare TreeShare) (k : Fin 16) (s : Bool) : both p c q k s ⊣⊢ iprop(both p c q.left k s ∗ both p c q.right k s) := by
  have h₁ := piece_share p false c q k s
  have h₂ := piece_share p true c q k s
  unfold both
  constructor
  · iintro ⟨H₁, H₂⟩
    ihave ⟨A, B⟩ := h₁.1 $$ H₁
    ihave ⟨C, D⟩ := h₂.1 $$ H₂
    isplitl [A C]
    · isplitl [A] <;> iassumption
    isplitl [B] <;> iassumption
  · iintro ⟨⟨A, C⟩, B, D⟩
    isplitl [A B]
    · iapply h₁.2; isplitl [A] <;> iassumption
    iapply h₂.2; isplitl [C] <;> iassumption

theorem wp_send (c : Dev nD) (i : Fin 15) (s : Bool) (l : List Half) (Kt : PUnit → sProp 𝕄) :
    iprop(recs p κ ∗ both p c (qT i) (chunk (pre i) c) s ∗ caps c (i, s) ∗ owe c (owedL c ((i, s) :: l))
        ∗ (tickets c false (i, s) ∗ owe c (owedL c l) -∗ Kt ⟨⟩))
      ⊢ wpc c (send c i s) Kt := by
  unfold both caps tickets ticket send wpc
  simp only [owedL]
  rw [wp_bind]
  iintro ⟨#HR, ⟨HW, HO⟩, ⟨⟨HcW, HaW⟩, HcO, HaO⟩, Ho, Hk⟩
  iapply (wp_sendW p κ c i s)
  isplitr; · iexact HR
  isplitl [HW]; · iexact HW
  isplitl [HcW]; · iexact HcW
  isplitl [Ho]; · iexact Ho
  iintro ⟨HtW, Ho⟩
  iapply (wp_sendO p κ c i s)
  isplitr; · iexact HR
  isplitl [HO]; · iexact HO
  isplitl [HcO]; · iexact HcO
  isplitl [Ho]; · iexact Ho
  iintro ⟨HtO, Ho⟩
  iapply Hk
  isplitr [Ho]
  · isplitl [HtW HaW]
    · isplitl [HaW] <;> iassumption
    isplitl [HaO] <;> iassumption
  iexact Ho

theorem wp_arrive (c : Dev nD) (i : Fin 15) (s : Bool) (l : List Half) (hl : ∀ q ∈ l, i < q.1) (Kt : PUnit → sProp 𝕄) :
    iprop(recs p κ ∗ levAts L lv ∗ tickets c true (i, s) ∗ owe c (owedL c l)
        ∗ (both p c fullShare (chunk (rnd i) c) s ∗ shut c true (i, s) ∗ owe c (owedL c l) -∗ Kt ⟨⟩))
      ⊢ wpc c (arrive c i s) Kt := by
  unfold both shut tickets arrive wpc
  rw [wp_bind]
  iintro ⟨#HR, #HL, ⟨HtW, HtO⟩, Ho, Hk⟩
  iapply (wp_await p κ c (true, (i, s, false)) (pcW s c (rnd i)) rfl (owedL c l) (mayWait_recv c (i, s, false) l hl))
  isplitr; · iexact HR
  isplitr; · iexact HL
  isplitl [HtW]; · iexact HtW
  isplitl [Ho]; · iexact Ho
  iintro ⟨HpW, HsW, Ho⟩
  iapply (wp_await p κ c (true, (i, s, true)) (pcO s c (rnd i)) rfl (owedL c l) (mayWait_recv c (i, s, true) l hl))
  isplitr; · iexact HR
  isplitr; · iexact HL
  isplitl [HtO]; · iexact HtO
  isplitl [Ho]; · iexact Ho
  iintro ⟨HpO, HsO, Ho⟩
  iapply Hk
  isplitl [HpW HpO]
  · simp only [pay]
    isplitl [HpW]; · iexact HpW
    iexact HpO
  isplitr [Ho]
  · isplitl [HsW] <;> iassumption
  iexact Ho

theorem wp_sent (c : Dev nD) (i : Fin 15) (s : Bool) (Kt : PUnit → sProp 𝕄) :
    iprop(recs p κ ∗ levAts L lv ∗ tickets c false (i, s) ∗ owe c 0
        ∗ (both p c (qT i) (chunk (pre i) c) s ∗ shut c false (i, s) ∗ owe c 0 -∗ Kt ⟨⟩))
      ⊢ wpc c (sent c i s) Kt := by
  unfold both shut tickets sent wpc
  rw [wp_bind]
  iintro ⟨#HR, #HL, ⟨HtW, HtO⟩, Ho, Hk⟩
  iapply (wp_await p κ c (false, (i, s, false)) (pcW s c (pre i)) rfl 0 (by rw [MayWait_zero]; iintro -; iempintro))
  isplitr; · iexact HR
  isplitr; · iexact HL
  isplitl [HtW]; · iexact HtW
  isplitl [Ho]; · iexact Ho
  iintro ⟨HpW, HsW, Ho⟩
  iapply (wp_await p κ c (false, (i, s, true)) (pcO s c (pre i)) rfl 0 (by rw [MayWait_zero]; iintro -; iempintro))
  isplitr; · iexact HR
  isplitr; · iexact HL
  isplitl [HtO]; · iexact HtO
  isplitl [Ho]; · iexact Ho
  iintro ⟨HpO, HsO, Ho⟩
  iapply Hk
  isplitl [HpW HpO]
  · simp only [pay]
    isplitl [HpW]; · iexact HpW
    iexact HpO
  isplitr [Ho]
  · isplitl [HsW] <;> iassumption
  iexact Ho

/-- A half arrives and goes on: half of each piece is kept to compute with. -/
theorem wp_relay (c : Dev nD) (i i' : Fin 15) (hi : i'.val = i.val + 2) (s : Bool) (l : List Half) (hl : ∀ q ∈ (i', s) :: l, i < q.1) (Kt : PUnit → sProp 𝕄) :
    iprop(recs p κ ∗ levAts L lv ∗ tickets c true (i, s) ∗ caps c (i', s) ∗ owe c (owedL c ((i', s) :: l))
        ∗ (both p c fullShare.left (chunk (rnd i) c) s ∗ shut c true (i, s) ∗ tickets c false (i', s) ∗ owe c (owedL c l) -∗ Kt ⟨⟩))
      ⊢ wpc c (relay c i i' s) Kt := by
  have e : pre i' = rnd i := Fin.ext (show i'.val - 1 = i.val + 1 by omega)
  unfold relay wpc
  rw [wp_bind]
  iintro ⟨#HR, #HL, Ht, Hc, Ho, Hk⟩
  iapply (wp_arrive p κ c i s ((i', s) :: l) hl)
  isplitr; · iexact HR
  isplitr; · iexact HL
  isplitl [Ht]; · iexact Ht
  isplitl [Ho]; · iexact Ho
  iintro ⟨Hp, Hs, Ho⟩
  ihave ⟨Hl, Hr⟩ := (both_share p c fullShare (chunk (rnd i) c) s).1 $$ Hp
  iapply (wp_send p κ c i' s l)
  isplitr; · iexact HR
  isplitl [Hr]; · rw [e, qT_pos (i := i') (by omega)]; iexact Hr
  isplitl [Hc]; · iexact Hc
  isplitl [Ho]; · iexact Ho
  iintro ⟨Ht, Ho⟩
  iapply Hk
  isplitl [Hl]; · iexact Hl
  isplitl [Hs]; · iexact Hs
  isplitl [Ht]; · iexact Ht
  iexact Ho

end Cert.Ring
-- ==== Proof.Blocks.lean ====
/-
  One block's contribution: what is loaded, and what the result holds after.
-/
module

public import proofs.«01_k».proof.Proof.Steps
public import Idealize.ShloMosaic.Lib.Pipeline.ValueKit.Geometry

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Device `c` holds the buffer `b`, at `f`. -/
abbrev at' (c : Dev nD) (b : Ref sig .tc) (f : b.ty.Contents (Elt F)) : sProp 𝕄 := (((c : Thread nD τ).loc b) ↦{fullShare} f)

/-- Head `h` of block `k`. -/
def hdOf (k : Fin 16) (h : Fin 4) : Fin 64 := ⟨4 * k.val + h.val, by omega⟩
/-- One head's keys, and values, of batch `b`. -/
def kOf (K : Vec F S2x64x64x256 .bf16) (b : Fin 2) (n : Fin 64) : Vec F S1x1x64x256 .bf16 := fun i => K (ix4 b n (i 2) (i 3))
def vOf (V : Vec F S2x64x256x64 .bf16) (b : Fin 2) (n : Fin 64) : Vec F S1x1x256x64 .bf16 := fun i => V (ix4 b n (i 2) (i 3))

variable (p : Parts F)

theorem gW_block (k : Fin 16) : (wM.access (Rect.unit (s := S512x4096) ![0, 256 * k.val] S512x256.size (inWB k))).read (Elt F) (gW p) = p.A k := by
  funext i
  have h1 : (i 1).val < 256 := (i 1).isLt
  have e : ∀ a, (((Rect.unit (s := S512x4096) ![0, 256 * k.val] S512x256.size (inWB k)).emb i) a).val = (![0, 256 * k.val] : Fin 2 → ℕ) a + (i a).val :=
    fun a => ValueKit.rect_emb_unit_val _ _ _ i a
  have e0 := e 0
  have e1 := e 1
  simp only [Matrix.cons_val_zero, Matrix.cons_val_one, Nat.zero_add] at e0 e1
  show gW p ((Rect.unit (s := S512x4096) ![0, 256 * k.val] S512x256.size (inWB k)).emb i) = p.A k i
  unfold gW
  congr 1
  · congr 1; rw [e1]; omega
  · funext a
    match a with
    | ⟨0, _⟩ => exact Fin.ext e0
    | ⟨1, _⟩ => apply Fin.ext; show _ % 256 = (i 1).val; rw [e1]; omega

theorem gO_block (k : Fin 16) : (oM.access (Rect.unit (s := S4096x512) ![256 * k.val, 0] S256x512.size (inOB k))).read (Elt F) (gO p) = p.B k := by
  funext i
  have h1 : (i 0).val < 256 := (i 0).isLt
  have e : ∀ a, (((Rect.unit (s := S4096x512) ![256 * k.val, 0] S256x512.size (inOB k)).emb i) a).val = (![256 * k.val, 0] : Fin 2 → ℕ) a + (i a).val :=
    fun a => ValueKit.rect_emb_unit_val _ _ _ i a
  have e0 := e 0
  have e1 := e 1
  simp only [Matrix.cons_val_zero, Matrix.cons_val_one, Nat.zero_add] at e0 e1
  show gO p ((Rect.unit (s := S4096x512) ![256 * k.val, 0] S256x512.size (inOB k)).emb i) = p.B k i
  unfold gO
  congr 1
  · congr 1; rw [e0]; omega
  · funext a
    match a with
    | ⟨0, _⟩ => apply Fin.ext; show _ % 256 = (i 0).val; rw [e0]; omega
    | ⟨1, _⟩ => exact Fin.ext e1

/-- A load, from the elements `S` of a buffer that include those read. -/
theorem wp_read {cs : CoreSpace} {sh : Shape} {e : EltTy} (c : Dev nD) (m : Memref sig .tc cs sh e) (r : Rect sh) {hl : m.view.LoadsAt r.toLoadRect}
    {S : Finset (Idx ((m.access r).loc (c : Thread nD τ)))} (q : PosShare TreeShare) (f : Buf (Elt F) ((m.access r).loc (c : Thread nD τ)))
    (hS : (m.access r).set ⊆ S) (w : r.shape.Idx → Elt F e) (hw : (m.access r).read (Elt F) f = w) (Kt : (r.shape.Idx → Elt F e) → sProp 𝕄) :
    iprop(((m.access r).loc (c : Thread nD τ) ↦[S]{q} f) ∗ (((m.access r).loc (c : Thread nD τ) ↦[S]{q} f) -∗ Kt w))
      ⊢ wpc c (Prog.lift (.load m r.toLoadRect hl)) Kt := by
  subst hw
  unfold wpc Prog.lift
  iintro ⟨H, Hk⟩
  iapply (wp_load_rect 𝒱₀ (c : Thread nD τ) none Set.univ (m := m) (S := S) (f := f) hS) $$ H
  iintro H
  rw [wp_ret]
  imodintro
  iapply Hk $$ H

/-- A store, into the elements `S` of a buffer that include those written. -/
theorem wp_write {cs : CoreSpace} {sh : Shape} {e : EltTy} (c : Dev nD) (m : Memref sig .tc cs sh e) (r : Rect sh) (w : r.shape.Idx → Elt F e)
    {hx : (m.access r).Stores Finset.univ} {hm}
    {S : Finset (Idx ((m.access r).loc (c : Thread nD τ)))} (f : Buf (Elt F) ((m.access r).loc (c : Thread nD τ)))
    (hS : (m.access r).set ⊆ S) (g : Buf (Elt F) ((m.access r).loc (c : Thread nD τ))) (hg : (m.access r).write (Elt F) f w Finset.univ = g) (Kt : PUnit → sProp 𝕄) :
    iprop(((m.access r).loc (c : Thread nD τ) ↦[S]{fullShare} f)
        ∗ (((m.access r).loc (c : Thread nD τ) ↦[S]{fullShare} g) -∗ Kt ⟨⟩))
      ⊢ wpc c (Prog.lift (.store m r w Finset.univ hx hm)) Kt := by
  subst hg
  unfold wpc Prog.lift
  iintro ⟨H, Hk⟩
  iapply (wp_store 𝒱₀ (c : Thread nD τ) none Set.univ (m := m) (S := S) (f := f) (by rw [View.setOn_univ]; exact hS)) $$ H
  iintro H
  rw [wp_ret]
  imodintro
  iapply Hk $$ H

theorem wp_loadW (c : Dev nD) (q : PosShare TreeShare) (k : Fin 16) (o : Fin 2 → ℕ) (h) (ho : o = ![0, 256 * k.val]) (Kt : Vec F S512x256 .bf16 → sProp 𝕄) :
    iprop((((c : Thread nD τ).loc cc0_scratch0) ↦[blkW k]{q} gW p) ∗ ((((c : Thread nD τ).loc cc0_scratch0) ↦[blkW k]{q} gW p) -∗ Kt (p.A k)))
      ⊢ wpc c (loadW o h) Kt := by
  subst ho
  exact wp_read c wM (Rect.unit (s := S512x4096) ![0, 256 * k.val] S512x256.size h) (S := blkW k) q (gW p) (by rw [View.set_slice]; exact Finset.map_refl.subset) (p.A k) (gW_block p k) Kt

theorem wp_loadO (c : Dev nD) (q : PosShare TreeShare) (k : Fin 16) (o : Fin 2 → ℕ) (h) (ho : o = ![256 * k.val, 0]) (Kt : Vec F S256x512 .bf16 → sProp 𝕄) :
    iprop((((c : Thread nD τ).loc cc0_scratch1) ↦[blkO k]{q} gO p) ∗ ((((c : Thread nD τ).loc cc0_scratch1) ↦[blkO k]{q} gO p) -∗ Kt (p.B k)))
      ⊢ wpc c (loadO o h) Kt := by
  subst ho
  exact wp_read c oM (Rect.unit (s := S4096x512) ![256 * k.val, 0] S256x512.size h) (S := blkO k) q (gO p) (by rw [View.set_slice]; exact Finset.map_refl.subset) (p.B k) (gO_block p k) Kt

theorem wp_loadK (c : Dev nD) (K : Vec F S2x64x64x256 .bf16) (b : Fin 2) (n : Fin 64) (o : Fin 4 → ℕ) (h) (ho : o = ![b.val, n.val, 0, 0])
    (Kt : Vec F S1x1x64x256 .bf16 → sProp 𝕄) :
    iprop(at' c cc0_stg3_0 K ∗ (at' c cc0_stg3_0 K -∗ Kt (kOf K b n))) ⊢ wpc c (loadK o h) Kt := by
  subst ho
  refine wp_read c kM (Rect.unit (s := S2x64x64x256) ![b.val, n.val, 0, 0] S1x1x64x256.size h) (S := Finset.univ) fullShare K (Finset.subset_univ _) (kOf K b n) (funext fun i => congrArg K (funext fun a => Fin.ext ?_)) Kt
  have h0 : (i 0).val = 0 := by have : (i 0).val < 1 := (i 0).isLt; omega
  have h1 : (i 1).val = 0 := by have : (i 1).val < 1 := (i 1).isLt; omega
  refine (ValueKit.rect_emb_unit_val _ _ _ i a).trans ?_
  match a with
  | ⟨0, _⟩ => exact congrArg (b.val + ·) h0
  | ⟨1, _⟩ => exact congrArg (n.val + ·) h1
  | ⟨2, _⟩ => exact Nat.zero_add _
  | ⟨3, _⟩ => exact Nat.zero_add _

theorem wp_loadV (c : Dev nD) (V : Vec F S2x64x256x64 .bf16) (b : Fin 2) (n : Fin 64) (o : Fin 4 → ℕ) (h) (ho : o = ![b.val, n.val, 0, 0])
    (Kt : Vec F S1x1x256x64 .bf16 → sProp 𝕄) :
    iprop(at' c cc0_stg4_0 V ∗ (at' c cc0_stg4_0 V -∗ Kt (vOf V b n))) ⊢ wpc c (loadV o h) Kt := by
  subst ho
  refine wp_read c vM (Rect.unit (s := S2x64x256x64) ![b.val, n.val, 0, 0] S1x1x256x64.size h) (S := Finset.univ) fullShare V (Finset.subset_univ _) (vOf V b n) (funext fun i => congrArg V (funext fun a => Fin.ext ?_)) Kt
  have h0 : (i 0).val = 0 := by have : (i 0).val < 1 := (i 0).isLt; omega
  have h1 : (i 1).val = 0 := by have : (i 1).val < 1 := (i 1).isLt; omega
  refine (ValueKit.rect_emb_unit_val _ _ _ i a).trans ?_
  match a with
  | ⟨0, _⟩ => exact congrArg (b.val + ·) h0
  | ⟨1, _⟩ => exact congrArg (n.val + ·) h1
  | ⟨2, _⟩ => exact Nat.zero_add _
  | ⟨3, _⟩ => exact Nat.zero_add _

theorem zero3 : (![0, 0, 0] : Fin 3 → ℕ) = fun _ => 0 := by funext a; fin_cases a <;> rfl
theorem zero2 : (![0, 0] : Fin 2 → ℕ) = fun _ => 0 := by funext a; fin_cases a <;> rfl

theorem wp_loadY (c : Dev nD) (y : Vec F S2x256x512 .f32) (Kt : Vec F S2x256x512 .f32 → sProp 𝕄) :
    iprop(at' c cc0_stg5_0 y ∗ (at' c cc0_stg5_0 y -∗ Kt y)) ⊢ wpc c loadY Kt :=
  wp_read c yM (Rect.unit (s := S2x256x512) ![0, 0, 0] S2x256x512.size inb_S2x256x512_S2x256x512_0_0_0) (S := Finset.univ) fullShare y (Finset.subset_univ _) y (Memref.read_access_unit_zero (Elt F) cc0_stg5_0 zero3 _ y) Kt

theorem wp_storeY (c : Dev nD) (y w : Vec F S2x256x512 .f32) (Kt : PUnit → sProp 𝕄) :
    iprop(at' c cc0_stg5_0 y ∗ (at' c cc0_stg5_0 w -∗ Kt ⟨⟩)) ⊢ wpc c (storeY w) Kt :=
  wp_write c yM (Rect.unit (s := S2x256x512) ![0, 0, 0] S2x256x512.size inb_S2x256x512_S2x256x512_0_0_0) w (S := Finset.univ) y (Finset.subset_univ _) w
    (Memref.write_access_unit_zero_univ (Elt F) cc0_stg5_0 zero3 _ y w) Kt

/-- A head's keys and values. -/
theorem wp_loadKV {α : Type} (c : Dev nD) (K : Vec F S2x64x64x256 .bf16) (V : Vec F S2x64x256x64 .bf16) (b : Fin 2) (n : Fin 64) (o o' : Fin 4 → ℕ) (h h')
    (ho : o = ![b.val, n.val, 0, 0]) (ho' : o' = ![b.val, n.val, 0, 0])
    (f : Vec F S1x1x64x256 .bf16 → Vec F S1x1x256x64 .bf16 → KProg F α) (Kt : α → sProp 𝕄) :
    iprop((at' c cc0_stg3_0 K ∗ at' c cc0_stg4_0 V) ∗ ((at' c cc0_stg3_0 K ∗ at' c cc0_stg4_0 V) -∗ wpc c (f (kOf K b n) (vOf V b n)) Kt))
      ⊢ wpc c (do let k ← loadK o h; let v ← loadV o' h'; f k v) Kt := by
  unfold wpc
  rw [wp_bind]
  iintro ⟨⟨HK, HV⟩, Hk⟩
  iapply (wp_loadK c K b n o h ho)
  isplitl [HK]; · iexact HK
  iintro HK
  rw [wp_bind]
  iapply (wp_loadV c V b n o' h' ho')
  isplitl [HV]; · iexact HV
  iintro HV
  iapply Hk
  isplitl [HK] <;> iassumption

/-- The result once block `k` has been added. -/
def step (K : Vec F S2x64x64x256 .bf16) (V : Vec F S2x64x256x64 .bf16) (x : FVec F S512x512 .bf16) (y : Vec F S2x256x512 .f32) (k : Fin 16) : Vec F S2x256x512 .f32 :=
  addf (shapeCast S2x256x512 y shapeCasts_S2x256x512_S2x256x512)
    (contrib x (p.A k) (p.B k)
      ![kOf K 0 (hdOf k 0), kOf K 0 (hdOf k 1), kOf K 0 (hdOf k 2), kOf K 0 (hdOf k 3)]
      ![kOf K 1 (hdOf k 0), kOf K 1 (hdOf k 1), kOf K 1 (hdOf k 2), kOf K 1 (hdOf k 3)]
      ![vOf V 0 (hdOf k 0), vOf V 0 (hdOf k 1), vOf V 0 (hdOf k 2), vOf V 0 (hdOf k 3)]
      ![vOf V 1 (hdOf k 0), vOf V 1 (hdOf k 1), vOf V 1 (hdOf k 2), vOf V 1 (hdOf k 3)])

/-- What a device computes with and into. -/
def desk (c : Dev nD) (K : Vec F S2x64x64x256 .bf16) (V : Vec F S2x64x256x64 .bf16) (y : Vec F S2x256x512 .f32) : sProp 𝕄 :=
  iprop((at' c cc0_stg3_0 K ∗ at' c cc0_stg4_0 V) ∗ at' c cc0_stg5_0 y)

theorem wp_block (c : Dev nD) (q : PosShare TreeShare) (k : Fin 16) (K : Vec F S2x64x64x256 .bf16) (V : Vec F S2x64x256x64 .bf16) (y : Vec F S2x256x512 .f32)
    (x : FVec F S512x512 .bf16)
    (oW hW oO hO oK hK oV hV)
    (eW : oW = ![0, 256 * k.val]) (eO : oO = ![256 * k.val, 0])
    (eK : ∀ b h, oK b h = ![b.toNat, (hdOf k h).val, 0, 0]) (eV : ∀ b h, oV b h = ![b.toNat, (hdOf k h).val, 0, 0]) (Kt : PUnit → sProp 𝕄) :
    iprop(blocks p c q k ∗ desk c K V y ∗ (blocks p c q k ∗ desk c K V (step p K V x y k) -∗ Kt ⟨⟩))
      ⊢ wpc c (block x oW hW oO hO oK hK oV hV) Kt := by
  unfold blocks desk block wpc
  iintro ⟨⟨HW, HO⟩, ⟨HKV, HY⟩, Hk⟩
  rw [wp_bind]
  iapply (wp_loadW p c q k oW hW eW)
  isplitl [HW]; · iexact HW
  iintro HW
  rw [wp_bind]
  iapply (wp_loadO p c q k oO hO eO)
  isplitl [HO]; · iexact HO
  iintro HO
  iapply (wp_loadKV c K V 0 (hdOf k 0) _ _ _ _ (eK false 0) (eV false 0)); isplitl [HKV]; · iexact HKV
  iintro HKV
  iapply (wp_loadKV c K V 0 (hdOf k 1) _ _ _ _ (eK false 1) (eV false 1)); isplitl [HKV]; · iexact HKV
  iintro HKV
  iapply (wp_loadKV c K V 0 (hdOf k 2) _ _ _ _ (eK false 2) (eV false 2)); isplitl [HKV]; · iexact HKV
  iintro HKV
  iapply (wp_loadKV c K V 0 (hdOf k 3) _ _ _ _ (eK false 3) (eV false 3)); isplitl [HKV]; · iexact HKV
  iintro HKV
  iapply (wp_loadKV c K V 1 (hdOf k 0) _ _ _ _ (eK true 0) (eV true 0)); isplitl [HKV]; · iexact HKV
  iintro HKV
  iapply (wp_loadKV c K V 1 (hdOf k 1) _ _ _ _ (eK true 1) (eV true 1)); isplitl [HKV]; · iexact HKV
  iintro HKV
  iapply (wp_loadKV c K V 1 (hdOf k 2) _ _ _ _ (eK true 2) (eV true 2)); isplitl [HKV]; · iexact HKV
  iintro HKV
  iapply (wp_loadKV c K V 1 (hdOf k 3) _ _ _ _ (eK true 3) (eV true 3)); isplitl [HKV]; · iexact HKV
  iintro HKV
  unfold wpc
  rw [wp_bind]
  iapply (wp_loadY c y)
  isplitl [HY]; · iexact HY
  iintro HY
  rw [wp_bind]
  iapply (wp_loadY c y)
  isplitl [HY]; · iexact HY
  iintro HY
  iapply (wp_storeY c y)
  isplitl [HY]; · iexact HY
  iintro HY
  iapply Hk
  isplitl [HW HO]
  · isplitl [HW] <;> iassumption
  isplitl [HKV]; · iexact HKV
  unfold step
  iexact HY

theorem wp_ownBlock (c : Dev nD) (q : PosShare TreeShare) (K : Vec F S2x64x64x256 .bf16) (V : Vec F S2x64x256x64 .bf16) (y : Vec F S2x256x512 .f32)
    (x : FVec F S512x512 .bf16) (Kt : PUnit → sProp 𝕄) :
    iprop(blocks p c q (chunk 0 c) ∗ desk c K V y ∗ (blocks p c q (chunk 0 c) ∗ desk c K V (step p K V x y (chunk 0 c)) -∗ Kt ⟨⟩))
      ⊢ wpc c (ownBlock c x) Kt := by
  rw [chunk_zero]
  exact wp_block p c q c K V y x _ _ _ _ _ _ _ _ (off1_eq c) (off2_eq c)
    (fun b h => by cases b; exacts [off7_eq c h, off9_eq c h]) (fun b h => by cases b; exacts [off8_eq c h, off10_eq c h]) Kt

theorem wp_gotBlock (c : Dev nD) (q : PosShare TreeShare) (i : Fin 15) (K : Vec F S2x64x64x256 .bf16) (V : Vec F S2x64x256x64 .bf16) (y : Vec F S2x256x512 .f32)
    (x : FVec F S512x512 .bf16) (Kt : PUnit → sProp 𝕄) :
    iprop(blocks p c q (chunk (rnd i) c) ∗ desk c K V y ∗ (blocks p c q (chunk (rnd i) c) ∗ desk c K V (step p K V x y (chunk (rnd i) c)) -∗ Kt ⟨⟩))
      ⊢ wpc c (gotBlock c x i) Kt :=
  wp_block p c q (chunk (rnd i) c) K V y x _ _ _ _ _ _ _ _ (t11_eq c i) (t12_eq c i)
    (fun b h => by cases b; exacts [t13_eq c i h, t15_eq c i h]) (fun b h => by cases b; exacts [t14_eq c i h, t16_eq c i h]) Kt

end Cert.Ring
-- ==== Proof.Opening.lean ====
/-
  The opening: the neighbours are told they may write here, the own block is put where the whole is gathered, the result is cleared.
-/
module

public import proofs.«01_k».proof.Proof.Blocks
public import Idealize.ShloMosaic.Lib.Pipeline.Value

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The own block and the others' -/

theorem rnd_or (k : Fin 16) (c : Dev nD) : k = c ∨ ∃ i, chunk (rnd i) c = k := by revert k c; decide +kernel
theorem rnd_ne (i : Fin 15) (c : Dev nD) : chunk (rnd i) c ≠ c := by revert i c; decide +kernel
theorem rnd_inj (c : Dev nD) {i i' : Fin 15} (h : chunk (rnd i) c = chunk (rnd i') c) : i = i' :=
  Fin.ext (Nat.succ_injective (congrArg Fin.val (chunk_inj c _ _ h)))

theorem halves_disj (c : Dev nD) (h h' : Half) (n : h ≠ h') : (chunk (rnd h.1) c, h.2) ≠ (chunk (rnd h'.1) c, h'.2) := fun e =>
  n (Prod.ext (rnd_inj c (Prod.ext_iff.1 e).1) (Prod.ext_iff.1 e).2)

/-- The gathered whole, at anything: the own block, and a place for each half that arrives. -/
theorem splitW (c : Dev nD) (f : Buf (Elt F) ((c : Thread nD τ).loc cc0_scratch0)) :
    (((c : Thread nD τ).loc cc0_scratch0) ↦{fullShare} f : sProp 𝕄)
      ⊢ iprop((((c : Thread nD τ).loc cc0_scratch0) ↦[blkW c]{fullShare} f) ∗ bigSep Finset.univ fun h : Half => anyPiece (F := F) false c (chunk (rnd h.1) c) h.2) := by
  have hU : (Finset.univ : Finset S512x4096.Idx) = blkW c ∪ Finset.univ.biUnion fun h : Half => setW (chunk (rnd h.1) c) h.2 := by
    ext i
    simp only [Finset.mem_univ, Finset.mem_union, Finset.mem_biUnion, true_and, true_iff]
    have h0 : (i 0).val < 512 := (i 0).isLt
    have h1 : (i 1).val < 4096 := (i 1).isLt
    rcases rnd_or ⟨(i 1).val / 256, by omega⟩ c with e | ⟨r, e⟩
    · exact .inl ((mem_blkW _ i).2 (congrArg Fin.val e))
    · refine .inr ⟨(r, decide ((i 0).val / 256 = 1)), (mem_setW _ _ i).2 ⟨?_, (congrArg Fin.val e).symm⟩⟩
      by_cases h : (i 0).val / 256 = 1
      · simp [h]
      · simp [h]; omega
  have hd : Disjoint (blkW c) (Finset.univ.biUnion fun h : Half => setW (chunk (rnd h.1) c) h.2) :=
    Finset.disjoint_left.2 fun i hi hi' => by
      obtain ⟨h, -, hh⟩ := Finset.mem_biUnion.1 hi'
      exact rnd_ne h.1 c (Fin.ext (((mem_setW _ _ i).1 hh).2.symm.trans ((mem_blkW _ i).1 hi)))
  have e : (((c : Thread nD τ).loc cc0_scratch0) ↦{fullShare} f : sProp 𝕄)
      ⊢ iprop((((c : Thread nD τ).loc cc0_scratch0) ↦[blkW c]{fullShare} f)
        ∗ ((c : Thread nD τ).loc cc0_scratch0) ↦[Finset.univ.biUnion fun h : Half => setW (chunk (rnd h.1) c) h.2]{fullShare} f) := by
    show (((c : Thread nD τ).loc cc0_scratch0) ↦[(Finset.univ : Finset S512x4096.Idx)]{fullShare} f : sProp 𝕄) ⊢ _
    rw [hU]; exact (pointsTo_union hd).1
  rw [pointsTo_biUnion _ _ (fun t _ t' _ h => setW_disj _ _ (halves_disj c t t' h))] at e
  exact BIBase.Entails.trans e (BIClass.sep_mono BIBase.Entails.refl (BI.bigSep_mono fun h _ => any_intro0 c _ h.2 f))

theorem splitO (c : Dev nD) (f : Buf (Elt F) ((c : Thread nD τ).loc cc0_scratch1)) :
    (((c : Thread nD τ).loc cc0_scratch1) ↦{fullShare} f : sProp 𝕄)
      ⊢ iprop((((c : Thread nD τ).loc cc0_scratch1) ↦[blkO c]{fullShare} f) ∗ bigSep Finset.univ fun h : Half => anyPiece (F := F) true c (chunk (rnd h.1) c) h.2) := by
  have hU : (Finset.univ : Finset S4096x512.Idx) = blkO c ∪ Finset.univ.biUnion fun h : Half => setO (chunk (rnd h.1) c) h.2 := by
    ext i
    simp only [Finset.mem_univ, Finset.mem_union, Finset.mem_biUnion, true_and, true_iff]
    have h0 : (i 1).val < 512 := (i 1).isLt
    have h1 : (i 0).val < 4096 := (i 0).isLt
    rcases rnd_or ⟨(i 0).val / 256, by omega⟩ c with e | ⟨r, e⟩
    · exact .inl ((mem_blkO _ i).2 (congrArg Fin.val e))
    · refine .inr ⟨(r, decide ((i 1).val / 256 = 1)), (mem_setO _ _ i).2 ⟨(congrArg Fin.val e).symm, ?_⟩⟩
      by_cases h : (i 1).val / 256 = 1
      · simp [h]
      · simp [h]; omega
  have hd : Disjoint (blkO c) (Finset.univ.biUnion fun h : Half => setO (chunk (rnd h.1) c) h.2) :=
    Finset.disjoint_left.2 fun i hi hi' => by
      obtain ⟨h, -, hh⟩ := Finset.mem_biUnion.1 hi'
      exact rnd_ne h.1 c (Fin.ext (((mem_setO _ _ i).1 hh).1.symm.trans ((mem_blkO _ i).1 hi)))
  have e : (((c : Thread nD τ).loc cc0_scratch1) ↦{fullShare} f : sProp 𝕄)
      ⊢ iprop((((c : Thread nD τ).loc cc0_scratch1) ↦[blkO c]{fullShare} f)
        ∗ ((c : Thread nD τ).loc cc0_scratch1) ↦[Finset.univ.biUnion fun h : Half => setO (chunk (rnd h.1) c) h.2]{fullShare} f) := by
    show (((c : Thread nD τ).loc cc0_scratch1) ↦[(Finset.univ : Finset S4096x512.Idx)]{fullShare} f : sProp 𝕄) ⊢ _
    rw [hU]; exact (pointsTo_union hd).1
  rw [pointsTo_biUnion _ _ (fun t _ t' _ h => setO_disj _ _ (halves_disj c t t' h))] at e
  exact BIBase.Entails.trans e (BIClass.sep_mono BIBase.Entails.refl (BI.bigSep_mono fun h _ => any_intro1 c _ h.2 f))

/-- Both, by jobs: by matrix within a half. -/
theorem jobs_halves (Φ : Job → sProp 𝕄) :
    bigSep Finset.univ Φ = bigSep Finset.univ fun h : Half => iprop(Φ (h.1, h.2, false) ∗ Φ (h.1, h.2, true)) := by
  rw [BI.bigSep_univ_equiv (Equiv.prodAssoc (Fin 15) Bool Bool) Φ, BI.bigSep_univ_prod]
  refine BI.bigSep_congr fun h _ => ?_
  rw [show (Finset.univ : Finset Bool) = {false, true} by decide, BI.bigSep_insert (by decide), BI.bigSep_singleton]
  rfl

/-- What device `c` gives its neighbours: the places, and that the cells are open. -/
def room (c : Dev nD) (j : Job) : sProp 𝕄 :=
  iprop(anyPiece (F := F) j.2.2 c (chunk (rnd j.1) c) j.2.1 ∗ reached ER (cell (true, j) c) 0)

theorem room_left (c : Dev nD) : (bigSep (Finset.univ.filter fun j => isRight j = true) (room (F := F) c) : sProp 𝕄) = barPay (lft c) true := by
  unfold barPay
  refine BI.bigSep_congr fun j hj => ?_
  have h : nxt j.1 (lft c) = c := by
    unfold nxt; rw [if_pos (of_decide_eq_true (Finset.mem_filter.1 hj).2)]; exact rgt_lft c
  unfold room grant
  rw [chunk_pre, h]
theorem room_right (c : Dev nD) : (bigSep (Finset.univ.filter fun j => isRight j = false) (room (F := F) c) : sProp 𝕄) = barPay (rgt c) false := by
  unfold barPay
  refine BI.bigSep_congr fun j hj => ?_
  have h : nxt j.1 (rgt c) = c := by
    unfold nxt; rw [if_neg (of_decide_eq_false (Finset.mem_filter.1 hj).2)]; exact lft_rgt c
  unfold room grant
  rw [chunk_pre, h]

theorem rooms (c : Dev nD) : (bigSep Finset.univ (room (F := F) c) : sProp 𝕄) = iprop(barPay (lft c) true ∗ barPay (rgt c) false) := by
  rw [bigSep_filter_split Finset.univ (fun j => isRight j = true), room_left, ← room_right]
  simp only [Bool.not_eq_true]
  rfl

theorem rooms_intro (c : Dev nD) :
    iprop((bigSep Finset.univ fun h : Half => anyPiece (F := F) false c (chunk (rnd h.1) c) h.2)
        ∗ (bigSep Finset.univ fun h : Half => anyPiece (F := F) true c (chunk (rnd h.1) c) h.2)
        ∗ bigSep Finset.univ fun j : Job => reached ER (cell (true, j) c) 0)
      ⊢ (bigSep Finset.univ (room (F := F) c) : sProp 𝕄) := by
  unfold room
  rw [bigSep_sep', jobs_halves (fun j => anyPiece (F := F) j.2.2 c (chunk (rnd j.1) c) j.2.1), bigSep_sep']
  iintro ⟨H₁, H₂, H₃⟩
  isplitr [H₃]
  · isplitl [H₁] <;> iassumption
  iexact H₃

/-! ## The run -/

variable (p : Parts F) (κ : GSem nD τ sig → ℕ)

theorem put_W (c : Dev nD) (f : Buf (Elt F) ((c : Thread nD τ).loc cc0_scratch0)) :
    ((((c : Thread nD τ).loc cc0_scratch0) ↦[blkW c]{fullShare}
      ((wM.access (Rect.unit (s := S512x4096) ![0, 256 * c.val] S512x256.size (inWB c))).write (Elt F) f (p.A c) Finset.univ)) : sProp 𝕄)
      = (((c : Thread nD τ).loc cc0_scratch0) ↦[blkW c]{fullShare} gW p) := by
  refine pointsTo_congr fun i hi => ?_
  rw [← gW_block p c, View.write_read_eq_piecewise, View.setOn_univ, View.set_slice]
  exact Finset.piecewise_eq_of_mem _ _ _ (Finset.map_refl.symm.subset hi)
theorem put_O (c : Dev nD) (f : Buf (Elt F) ((c : Thread nD τ).loc cc0_scratch1)) :
    ((((c : Thread nD τ).loc cc0_scratch1) ↦[blkO c]{fullShare}
      ((oM.access (Rect.unit (s := S4096x512) ![256 * c.val, 0] S256x512.size (inOB c))).write (Elt F) f (p.B c) Finset.univ)) : sProp 𝕄)
      = (((c : Thread nD τ).loc cc0_scratch1) ↦[blkO c]{fullShare} gO p) := by
  refine pointsTo_congr fun i hi => ?_
  rw [← gO_block p c, View.write_read_eq_piecewise, View.setOn_univ, View.set_slice]
  exact Finset.piecewise_eq_of_mem _ _ _ (Finset.map_refl.symm.subset hi)

/-- A load no one looks at, then a store of the own block. -/
theorem wp_putW {α : Type} (c : Dev nD) (o : Fin 2 → ℕ) (h h') (ho : o = ![0, 256 * c.val]) (w : Vec F S512x256 .bf16) (hw : w = p.A c)
    {hx hm} (f : Buf (Elt F) ((c : Thread nD τ).loc cc0_scratch0)) (k : PUnit → KProg F α) (Kt : α → sProp 𝕄) :
    iprop((((c : Thread nD τ).loc cc0_scratch0) ↦[blkW c]{fullShare} f) ∗ ((((c : Thread nD τ).loc cc0_scratch0) ↦[blkW c]{fullShare} gW p) -∗ wpc c (k ⟨⟩) Kt))
      ⊢ wpc c (do
          let _ ← loadW o h
          let u ← Prog.lift (.store wM (Rect.unit (s := S512x4096) o S512x256.size h') w Finset.univ hx hm)
          k u) Kt := by
  subst ho hw
  unfold wpc
  rw [wp_bind, ← put_W p c f]
  iintro ⟨H, Hk⟩
  iapply (wp_read c wM (Rect.unit (s := S512x4096) ![0, 256 * c.val] S512x256.size h) (S := blkW c) fullShare f
    (by rw [View.set_slice]; exact Finset.map_refl.subset) _ rfl)
  isplitl [H]; · iexact H
  iintro H
  rw [wp_bind]
  iapply (wp_write c wM (Rect.unit (s := S512x4096) ![0, 256 * c.val] S512x256.size h') (p.A c) (S := blkW c) f
    (by rw [View.set_slice]; exact Finset.map_refl.subset) _ rfl)
  isplitl [H]; · iexact H
  iexact Hk

theorem wp_putO {α : Type} (c : Dev nD) (o : Fin 2 → ℕ) (h h') (ho : o = ![256 * c.val, 0]) (w : Vec F S256x512 .bf16) (hw : w = p.B c)
    {hx hm} (f : Buf (Elt F) ((c : Thread nD τ).loc cc0_scratch1)) (k : PUnit → KProg F α) (Kt : α → sProp 𝕄) :
    iprop((((c : Thread nD τ).loc cc0_scratch1) ↦[blkO c]{fullShare} f) ∗ ((((c : Thread nD τ).loc cc0_scratch1) ↦[blkO c]{fullShare} gO p) -∗ wpc c (k ⟨⟩) Kt))
      ⊢ wpc c (do
          let _ ← loadO o h
          let u ← Prog.lift (.store oM (Rect.unit (s := S4096x512) o S256x512.size h') w Finset.univ hx hm)
          k u) Kt := by
  subst ho hw
  unfold wpc
  rw [wp_bind, ← put_O p c f]
  iintro ⟨H, Hk⟩
  iapply (wp_read c oM (Rect.unit (s := S4096x512) ![256 * c.val, 0] S256x512.size h) (S := blkO c) fullShare f
    (by rw [View.set_slice]; exact Finset.map_refl.subset) _ rfl)
  isplitl [H]; · iexact H
  iintro H
  rw [wp_bind]
  iapply (wp_write c oM (Rect.unit (s := S4096x512) ![256 * c.val, 0] S256x512.size h') (p.B c) (S := blkO c) f
    (by rw [View.set_slice]; exact Finset.map_refl.subset) _ rfl)
  isplitl [H]; · iexact H
  iexact Hk

/-- A neighbour is told. -/
theorem wp_tell (c n dst : Dev nD) (hn : n = dst) (b : Bool) (O : CellTallies nD τ sig Unit) (Kt : PUnit → sProp 𝕄) :
    iprop(recs p κ ∗ dutyTok ER (barCell dst) 0 b ∗ barPay dst b ∗ owe c (O + tallyAt (barCell dst) () 1) ∗ (owe c O -∗ Kt ⟨⟩))
      ⊢ wpc c (semSignalWord n barS 1#32) Kt := by
  subst hn
  unfold wpc owe semSignalWord
  iintro ⟨#HR, Ht, Hp, ⟨%W, HO⟩, Hk⟩
  ihave #HI := (inv_bar p κ n) $$ HR
  ihave #Hr := (reached_bar p κ n) $$ HR
  iapply (Rounds.wp_signal 𝒱₀ ER (plan p) (c : Thread nD τ) none (dst := (n : Thread nD τ)) (sem := barS) (r := 0) (d := b) (κ := κ (barCell n))
      (by rw [duties_bar]; exact Finset.mem_univ _) (amount_bar p n b) () O rfl) $$ [HO Ht Hp]
  · isplitr; · iexact HI
    isplitl [HO]; · iexact HO
    isplitl [Ht]; · iexact Ht
    isplitl [Hp]; · rw [payload_bar]; iexact Hp
    iexact Hr
  iintro HO
  rw [wp_ret]
  imodintro
  iapply Hk
  iexists W; iexact HO

/-- Both neighbours have told. -/
theorem wp_heard (c : Dev nD) (l : List Half) (Kt : PUnit → sProp 𝕄) :
    iprop(recs p κ ∗ levAts L lv ∗ (atPos ER (barCell c) 0 ∅ 0 ∗ cred (tallyAt (barCell c) () 2)) ∗ owe c (owedL c l)
        ∗ (bigSep Finset.univ (grant (F := F) c) ∗ semVal (barCell c) 0 ∗ owe c (owedL c l) -∗ Kt ⟨⟩))
      ⊢ wpc c (semWaitWord barS 2#32) Kt := by
  unfold wpc owe semWaitWord
  iintro ⟨#HR, #HL, ⟨Hat, Hc⟩, ⟨%W, HO⟩, Hk⟩
  ihave #HI := (inv_bar p κ c) $$ HR
  iapply (Rounds.wp_wait_rest_token 𝒱₀ ER (plan p) (c : Thread nD τ) none (κ := κ (barCell c))
      (wpE_semWait_eq 𝒱₀ (c : Thread nD τ) none Set.univ) (Set.mem_univ _) () (O := owedL c l) (W := W) (R := 0) (m := 0) (T := ∅)
      ((Nat.zero_add 2).trans (expect_bar p c).symm)) $$ [Hat Hc HO]
  · isplitr; · iexact HI
    isplitl [Hc]; · iexact Hc
    isplitl [HO]; · iexact HO
    isplitr; · iapply (mayWait_bar c l) $$ HL
    iexact Hat
  rw [rest_bar]
  iintro ⟨HO, Hat, -, Hp⟩
  rw [wp_ret]
  imod (Rounds.cell_close ER (plan p) (Set.mem_univ (κ (barCell c))) id (duties_later p (barCell c))) $$ [Hat] with Hv
  · isplitr; · iexact HI
    iexact Hat
  imodintro
  iapply Hk
  isplitl [Hp]; · iexact Hp
  isplitl [Hv]; · iexact Hv
  iexists _; iexact HO

/-- The blocks a device is given, and its rows of the input. -/
def papers (c : Dev nD) (x : Vec F S2x256x512 .bf16) : sProp 𝕄 :=
  iprop(at' c cc0_stg0_0 x ∗ at' c cc0_stg1_0 (p.A c) ∗ at' c cc0_stg2_0 (p.B c))
/-- The barrier's part of what a device starts with. -/
def doorway (c : Dev nD) : sProp 𝕄 :=
  iprop(dutyTok ER (barCell (lft c)) 0 true ∗ dutyTok ER (barCell (rgt c)) 0 false ∗ (atPos ER (barCell c) 0 ∅ 0 ∗ cred (tallyAt (barCell c) () 2))
    ∗ bigSep Finset.univ fun j : Job => reached ER (cell (true, j) c) 0)

/-- The cleared result. -/
def blank : Vec F S2x256x512 .f32 := broadcast S2x256x512 (Scalar.ofBits .f32 0x00000000#32)

theorem wp_opening (c : Dev nD) (x : Vec F S2x256x512 .bf16) (K : Vec F S2x64x64x256 .bf16) (V : Vec F S2x64x256x64 .bf16) (y : Vec F S2x256x512 .f32)
    (f : Buf (Elt F) ((c : Thread nD τ).loc cc0_scratch0)) (g : Buf (Elt F) ((c : Thread nD τ).loc cc0_scratch1)) (Kt : FVec F S512x512 .bf16 → sProp 𝕄) :
    iprop(recs p κ ∗ levAts L lv ∗ doorway c ∗ owe c (owed₀ c) ∗ papers p c x ∗ desk c K V y
        ∗ ((((c : Thread nD τ).loc cc0_scratch0) ↦{fullShare} f) ∗ ((c : Thread nD τ).loc cc0_scratch1) ↦{fullShare} g)
        ∗ (bigSep Finset.univ (grant (F := F) c) ∗ semVal (barCell c) 0 ∗ owe c (owedL c (left 7)) ∗ papers p c x ∗ desk c K V blank
            ∗ blocks p c fullShare (chunk 0 c) -∗ Kt (xscaled x)))
      ⊢ wpc c (opening c) Kt := by
  unfold doorway papers desk blocks opening wpc owed₀ owed₁
  rw [chunk_zero]
  iintro ⟨#HR, #HL, ⟨HtL, HtR, Hbar, Hrs⟩, Ho, ⟨Hx, HA, HB⟩, ⟨HKV, HY⟩, ⟨Hf, Hg⟩, Hk⟩
  ihave ⟨HW, HrW⟩ := (splitW c f) $$ Hf
  ihave ⟨HO, HrO⟩ := (splitO c g) $$ Hg
  ihave Hroom := (rooms_intro c) $$ [HrW HrO Hrs]
  · isplitl [HrW]; · iexact HrW
    isplitl [HrO] <;> iassumption
  ihave ⟨HpL, HpR⟩ := (Entails.of_eq (rooms c)) $$ Hroom
  rw [wp_bind]
  iapply (wp_tell p κ c _ (lft c) (dev1_eq c) true)
  isplitr; · iexact HR
  isplitl [HtL]; · iexact HtL
  isplitl [HpL]; · iexact HpL
  isplitl [Ho]; · iexact Ho
  iintro Ho
  rw [wp_bind]
  iapply (wp_tell p κ c _ (rgt c) (dev2_eq c) false)
  isplitr; · iexact HR
  isplitl [HtR]; · iexact HtR
  isplitl [HpR]; · iexact HpR
  isplitl [Ho]; · iexact Ho
  iintro Ho
  rw [wp_bind]
  iapply (wp_heard p κ c (left 7))
  isplitr; · iexact HR
  isplitr; · iexact HL
  isplitl [Hbar]; · iexact Hbar
  isplitl [Ho]; · iexact Ho
  iintro ⟨Hgr, Hsem, Ho⟩
  rw [wp_bind]
  iapply (wp_read c xM (Rect.unit (s := S2x256x512) ![0, 0, 0] S2x256x512.size inb_S2x256x512_S2x256x512_0_0_0) (S := Finset.univ) fullShare x (Finset.subset_univ _) x
    (Memref.read_access_unit_zero (Elt F) cc0_stg0_0 zero3 _ x))
  isplitl [Hx]; · iexact Hx
  iintro Hx
  rw [wp_bind]
  iapply (wp_read c aM (Rect.unit (s := S512x256) ![0, 0] S512x256.size inb_S512x256_S512x256_0_0) (S := Finset.univ) fullShare (p.A c) (Finset.subset_univ _) (p.A c)
    (Memref.read_access_unit_zero (Elt F) cc0_stg1_0 zero2 _ (p.A c)))
  isplitl [HA]; · iexact HA
  iintro HA
  iapply (wp_putW p c (k0_off1 c) (k0_off1_inb c) _ (off1_eq c) _ ((shapeCast_self _ _).trans (shapeCast_self _ _)) f)
  isplitl [HW]; · iexact HW
  iintro HW
  unfold wpc
  rw [wp_bind]
  iapply (wp_read c bM (Rect.unit (s := S256x512) ![0, 0] S256x512.size inb_S256x512_S256x512_0_0) (S := Finset.univ) fullShare (p.B c) (Finset.subset_univ _) (p.B c)
    (Memref.read_access_unit_zero (Elt F) cc0_stg2_0 zero2 _ (p.B c)))
  isplitl [HB]; · iexact HB
  iintro HB
  iapply (wp_putO p c (k0_off2 c) (k0_off2_inb c) _ (off2_eq c) _ ((shapeCast_self _ _).trans (shapeCast_self _ _)) g)
  isplitl [HO]; · iexact HO
  iintro HO
  unfold wpc
  rw [wp_bind]
  iapply (wp_loadY c y)
  isplitl [HY]; · iexact HY
  iintro HY
  rw [wp_bind]
  iapply (wp_storeY c y)
  isplitl [HY]; · iexact HY
  iintro HY
  simp only [Prog.pure_eq_ret]
  rw [wp_ret]
  imodintro
  iapply Hk
  isplitl [Hgr]; · iexact Hgr
  isplitl [Hsem]; · iexact Hsem
  isplitl [Ho]; · iexact Ho
  isplitl [Hx HA HB]
  · isplitl [Hx]; · iexact Hx
    isplitl [HA] <;> iassumption
  isplitl [HKV HY]
  · isplitl [HKV]; · iexact HKV
    unfold blank
    iexact HY
  isplitl [HW] <;> iassumption

end Cert.Ring
-- ==== Proof.Talk.lean ====
/-
  The whole talk: the rounds one after another, then the halves of the pieces put together again.
-/
module

public import proofs.«01_k».proof.Proof.Opening
public import Idealize.ShloMosaic.Lib.Pipeline.BigSepL

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The program once more, by what is left of it -/

def flushes (d : Dev nD) : ℕ → KProg F PUnit
  | 0 => do sent d 14 false; sent d 14 true
  | n + 1 => do flush d (Fin.ofNat 7 (6 - n)); flushes d n

def hops (d : Dev nD) (x : FVec F S512x512 .bf16) : ℕ → KProg F PUnit
  | 0 => do hop6 d x; hop7 d x; flushes d 7
  | n + 1 => do hop d x (Fin.ofNat 6 (5 - n)); hops d x n

theorem talk_eq (d : Dev nD) : talk (F := F) d = (do let x ← opening d; starts d; ownBlock d x; hops d x 6) := rfl

variable (p : Parts F) (κ : GSem nD τ sig → ℕ)

/-! ## What is kept and what comes back -/

/-- The share of an arrived half that is kept. -/
def qK (i : Fin 15) : PosShare TreeShare := if i.val < 13 then fullShare.left else fullShare
theorem qK_lt {i : Fin 15} (h : i.val < 13) : qK i = fullShare.left := if_pos h

def kept (c : Dev nD) (h : Half) : sProp 𝕄 := both p c (qK h.1) (chunk (rnd h.1) c) h.2
def back (c : Dev nD) (h : Half) : sProp 𝕄 := both p c (qT h.1) (chunk (pre h.1) c) h.2

/-- Four of a kind. -/
def quad (Φ : Half → sProp 𝕄) (h : Fin 7) : sProp 𝕄 :=
  iprop(Φ (⟨2 * h.val, by omega⟩, false) ∗ Φ (⟨2 * h.val + 1, by omega⟩, false) ∗ Φ (⟨2 * h.val, by omega⟩, true) ∗ Φ (⟨2 * h.val + 1, by omega⟩, true))

theorem pair_quad (Φ : Half → sProp 𝕄) (h : Fin 7) (l : List Half) : bigSepL (pair h ++ l) Φ = iprop(quad Φ h ∗ bigSepL l Φ) := by
  rw [bigSepL_append]; rfl
theorem left_zero (Φ : Half → sProp 𝕄) : bigSepL (left 0) Φ = iprop(Φ (14, false) ∗ Φ (14, true)) := rfl
theorem left_succ (Φ : Half → sProp 𝕄) (n : ℕ) : bigSepL (left (n + 1)) Φ = iprop(quad Φ (Fin.ofNat 7 (6 - n)) ∗ bigSepL (left n) Φ) :=
  pair_quad Φ _ _

/-- Later transfers only. -/
theorem left_lt : ∀ n : Fin 8, ∀ q ∈ left n.val, 13 < q.1.val + 2 * n.val := by decide

/-! ## The rounds -/

/-- Two rounds. -/
def step2 (c : Dev nD) (K : Vec F S2x64x64x256 .bf16) (V : Vec F S2x64x256x64 .bf16) (x : FVec F S512x512 .bf16) (y : Vec F S2x256x512 .f32) (i i' : Fin 15) :
    Vec F S2x256x512 .f32 :=
  step p K V x (step p K V x y (chunk (rnd i) c)) (chunk (rnd i') c)

/-- The blocks of an arrival whose halves are here. -/
theorem wp_got (c : Dev nD) (q : PosShare TreeShare) (i : Fin 15) (K : Vec F S2x64x64x256 .bf16) (V : Vec F S2x64x256x64 .bf16) (y : Vec F S2x256x512 .f32)
    (x : FVec F S512x512 .bf16) (Kt : PUnit → sProp 𝕄) :
    iprop((both p c q (chunk (rnd i) c) false ∗ both p c q (chunk (rnd i) c) true) ∗ desk c K V y
        ∗ ((both p c q (chunk (rnd i) c) false ∗ both p c q (chunk (rnd i) c) true) ∗ desk c K V (step p K V x y (chunk (rnd i) c)) -∗ Kt ⟨⟩))
      ⊢ wpc c (gotBlock c x i) Kt := by
  have hb := blocks_pieces p c q (chunk (rnd i) c)
  iintro ⟨Hp, Hd, Hk⟩
  iapply (wp_gotBlock p c q i K V y x)
  isplitl [Hp]
  · iapply hb.2
    unfold both
    iexact Hp
  isplitl [Hd]; · iexact Hd
  iintro ⟨Hp, Hd⟩
  iapply Hk
  isplitr [Hd]
  · ihave Hp := hb.1 $$ Hp
    unfold both
    iexact Hp
  iexact Hd

/-- Two rounds the blocks of which both go on. -/
theorem wp_hop (c : Dev nD) (h : Fin 6) (h₀ h₁ : Fin 7) (e₀ : h₀.val = h.val) (e₁ : h₁.val = h.val + 1) (l : List Half)
    (hl : ∀ q ∈ pair h₁ ++ l, 2 * h.val + 1 < q.1.val)
    (K : Vec F S2x64x64x256 .bf16) (V : Vec F S2x64x256x64 .bf16) (y : Vec F S2x256x512 .f32) (x : FVec F S512x512 .bf16) (Kt : PUnit → sProp 𝕄) :
    iprop(recs p κ ∗ levAts L lv ∗ quad (tickets (F := F) c true) h₀ ∗ quad (caps (F := F) c) h₁ ∗ owe c (owedL c (pair h₁ ++ l)) ∗ desk c K V y
        ∗ (quad (kept p c) h₀ ∗ quad (shut (F := F) c true) h₀ ∗ quad (tickets (F := F) c false) h₁ ∗ owe c (owedL c l)
            ∗ desk c K V (step2 p c K V x y ⟨2 * h.val, by omega⟩ ⟨2 * h.val + 1, by omega⟩) -∗ Kt ⟨⟩))
      ⊢ wpc c (hop c x h) Kt := by
  obtain rfl : h₀ = ⟨h.val, Nat.lt_succ_of_lt h.isLt⟩ := Fin.ext e₀
  obtain rfl : h₁ = ⟨h.val + 1, Nat.succ_lt_succ h.isLt⟩ := Fin.ext e₁
  have k₀ : qK ⟨2 * h.val, by omega⟩ = fullShare.left := qK_lt (show 2 * h.val < 13 by omega)
  have k₁ : qK ⟨2 * h.val + 1, by omega⟩ = fullShare.left := qK_lt (show 2 * h.val + 1 < 13 by omega)
  have hm : ∀ (i : Fin 15) (l' : List Half), i.val ≤ 2 * h.val + 1 → l' ⊆ pair ⟨h.val + 1, by omega⟩ ++ l → ∀ q ∈ l', i < q.1 :=
    fun i l' hi hs q hq => lt_of_le_of_lt (Fin.le_def.2 hi : i ≤ ⟨2 * h.val + 1, by omega⟩) (hl q (hs hq))
  unfold hop quad kept wpc
  simp only [k₀, k₁]
  iintro ⟨#HR, #HL, ⟨Ht₀, Ht₁, Ht₂, Ht₃⟩, ⟨Hc₀, Hc₁, Hc₂, Hc₃⟩, Ho, Hd, Hk⟩
  rw [wp_bind]
  iapply (wp_relay p κ c _ _ rfl false ((⟨2 * h.val + 3, by omega⟩, false) :: (⟨2 * h.val + 2, by omega⟩, true) :: (⟨2 * h.val + 3, by omega⟩, true) :: l)
    (hm _ _ (by show 2 * h.val ≤ _; omega) (List.Subset.refl _)))
  isplitr; · iexact HR
  isplitr; · iexact HL
  isplitl [Ht₀]; · iexact Ht₀
  isplitl [Hc₀]; · iexact Hc₀
  isplitl [Ho]; · iexact Ho
  iintro ⟨Hp₀, Hs₀, Hf₀, Ho⟩
  rw [wp_bind]
  iapply (wp_relay p κ c _ _ rfl false ((⟨2 * h.val + 2, by omega⟩, true) :: (⟨2 * h.val + 3, by omega⟩, true) :: l)
    (hm _ _ le_rfl (List.drop_subset 1 (pair ⟨h.val + 1, Nat.succ_lt_succ h.isLt⟩ ++ l))))
  isplitr; · iexact HR
  isplitr; · iexact HL
  isplitl [Ht₁]; · iexact Ht₁
  isplitl [Hc₁]; · iexact Hc₁
  isplitl [Ho]; · iexact Ho
  iintro ⟨Hp₁, Hs₁, Hf₁, Ho⟩
  rw [wp_bind]
  iapply (wp_relay p κ c _ _ rfl true ((⟨2 * h.val + 3, by omega⟩, true) :: l)
    (hm _ _ (by show 2 * h.val ≤ _; omega) (List.drop_subset 2 (pair ⟨h.val + 1, Nat.succ_lt_succ h.isLt⟩ ++ l))))
  isplitr; · iexact HR
  isplitr; · iexact HL
  isplitl [Ht₂]; · iexact Ht₂
  isplitl [Hc₂]; · iexact Hc₂
  isplitl [Ho]; · iexact Ho
  iintro ⟨Hp₂, Hs₂, Hf₂, Ho⟩
  rw [wp_bind]
  iapply (wp_relay p κ c _ _ rfl true l (hm _ _ le_rfl (List.drop_subset 3 (pair ⟨h.val + 1, Nat.succ_lt_succ h.isLt⟩ ++ l))))
  isplitr; · iexact HR
  isplitr; · iexact HL
  isplitl [Ht₃]; · iexact Ht₃
  isplitl [Hc₃]; · iexact Hc₃
  isplitl [Ho]; · iexact Ho
  iintro ⟨Hp₃, Hs₃, Hf₃, Ho⟩
  rw [wp_bind]
  iapply (wp_got p c fullShare.left _ K V y x)
  isplitl [Hp₀ Hp₂]
  · isplitl [Hp₀] <;> iassumption
  isplitl [Hd]; · iexact Hd
  iintro ⟨⟨Hp₀, Hp₂⟩, Hd⟩
  iapply (wp_got p c fullShare.left _ K V _ x)
  isplitl [Hp₁ Hp₃]
  · isplitl [Hp₁] <;> iassumption
  isplitl [Hd]; · iexact Hd
  iintro ⟨⟨Hp₁, Hp₃⟩, Hd⟩
  iapply Hk
  isplitl [Hp₀ Hp₁ Hp₂ Hp₃]
  · isplitl [Hp₀]; · iexact Hp₀
    isplitl [Hp₁]; · iexact Hp₁
    isplitl [Hp₂] <;> iassumption
  isplitl [Hs₀ Hs₁ Hs₂ Hs₃]
  · isplitl [Hs₀]; · iexact Hs₀
    isplitl [Hs₁]; · iexact Hs₁
    isplitl [Hs₂] <;> iassumption
  isplitl [Hf₀ Hf₁ Hf₂ Hf₃]
  · isplitl [Hf₀]; · iexact Hf₀
    isplitl [Hf₁]; · iexact Hf₁
    isplitl [Hf₂] <;> iassumption
  isplitl [Ho]; · iexact Ho
  unfold step2
  iexact Hd

/-- The last three rounds. -/
theorem wp_last (c : Dev nD) (K : Vec F S2x64x64x256 .bf16) (V : Vec F S2x64x256x64 .bf16) (y : Vec F S2x256x512 .f32) (x : FVec F S512x512 .bf16)
    (k : PUnit → KProg F PUnit) (Kt : PUnit → sProp 𝕄) :
    iprop(recs p κ ∗ levAts L lv ∗ (quad (tickets (F := F) c true) 6 ∗ tickets c true (14, false) ∗ tickets c true (14, true))
        ∗ (caps c (14, false) ∗ caps c (14, true)) ∗ owe c (owedL c (left 0)) ∗ desk c K V y
        ∗ ((quad (kept p c) 6 ∗ kept p c (14, false) ∗ kept p c (14, true)) ∗ (quad (shut (F := F) c true) 6 ∗ shut c true (14, false) ∗ shut c true (14, true))
            ∗ (tickets c false (14, false) ∗ tickets c false (14, true)) ∗ owe c 0
            ∗ desk c K V (step p K V x (step2 p c K V x y 12 13) (chunk (rnd 14) c)) -∗ wpc c (k ⟨⟩) Kt))
      ⊢ wpc c (do hop6 c x; let u ← hop7 c x; k u) Kt := by
  have k₀ : qK ⟨2 * (6 : Fin 7).val, by decide⟩ = fullShare.left := qK_lt (by decide)
  have k₁ : qK ⟨2 * (6 : Fin 7).val + 1, by decide⟩ = fullShare := if_neg (by decide)
  have k₂ : qK 14 = fullShare := if_neg (by decide)
  unfold hop6 hop7 quad kept wpc
  simp only [k₀, k₁, k₂]
  iintro ⟨#HR, #HL, ⟨⟨Ht₀, Ht₁, Ht₂, Ht₃⟩, Ht₄, Ht₅⟩, ⟨Hc₀, Hc₁⟩, Ho, Hd, Hk⟩
  rw [wp_bind, wp_bind]
  iapply (wp_relay p κ c 12 14 rfl false [(14, true)] (by decide))
  isplitr; · iexact HR
  isplitr; · iexact HL
  isplitl [Ht₀]; · iexact Ht₀
  isplitl [Hc₀]; · iexact Hc₀
  isplitl [Ho]; · iexact Ho
  iintro ⟨Hp₀, Hs₀, Hf₀, Ho⟩
  rw [wp_bind]
  iapply (wp_arrive p κ c 13 false [(14, true)] (by decide))
  isplitr; · iexact HR
  isplitr; · iexact HL
  isplitl [Ht₁]; · iexact Ht₁
  isplitl [Ho]; · iexact Ho
  iintro ⟨Hp₁, Hs₁, Ho⟩
  rw [wp_bind]
  iapply (wp_relay p κ c 12 14 rfl true [] (by decide))
  isplitr; · iexact HR
  isplitr; · iexact HL
  isplitl [Ht₂]; · iexact Ht₂
  isplitl [Hc₁]; · iexact Hc₁
  isplitl [Ho]; · iexact Ho
  iintro ⟨Hp₂, Hs₂, Hf₁, Ho⟩
  rw [wp_bind]
  iapply (wp_arrive p κ c 13 true [] (by decide))
  isplitr; · iexact HR
  isplitr; · iexact HL
  isplitl [Ht₃]; · iexact Ht₃
  isplitl [Ho]; · iexact Ho
  iintro ⟨Hp₃, Hs₃, Ho⟩
  rw [wp_bind]
  iapply (wp_got p c fullShare.left 12 K V y x)
  isplitl [Hp₀ Hp₂]
  · isplitl [Hp₀] <;> iassumption
  isplitl [Hd]; · iexact Hd
  iintro ⟨⟨Hp₀, Hp₂⟩, Hd⟩
  iapply (wp_got p c fullShare 13 K V _ x)
  isplitl [Hp₁ Hp₃]
  · isplitl [Hp₁] <;> iassumption
  isplitl [Hd]; · iexact Hd
  iintro ⟨⟨Hp₁, Hp₃⟩, Hd⟩
  rw [wp_bind, wp_bind]
  iapply (wp_arrive p κ c 14 false [] (by decide))
  isplitr; · iexact HR
  isplitr; · iexact HL
  isplitl [Ht₄]; · iexact Ht₄
  isplitl [Ho]; · iexact Ho
  iintro ⟨Hp₄, Hs₄, Ho⟩
  rw [wp_bind]
  iapply (wp_arrive p κ c 14 true [] (by decide))
  isplitr; · iexact HR
  isplitr; · iexact HL
  isplitl [Ht₅]; · iexact Ht₅
  isplitl [Ho]; · iexact Ho
  iintro ⟨Hp₅, Hs₅, Ho⟩
  iapply (wp_got p c fullShare 14 K V _ x)
  isplitl [Hp₄ Hp₅]
  · isplitl [Hp₄] <;> iassumption
  isplitl [Hd]; · iexact Hd
  iintro ⟨⟨Hp₄, Hp₅⟩, Hd⟩
  iapply Hk
  isplitl [Hp₀ Hp₁ Hp₂ Hp₃ Hp₄ Hp₅]
  · isplitl [Hp₀ Hp₁ Hp₂ Hp₃]
    · isplitl [Hp₀]; · iexact Hp₀
      isplitl [Hp₁]; · iexact Hp₁
      isplitl [Hp₂]; · iexact Hp₂
      iexact Hp₃
    isplitl [Hp₄] <;> iassumption
  isplitl [Hs₀ Hs₁ Hs₂ Hs₃ Hs₄ Hs₅]
  · isplitl [Hs₀ Hs₁ Hs₂ Hs₃]
    · isplitl [Hs₀]; · iexact Hs₀
      isplitl [Hs₁]; · iexact Hs₁
      isplitl [Hs₂]; · iexact Hs₂
      iexact Hs₃
    isplitl [Hs₄] <;> iassumption
  isplitl [Hf₀ Hf₁]
  · isplitl [Hf₀] <;> iassumption
  isplitl [Ho]; · iexact Ho
  unfold step2
  iexact Hd

/-- The result once the rounds that are left are through. -/
def after (c : Dev nD) (K : Vec F S2x64x64x256 .bf16) (V : Vec F S2x64x256x64 .bf16) (x : FVec F S512x512 .bf16) : ℕ → Vec F S2x256x512 .f32 → Vec F S2x256x512 .f32
  | 0, y => step p K V x (step2 p c K V x y 12 13) (chunk (rnd 14) c)
  | n + 1, y => after c K V x n (step2 p c K V x y ⟨2 * (Fin.ofNat 6 (5 - n)).val, by omega⟩ ⟨2 * (Fin.ofNat 6 (5 - n)).val + 1, by omega⟩)

theorem after_succ (c : Dev nD) (K : Vec F S2x64x64x256 .bf16) (V : Vec F S2x64x256x64 .bf16) (x : FVec F S512x512 .bf16) (n : ℕ) (y : Vec F S2x256x512 .f32) :
    after p c K V x (n + 1) y = after p c K V x n (step2 p c K V x y ⟨2 * (Fin.ofNat 6 (5 - n)).val, by omega⟩ ⟨2 * (Fin.ofNat 6 (5 - n)).val + 1, by omega⟩) := rfl

/-- All rounds but the own one. -/
theorem wp_hops (c : Dev nD) (K : Vec F S2x64x64x256 .bf16) (V : Vec F S2x64x256x64 .bf16) (x : FVec F S512x512 .bf16) (Kt : PUnit → sProp 𝕄) :
    ∀ (n : ℕ) (_ : n ≤ 6) (y : Vec F S2x256x512 .f32),
    iprop(recs p κ ∗ levAts L lv ∗ bigSepL (left (n + 1)) (tickets (F := F) c true) ∗ bigSepL (left n) (caps (F := F) c) ∗ owe c (owedL c (left n)) ∗ desk c K V y
        ∗ (bigSepL (left (n + 1)) (kept p c) ∗ bigSepL (left (n + 1)) (shut (F := F) c true) ∗ bigSepL (left n) (tickets (F := F) c false) ∗ owe c 0
            ∗ desk c K V (after p c K V x n y) -∗ wpc c (flushes c 7) Kt))
      ⊢ wpc c (hops c x n) Kt := by
  intro n
  induction n with
  | zero =>
    intro _ y
    rw [left_succ, left_succ, left_succ, left_zero, left_zero, left_zero, left_zero, left_zero]
    exact wp_last p κ c K V y x (fun _ => flushes c 7) Kt
  | succ n ih =>
    intro hn y
    replace ih := ih (by omega)
    have e₀ : (Fin.ofNat 7 (6 - (n + 1))).val = (Fin.ofNat 6 (5 - n)).val := by simp only [Fin.ofNat]; omega
    have e₁ : (Fin.ofNat 7 (6 - n)).val = (Fin.ofNat 6 (5 - n)).val + 1 := by simp only [Fin.ofNat]; omega
    have hv : (Fin.ofNat 6 (5 - n)).val = 5 - n := by simp only [Fin.ofNat]; omega
    unfold hops wpc
    rw [wp_bind, left_succ _ (n + 1), left_succ _ (n + 1), left_succ _ (n + 1), left_succ (caps c) n, left_succ (tickets c false) n]
    iintro ⟨#HR, #HL, ⟨Ht, Hts⟩, ⟨Hc, Hcs⟩, Ho, Hd, Hk⟩
    iapply (wp_hop p κ c (Fin.ofNat 6 (5 - n)) _ _ e₀ e₁ (left n)
      (fun q hq => by have := left_lt ⟨n + 1, by omega⟩ q hq; simp only at this; omega) K V y x)
    isplitr; · iexact HR
    isplitr; · iexact HL
    isplitl [Ht]; · iexact Ht
    isplitl [Hc]; · iexact Hc
    isplitl [Ho]; · iexact Ho
    isplitl [Hd]; · iexact Hd
    iintro ⟨Hp, Hs, Hf, Ho, Hd⟩
    iapply (ih (step2 p c K V x y ⟨2 * (Fin.ofNat 6 (5 - n)).val, by omega⟩ ⟨2 * (Fin.ofNat 6 (5 - n)).val + 1, by omega⟩))
    isplitr; · iexact HR
    isplitr; · iexact HL
    isplitl [Hts]; · iexact Hts
    isplitl [Hcs]; · iexact Hcs
    isplitl [Ho]; · iexact Ho
    isplitl [Hd]; · iexact Hd
    iintro ⟨Hps, Hss, Hfs, Ho, Hd⟩
    iapply Hk
    isplitl [Hp Hps]
    · isplitl [Hp] <;> iassumption
    isplitl [Hs Hss]
    · isplitl [Hs] <;> iassumption
    isplitl [Hf Hfs]
    · isplitl [Hf] <;> iassumption
    isplitl [Ho]; · iexact Ho
    rw [after_succ]
    iexact Hd

/-! ## All has left -/

theorem wp_flush (c : Dev nD) (h : Fin 7) (Kt : PUnit → sProp 𝕄) :
    iprop(recs p κ ∗ levAts L lv ∗ quad (tickets (F := F) c false) h ∗ owe c 0
        ∗ (quad (back p c) h ∗ quad (shut (F := F) c false) h ∗ owe c 0 -∗ Kt ⟨⟩))
      ⊢ wpc c (flush c h) Kt := by
  unfold flush quad back wpc
  iintro ⟨#HR, #HL, ⟨Ht₀, Ht₁, Ht₂, Ht₃⟩, Ho, Hk⟩
  rw [wp_bind]
  iapply (wp_sent p κ c _ false)
  isplitr; · iexact HR
  isplitr; · iexact HL
  isplitl [Ht₀]; · iexact Ht₀
  isplitl [Ho]; · iexact Ho
  iintro ⟨Hp₀, Hs₀, Ho⟩
  rw [wp_bind]
  iapply (wp_sent p κ c _ false)
  isplitr; · iexact HR
  isplitr; · iexact HL
  isplitl [Ht₁]; · iexact Ht₁
  isplitl [Ho]; · iexact Ho
  iintro ⟨Hp₁, Hs₁, Ho⟩
  rw [wp_bind]
  iapply (wp_sent p κ c _ true)
  isplitr; · iexact HR
  isplitr; · iexact HL
  isplitl [Ht₂]; · iexact Ht₂
  isplitl [Ho]; · iexact Ho
  iintro ⟨Hp₂, Hs₂, Ho⟩
  iapply (wp_sent p κ c _ true)
  isplitr; · iexact HR
  isplitr; · iexact HL
  isplitl [Ht₃]; · iexact Ht₃
  isplitl [Ho]; · iexact Ho
  iintro ⟨Hp₃, Hs₃, Ho⟩
  iapply Hk
  isplitl [Hp₀ Hp₁ Hp₂ Hp₃]
  · isplitl [Hp₀]; · iexact Hp₀
    isplitl [Hp₁]; · iexact Hp₁
    isplitl [Hp₂] <;> iassumption
  isplitl [Hs₀ Hs₁ Hs₂ Hs₃]
  · isplitl [Hs₀]; · iexact Hs₀
    isplitl [Hs₁]; · iexact Hs₁
    isplitl [Hs₂] <;> iassumption
  iexact Ho

theorem wp_flushes (c : Dev nD) (Kt : PUnit → sProp 𝕄) : ∀ n : ℕ,
    iprop(recs p κ ∗ levAts L lv ∗ bigSepL (left n) (tickets (F := F) c false) ∗ owe c 0
        ∗ (bigSepL (left n) (back p c) ∗ bigSepL (left n) (shut (F := F) c false) ∗ owe c 0 -∗ Kt ⟨⟩))
      ⊢ wpc c (flushes c n) Kt := by
  intro n
  induction n with
  | zero =>
    unfold flushes wpc
    rw [wp_bind, left_zero, left_zero, left_zero]
    unfold back
    iintro ⟨#HR, #HL, ⟨Ht₀, Ht₁⟩, Ho, Hk⟩
    iapply (wp_sent p κ c 14 false)
    isplitr; · iexact HR
    isplitr; · iexact HL
    isplitl [Ht₀]; · iexact Ht₀
    isplitl [Ho]; · iexact Ho
    iintro ⟨Hp₀, Hs₀, Ho⟩
    iapply (wp_sent p κ c 14 true)
    isplitr; · iexact HR
    isplitr; · iexact HL
    isplitl [Ht₁]; · iexact Ht₁
    isplitl [Ho]; · iexact Ho
    iintro ⟨Hp₁, Hs₁, Ho⟩
    iapply Hk
    isplitl [Hp₀ Hp₁]
    · isplitl [Hp₀] <;> iassumption
    isplitl [Hs₀ Hs₁]
    · isplitl [Hs₀] <;> iassumption
    iexact Ho
  | succ n ih =>
    unfold flushes wpc
    rw [wp_bind, left_succ, left_succ, left_succ]
    iintro ⟨#HR, #HL, ⟨Ht, Hts⟩, Ho, Hk⟩
    iapply (wp_flush p κ c _)
    isplitr; · iexact HR
    isplitr; · iexact HL
    isplitl [Ht]; · iexact Ht
    isplitl [Ho]; · iexact Ho
    iintro ⟨Hp, Hs, Ho⟩
    iapply ih
    isplitr; · iexact HR
    isplitr; · iexact HL
    isplitl [Hts]; · iexact Hts
    isplitl [Ho]; · iexact Ho
    iintro ⟨Hps, Hss, Ho⟩
    iapply Hk
    isplitl [Hp Hps]
    · isplitl [Hp] <;> iassumption
    isplitl [Hs Hss]
    · isplitl [Hs] <;> iassumption
    iexact Ho

/-! ## The own block -/

theorem wp_starts (c : Dev nD) (l : List Half) (Kt : PUnit → sProp 𝕄) :
    iprop(recs p κ ∗ blocks p c fullShare (chunk 0 c) ∗ quad (caps (F := F) c) 0 ∗ owe c (owedL c (pair 0 ++ l))
        ∗ (blocks p c fullShare.left (chunk 0 c) ∗ quad (tickets (F := F) c false) 0 ∗ owe c (owedL c l) -∗ Kt ⟨⟩))
      ⊢ wpc c (starts c) Kt := by
  have hb := blocks_pieces p c fullShare (chunk 0 c)
  have hl := blocks_pieces p c fullShare.left (chunk 0 c)
  unfold starts quad wpc
  iintro ⟨#HR, Hb, ⟨Hc₀, Hc₁, Hc₂, Hc₃⟩, Ho, Hk⟩
  ihave ⟨HF, HT⟩ := hb.1 $$ Hb
  ihave ⟨HFl, HFr⟩ := (both_share p c fullShare (chunk 0 c) false).1 $$ [HF]
  · unfold both; iexact HF
  ihave ⟨HTl, HTr⟩ := (both_share p c fullShare (chunk 0 c) true).1 $$ [HT]
  · unfold both; iexact HT
  ihave ⟨HF0, HF1⟩ := (both_share p c fullShare.right (chunk 0 c) false).1 $$ HFr
  ihave ⟨HT0, HT1⟩ := (both_share p c fullShare.right (chunk 0 c) true).1 $$ HTr
  rw [wp_bind]
  iapply (wp_send p κ c 0 false ((1, false) :: (0, true) :: (1, true) :: l))
  isplitr; · iexact HR
  isplitl [HF0]; · iexact HF0
  isplitl [Hc₀]; · iexact Hc₀
  isplitl [Ho]; · iexact Ho
  iintro ⟨Ht₀, Ho⟩
  rw [wp_bind]
  iapply (wp_send p κ c 1 false ((0, true) :: (1, true) :: l))
  isplitr; · iexact HR
  isplitl [HF1]; · iexact HF1
  isplitl [Hc₁]; · iexact Hc₁
  isplitl [Ho]; · iexact Ho
  iintro ⟨Ht₁, Ho⟩
  rw [wp_bind]
  iapply (wp_send p κ c 0 true ((1, true) :: l))
  isplitr; · iexact HR
  isplitl [HT0]; · iexact HT0
  isplitl [Hc₂]; · iexact Hc₂
  isplitl [Ho]; · iexact Ho
  iintro ⟨Ht₂, Ho⟩
  iapply (wp_send p κ c 1 true l)
  isplitr; · iexact HR
  isplitl [HT1]; · iexact HT1
  isplitl [Hc₃]; · iexact Hc₃
  isplitl [Ho]; · iexact Ho
  iintro ⟨Ht₃, Ho⟩
  iapply Hk
  isplitl [HFl HTl]
  · iapply hl.2
    unfold both
    isplitl [HFl] <;> iassumption
  isplitr [Ho]
  · isplitl [Ht₀]; · iexact Ht₀
    isplitl [Ht₁]; · iexact Ht₁
    isplitl [Ht₂]; · iexact Ht₂
    iexact Ht₃
  iexact Ho

/-! ## The pieces put together again -/

theorem left_univ (Φ : Half → sProp 𝕄) : bigSepL (left 7) Φ = bigSep Finset.univ Φ :=
  (bigSep_univ_eq_bigSepL (left 7) (by decide) (by decide) Φ).symm

/-- By transfers, both halves of each. -/
theorem left_transfers (Φ : Half → sProp 𝕄) : bigSepL (left 7) Φ = bigSep Finset.univ fun i : Fin 15 => iprop(Φ (i, false) ∗ Φ (i, true)) := by
  rw [left_univ, BI.bigSep_univ_prod]
  refine BI.bigSep_congr fun i _ => ?_
  rw [bigSep_univ_eq_bigSepL [false, true] (by decide) (by decide)]; rfl

/-- Both halves of a block at a share. -/
def twice (c : Dev nD) (q : PosShare TreeShare) (k : Fin 16) : sProp 𝕄 := iprop(both p c q k false ∗ both p c q k true)

theorem twice_share (c : Dev nD) (q : PosShare TreeShare) (k : Fin 16) : iprop(twice p c q.left k ∗ twice p c q.right k) ⊢ twice p c q k := by
  have hF := both_share p c q k false
  have hT := both_share p c q k true
  unfold twice
  iintro ⟨⟨A, B⟩, C, D⟩
  isplitl [A C]
  · iapply hF.2; isplitl [A] <;> iassumption
  iapply hT.2; isplitl [B] <;> iassumption

theorem fin15_front (Φ : Fin 15 → sProp 𝕄) :
    bigSep Finset.univ Φ = iprop(Φ 0 ∗ Φ 1 ∗ bigSep Finset.univ fun i : Fin 13 => Φ ⟨i.val + 2, by omega⟩) := by
  rw [bigSep_univ_eq_bigSepL (0 :: 1 :: (List.finRange 13).map fun i : Fin 13 => (⟨i.val + 2, by omega⟩ : Fin 15)) (by decide) (by decide),
    bigSepL_cons', bigSepL_cons', bigSepL_map, bigSep_univ_eq_bigSepL (List.finRange 13) (by decide) (by decide)]
theorem fin15_end (Φ : Fin 15 → sProp 𝕄) :
    bigSep Finset.univ Φ = iprop(Φ 13 ∗ Φ 14 ∗ bigSep Finset.univ fun i : Fin 13 => Φ ⟨i.val, by omega⟩) := by
  rw [bigSep_univ_eq_bigSepL (13 :: 14 :: (List.finRange 13).map fun i : Fin 13 => (⟨i.val, by omega⟩ : Fin 15)) (by decide) (by decide),
    bigSepL_cons', bigSepL_cons', bigSepL_map, bigSep_univ_eq_bigSepL (List.finRange 13) (by decide) (by decide)]
theorem fin16_ends (Φ : Fin 16 → sProp 𝕄) :
    bigSep Finset.univ Φ = iprop(Φ 0 ∗ Φ 14 ∗ Φ 15 ∗ bigSep Finset.univ fun i : Fin 13 => Φ ⟨i.val + 1, by omega⟩) := by
  rw [bigSep_univ_eq_bigSepL (0 :: 14 :: 15 :: (List.finRange 13).map fun i : Fin 13 => (⟨i.val + 1, by omega⟩ : Fin 16)) (by decide) (by decide),
    bigSepL_cons', bigSepL_cons', bigSepL_cons', bigSepL_map, bigSep_univ_eq_bigSepL (List.finRange 13) (by decide) (by decide)]

theorem rejoin (c : Dev nD) :
    iprop(blocks p c fullShare.left (chunk 0 c) ∗ bigSepL (left 7) (kept p c) ∗ bigSepL (left 7) (back p c))
      ⊢ bigSep Finset.univ fun k : Fin 16 => blocks p c fullShare k := by
  have hb : ∀ q k, iprop(twice p c q k) ⊣⊢ blocks p c q k := fun q k => by
    have h := blocks_pieces p c q k
    unfold twice both
    exact ⟨h.2, h.1⟩
  have hmid : ∀ i : Fin 13, iprop((kept p c (⟨i.val, by omega⟩, false) ∗ kept p c (⟨i.val, by omega⟩, true))
      ∗ (back p c (⟨i.val + 2, by omega⟩, false) ∗ back p c (⟨i.val + 2, by omega⟩, true))) ⊢ blocks p c fullShare (chunk ⟨i.val + 1, by omega⟩ c) := fun i => by
    have e₁ : rnd ⟨i.val, by omega⟩ = ⟨i.val + 1, by omega⟩ := rfl
    have e₂ : pre ⟨i.val + 2, by omega⟩ = ⟨i.val + 1, by omega⟩ := Fin.ext (by show i.val + 2 - 1 = i.val + 1; omega)
    unfold kept back
    simp only [e₁, e₂]
    rw [qK_lt (i := ⟨i.val, by omega⟩) i.isLt, qT_pos (i := ⟨i.val + 2, by omega⟩) (Nat.le_add_left 2 _)]
    exact (twice_share p c fullShare _).trans (hb _ _).1
  have hm := (Entails.of_eq (bigSep_sep' _ _ _).symm).trans (BI.bigSep_mono (s := (Finset.univ : Finset (Fin 13))) (fun i _ => hmid i))
  rw [left_transfers, left_transfers, fin15_end, fin15_front, BI.bigSep_univ_equiv (chunkE c), fin16_ends]
  simp only [chunkE_apply]
  iintro ⟨Hl, ⟨H13, H14, Hks⟩, H0, H1, Hbs⟩
  isplitl [Hl H0 H1]
  · iapply (hb _ _).1
    iapply (twice_share p c fullShare (chunk 0 c))
    isplitl [Hl]
    · iapply (hb _ _).2; iexact Hl
    iapply (twice_share p c fullShare.right (chunk 0 c))
    isplitl [H0]
    · unfold twice back; iexact H0
    unfold twice back; iexact H1
  isplitl [H13]
  · iapply (hb _ _).1
    unfold twice kept; iexact H13
  isplitl [H14]
  · iapply (hb _ _).1
    unfold twice kept; iexact H14
  iapply hm
  isplitl [Hks] <;> iassumption

/-! ## From end to end -/

/-- What device `c` holds for the transfer `j` and the arrival `j`, its cells open. -/
def stock (c : Dev nD) (j : Job) : sProp 𝕄 :=
  iprop((dutyTok ER (cell (false, j) c) 0 false ∗ reached ER (cell (false, j) c) 0 ∗ dutyTok ER (cell (true, j) (nxt j.1 c)) 0 false)
    ∗ atPos ER (cell (false, j) c) 0 ∅ 0)

theorem caps_of (c : Dev nD) : iprop(bigSep Finset.univ (grant (F := F) c) ∗ bigSep Finset.univ (stock (F := F) c)) ⊢ bigSepL (left 7) (caps (F := F) c) := by
  have hj : ∀ j : Job, iprop(grant (F := F) c j ∗ stock c j) ⊢ iprop(cap (F := F) c j ∗ atPos ER (cell (false, j) c) 0 ∅ 0) := fun j => by
    unfold stock cap
    iintro ⟨Hg, H, Ha⟩
    isplitr [Ha]
    · isplitl [Hg] <;> iassumption
    iexact Ha
  have e : bigSep Finset.univ (fun j : Job => iprop(cap (F := F) c j ∗ atPos ER (cell (false, j) c) 0 ∅ 0)) = bigSep Finset.univ (caps (F := F) c) := jobs_halves _
  rw [left_univ]
  exact (Entails.of_eq (bigSep_sep' _ _ _).symm).trans ((BI.bigSep_mono fun j _ => hj j).trans (Entails.of_eq e))

theorem tickets_of (c : Dev nD) (b : Bool) : bigSep Finset.univ (fun j : Job => ticket (F := F) c (b, j)) = bigSepL (left 7) (tickets (F := F) c b) := by
  rw [left_univ, jobs_halves]; rfl
theorem shut_of (c : Dev nD) (b : Bool) : bigSepL (left 7) (shut (F := F) c b) = bigSep Finset.univ (fun j : Job => (semVal (cell (b, j) c) 0 : sProp 𝕄)) := by
  rw [left_univ, jobs_halves]; rfl

/-- The result. -/
def outY (c : Dev nD) (K : Vec F S2x64x64x256 .bf16) (V : Vec F S2x64x256x64 .bf16) (x : FVec F S512x512 .bf16) : Vec F S2x256x512 .f32 :=
  after p c K V x 6 (step p K V x blank (chunk 0 c))

theorem wp_talk (c : Dev nD) (x : Vec F S2x256x512 .bf16) (K : Vec F S2x64x64x256 .bf16) (V : Vec F S2x64x256x64 .bf16) (y : Vec F S2x256x512 .f32)
    (f : Buf (Elt F) ((c : Thread nD τ).loc cc0_scratch0)) (g : Buf (Elt F) ((c : Thread nD τ).loc cc0_scratch1)) (Kt : PUnit → sProp 𝕄) :
    iprop(recs p κ ∗ levAts L lv ∗ doorway c ∗ (bigSep Finset.univ (stock (F := F) c) ∗ bigSep Finset.univ fun j : Job => ticket (F := F) c (true, j))
        ∗ owe c (owed₀ c) ∗ papers p c x ∗ desk c K V y
        ∗ ((((c : Thread nD τ).loc cc0_scratch0) ↦{fullShare} f) ∗ ((c : Thread nD τ).loc cc0_scratch1) ↦{fullShare} g)
        ∗ (semVal (barCell c) 0 ∗ (bigSep Finset.univ (fun k : Bool × Job => (semVal (cell k c) 0 : sProp 𝕄))) ∗ owe c 0 ∗ papers p c x
            ∗ desk c K V (outY p c K V (xscaled x))
            ∗ ((((c : Thread nD τ).loc cc0_scratch0) ↦{fullShare} gW p) ∗ ((c : Thread nD τ).loc cc0_scratch1) ↦{fullShare} gO p) -∗ Kt ⟨⟩))
      ⊢ wpc c (talk c) Kt := by
  rw [talk_eq, tickets_of]
  unfold wpc
  iintro ⟨#HR, #HL, Hdoor, ⟨Hst, Htk⟩, Ho, Hpap, Hd, Hfg, Hk⟩
  rw [wp_bind]
  iapply (wp_opening p κ c x K V y f g)
  isplitr; · iexact HR
  isplitr; · iexact HL
  isplitl [Hdoor]; · iexact Hdoor
  isplitl [Ho]; · iexact Ho
  isplitl [Hpap]; · iexact Hpap
  isplitl [Hd]; · iexact Hd
  isplitl [Hfg]; · iexact Hfg
  iintro ⟨Hgr, Hbar, Ho, Hpap, Hd, Hb⟩
  ihave Hcaps := (caps_of c) $$ [Hgr Hst]
  · isplitl [Hgr] <;> iassumption
  ihave ⟨Hc0, Hcs⟩ := (Entails.of_eq (left_succ (caps (F := F) c) 6)) $$ Hcaps
  rw [wp_bind]
  iapply (wp_starts p κ c (left 6))
  isplitr; · iexact HR
  isplitl [Hb]; · iexact Hb
  isplitl [Hc0]; · iexact Hc0
  isplitl [Ho]; · iexact Ho
  iintro ⟨Hb, Hf0, Ho⟩
  rw [wp_bind]
  iapply (wp_ownBlock p c fullShare.left K V blank (xscaled x))
  isplitl [Hb]; · iexact Hb
  isplitl [Hd]; · iexact Hd
  iintro ⟨Hb, Hd⟩
  iapply (wp_hops p κ c K V (xscaled x) Kt 6 le_rfl (step p K V (xscaled x) blank (chunk 0 c)))
  isplitr; · iexact HR
  isplitr; · iexact HL
  isplitl [Htk]; · iexact Htk
  isplitl [Hcs]; · iexact Hcs
  isplitl [Ho]; · iexact Ho
  isplitl [Hd]; · iexact Hd
  iintro ⟨Hkept, Hsh1, Hfs, Ho, Hd⟩
  iapply (wp_flushes p κ c Kt 7)
  isplitr; · iexact HR
  isplitr; · iexact HL
  isplitl [Hf0 Hfs]
  · iapply (Entails.of_eq (left_succ (tickets (F := F) c false) 6).symm)
    isplitl [Hf0] <;> iassumption
  isplitl [Ho]; · iexact Ho
  iintro ⟨Hback, Hsh0, Ho⟩
  iapply Hk
  isplitl [Hbar]; · iexact Hbar
  isplitl [Hsh0 Hsh1]
  · rw [BI.bigSep_univ_prod, bigSep_univ_eq_bigSepL [false, true] (by decide) (by decide), bigSepL_cons', bigSepL_singleton]
    isplitl [Hsh0]
    · iapply (Entails.of_eq (shut_of c false)); iexact Hsh0
    iapply (Entails.of_eq (shut_of c true)); iexact Hsh1
  isplitl [Ho]; · iexact Ho
  isplitl [Hpap]; · iexact Hpap
  isplitl [Hd]; · unfold outY; iexact Hd
  iapply (blocks_whole p c)
  iapply (rejoin p c)
  isplitl [Hb]; · iexact Hb
  isplitl [Hkept] <;> iassumption

end Cert.Ring
-- ==== Proof.Region.lean ====
/-
  The kernel's region: one point, whose body is the talk. What it is entered with, and what it leaves: the result's array at `outY`.
-/
module

public import proofs.«01_k».proof.Proof.Talk
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What the region is entered with -/

/-- The operands, as the host's operations leave them. -/
def xv (c : Dev nD) : Vec F S2x256x512 .bf16 := V1 m c main_v19
def kv (c : Dev nD) : Vec F S2x64x64x256 .bf16 := V1 m c main_v16
def vv (c : Dev nD) : Vec F S2x64x256x64 .bf16 := V1 m c main_v18
def parts : Parts F := ⟨fun c => V1 m c main_v20, fun c => V1 m c main_v21⟩
/-- The result. -/
def res (c : Dev nD) : Vec F S2x256x512 .f32 := outY (parts m) c (kv m c) (vv m c) (xscaled (xv m c))

/-- The kernel's own semaphores. -/
abbrev osem : Bool × Job → SemLoc sig := fun k => .dma (semOf k)

/-- What a device may pay, and may wait at: everything but the transfers' cells' positions. -/
def tokens (c : Dev nD) : sProp 𝕄 :=
  iprop((dutyTok ER (barCell (lft c)) 0 true ∗ dutyTok ER (barCell (rgt c)) 0 false)
    ∗ ((bigSep Finset.univ fun j : Job => dutyTok ER (cell (false, j) c) 0 false)
      ∗ bigSep Finset.univ fun j : Job => dutyTok ER (cell (true, j) (nxt j.1 c)) 0 false))
def credits (c : Dev nD) : sProp 𝕄 :=
  iprop(cred (tallyAt (barCell c) () 2) ∗ bigSep Finset.univ fun j : Job => cred (tallyAt (cell (true, j) c) () N))

/-- From the launch to the region: the transfers' cells still to be opened; -/
def sealed (c : Dev nD) : sProp 𝕄 :=
  iprop((∃ κ, recs (parts m) κ) ∗ atPos ER (barCell c) 0 ∅ 0 ∗ (bigSep Finset.univ fun k : Bool × Job => openTok ER (cell k c)) ∗ tokens c ∗ credits c)
/-- as the body finds it. -/
def ready (c : Dev nD) : sProp 𝕄 :=
  iprop((∃ κ, recs (parts m) κ) ∗ levAts L lv ∗ doorway c ∗ bigSep Finset.univ (stock c) ∗ bigSep Finset.univ fun j : Job => ticket c (true, j))

theorem bigSep_bool {M : Type} [URA M] (Φ : Bool → sProp M) : bigSep Finset.univ Φ = iprop(Φ false ∗ Φ true) :=
  bigSep_univ_eq_bigSepL [false, true] (by decide) (by decide) Φ

/-- Two families kept as one. -/
theorem zip {ι : Type} {M : Type} [URA M] {S : Finset ι} {Φ Ψ : ι → sProp M} :
    iprop(bigSep S Φ ∗ bigSep S Ψ) ⊢ bigSep S fun i => iprop(Φ i ∗ Ψ i) := Entails.of_eq (bigSep_sep' _ _ _).symm
theorem unzip {ι : Type} {M : Type} [URA M] {S : Finset ι} {Φ Ψ : ι → sProp M} :
    (bigSep S fun i => iprop(Φ i ∗ Ψ i)) ⊢ iprop(bigSep S Φ ∗ bigSep S Ψ) := Entails.of_eq (bigSep_sep' _ _ _)

theorem open_cells (κ : GSem nD τ sig → ℕ) (c : Dev nD) :
    iprop(recs (parts m) κ ∗ bigSep Finset.univ fun k : Bool × Job => iprop(openTok ER (cell k c) ∗ semVal (cell k c) 0))
      ⊢ (|={Set.univ}=> bigSep Finset.univ fun k : Bool × Job => iprop(atPos ER (cell k c) 0 ∅ 0 ∗ reached ER (cell k c) 0) : sProp 𝕄) := by
  have h1 : iprop(recs (parts m) κ ∗ bigSep Finset.univ fun k : Bool × Job => iprop(openTok ER (cell k c) ∗ semVal (cell k c) 0))
      ⊢ (bigSep Finset.univ fun k : Bool × Job => iprop(|={Set.univ}=> (atPos ER (cell k c) 0 ∅ 0 ∗ reached ER (cell k c) 0)) : sProp 𝕄) :=
    bigSep_with_persistent (R := recs (parts m) κ) fun k _ => by
      iintro ⟨#HR, Ho, Hv⟩
      ihave #HI := (inv_dma (parts m) κ k c) $$ HR
      iapply (Rounds.cell_open ER (plan (parts m)) (g := cell k c) (Set.mem_univ (κ (cell k c))))
      isplitr; · iexact HI
      isplitl [Ho] <;> iassumption
  exact h1.trans (bigSep_fupd _ _)

theorem hopen (c : Dev nD) : iprop(sealed m c ∗ Pipeline.ownSems0 osem c ∗ levAts L lv) ⊢ (|={Set.univ}=> ready m c : sProp 𝕄) := by
  unfold sealed ready Pipeline.ownSems0 tokens credits
  iintro ⟨⟨⟨%κ, #HR⟩, Hat, Ho, ⟨⟨Hl, Hr⟩, Hs, Hv⟩, Hcb, Hcv⟩, Hsem, #HL⟩
  imod (open_cells m κ c) $$ [Ho Hsem] with H
  · isplitr; · iexact HR
    iapply zip
    isplitl [Ho]; · iexact Ho
    iexact Hsem
  have e : (bigSep Finset.univ fun k : Bool × Job => iprop(atPos ER (cell k c) 0 ∅ 0 ∗ reached ER (cell k c) 0) : sProp 𝕄)
      = iprop((bigSep Finset.univ fun j : Job => iprop(atPos ER (cell (false, j) c) 0 ∅ 0 ∗ reached ER (cell (false, j) c) 0))
          ∗ bigSep Finset.univ fun j : Job => iprop(atPos ER (cell (true, j) c) 0 ∅ 0 ∗ reached ER (cell (true, j) c) 0)) := by
    rw [bigSep_univ_prod, bigSep_bool]
  ihave H' := (Entails.of_eq e) $$ H
  icases H' with ⟨HF, HT⟩
  ihave HF' := unzip $$ HF; icases HF' with ⟨HFa, HFr⟩
  ihave HT' := unzip $$ HT; icases HT' with ⟨HTa, HTr⟩
  imodintro
  isplitr; · iexists κ; iexact HR
  isplitr; · iexact HL
  isplitl [Hl Hr Hat Hcb HTr]
  · unfold doorway
    isplitl [Hl]; · iexact Hl
    isplitl [Hr]; · iexact Hr
    isplitl [Hat Hcb]
    · isplitl [Hat]; · iexact Hat
      iexact Hcb
    iexact HTr
  isplitl [Hs HFr Hv HFa]
  · unfold stock
    iapply zip
    isplitl [Hs HFr Hv]
    · iapply zip
      isplitl [Hs]; · iexact Hs
      iapply zip
      isplitl [HFr]; · iexact HFr
      iexact Hv
    iexact HFa
  unfold ticket
  iapply zip
  isplitl [HTa]; · iexact HTa
  iexact Hcv

/-! ## The region's data -/

/-- The two arrays in which the weights are gathered. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- What the body leaves beside the windows. -/
def done (c : Dev nD) : sProp 𝕄 :=
  iprop(semVal (barCell c) 0 ∗ bigSep Finset.univ fun k : Bool × Job => semVal (cell k c) 0)

def dat0 (c : Dev nD) : Dat τ (Elt F) Unit ℕ UU ℕ cfg0 c where
  A w := V1 m c (Proc.devRef .tc (Pipeline.arrRef spec0 w))
  after w _ := match w with
    | ⟨0, _⟩ => xv m c
    | ⟨1, _⟩ => (parts m).A c
    | ⟨2, _⟩ => (parts m).B c
    | ⟨3, _⟩ => kv m c
    | ⟨4, _⟩ => vv m c
    | ⟨5, _⟩ => res m c
  Φ t := if t.val = 0 then iprop(ready m c ∗ scratch c ∗ ∃ r, prngReg c r) else iprop(done c ∗ scratch c ∗ ∃ r, prngReg c r)
  q _ := fullShare
  owed t := if t.val = 0 then owed₀ c else 0

def pdats : (p : Fin 1) → (c : Dev nD) → Dat τ (Elt F) Unit ℕ UU ℕ (Pipeline.pin (pcfgs (F := F)) adm p) c
  | 0 => dat0 m

/-! ## The windows are whole arrays -/

theorem index0 : ∀ t : Fin cfg0.N, ((∀ a, win0_0.index t a = 0) ∧ (∀ a, win0_1.index t a = 0) ∧ (∀ a, win0_2.index t a = 0))
    ∧ (∀ a, win0_3.index t a = 0) ∧ (∀ a, win0_4.index t a = 0) ∧ (∀ a, win0_5.index t a = 0) :=
  (by decide +kernel : ∀ t : Fin grid0.N, _)

theorem embOf {n b k : ℕ} (h : n = 0) : n * b + 1 * k = k := by rw [h]; omega

theorem emb0 (t : Fin cfg0.N) (j : S2x256x512.Idx) : ((cfg0.win 0).blk t).view.emb j = j :=
  funext fun a => Fin.ext (embOf ((index0 t).1.1 a))
theorem emb1 (t : Fin cfg0.N) (j : S512x256.Idx) : ((cfg0.win 1).blk t).view.emb j = j :=
  funext fun a => Fin.ext (embOf ((index0 t).1.2.1 a))
theorem emb2 (t : Fin cfg0.N) (j : S256x512.Idx) : ((cfg0.win 2).blk t).view.emb j = j :=
  funext fun a => Fin.ext (embOf ((index0 t).1.2.2 a))
theorem emb3 (t : Fin cfg0.N) (j : S2x64x64x256.Idx) : ((cfg0.win 3).blk t).view.emb j = j :=
  funext fun a => Fin.ext (embOf ((index0 t).2.1 a))
theorem emb4 (t : Fin cfg0.N) (j : S2x64x256x64.Idx) : ((cfg0.win 4).blk t).view.emb j = j :=
  funext fun a => Fin.ext (embOf ((index0 t).2.2.1 a))
theorem emb5 (t : Fin cfg0.N) (j : S2x256x512.Idx) : ((cfg0.win 5).blk t).view.emb j = j :=
  funext fun a => Fin.ext (embOf ((index0 t).2.2.2 a))

theorem before0 (c : Dev nD) (d) : (dat0 m c).before 0 t0_0 d = xv m c := by
  unfold Dat.before; rw [if_pos (fetch0_0 _)]; funext j
  show V1 m c main_v19 (((cfg0.win 0).blk t0_0).view.emb j) = V1 m c main_v19 j; rw [emb0]
theorem before1 (c : Dev nD) (d) : (dat0 m c).before 1 t0_0 d = (parts m).A c := by
  unfold Dat.before; rw [if_pos (fetch0_1 _)]; funext j
  show V1 m c main_v20 (((cfg0.win 1).blk t0_0).view.emb j) = V1 m c main_v20 j; rw [emb1]
theorem before2 (c : Dev nD) (d) : (dat0 m c).before 2 t0_0 d = (parts m).B c := by
  unfold Dat.before; rw [if_pos (fetch0_2 _)]; funext j
  show V1 m c main_v21 (((cfg0.win 2).blk t0_0).view.emb j) = V1 m c main_v21 j; rw [emb2]
theorem before3 (c : Dev nD) (d) : (dat0 m c).before 3 t0_0 d = kv m c := by
  unfold Dat.before; rw [if_pos (fetch0_3 _)]; funext j
  show V1 m c main_v16 (((cfg0.win 3).blk t0_0).view.emb j) = V1 m c main_v16 j; rw [emb3]
theorem before4 (c : Dev nD) (d) : (dat0 m c).before 4 t0_0 d = vv m c := by
  unfold Dat.before; rw [if_pos (fetch0_4 _)]; funext j
  show V1 m c main_v18 (((cfg0.win 4).blk t0_0).view.emb j) = V1 m c main_v18 j; rw [emb4]

theorem flushed5 (c : Dev nD) (t : Fin cfg0.N) : (dat0 m c).flushed 5 t = ((cfg0.win 5).blk t).view.read (Elt F) (res m c) := by
  funext j
  show res m c j = res m c (((cfg0.win 5).blk t).view.emb j)
  rw [emb5]
theorem arrAt5 (c : Dev nD) : (dat0 m c).arrAt 5 cfg0.N = res m c :=
  (dat0 m c).arrAt_eq_of_cover 5 (res m c) (fun t _ => flushed5 m c t) fun i =>
    ⟨t0_0, flush0_5 _, by have h := ((cfg0.win 5).blk t0_0).view.emb_mem_set i; rwa [emb5] at h⟩

end Cert.Ring
-- ==== Proof.Launch.lean ====
/-
  The region's record: the talk runs at its one point, between what the host's operations leave and the result.
-/
module

public import proofs.«01_k».proof.Proof.Region
public import Idealize.ShloMosaic.Lib.Quiescent

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The body -/

theorem owed_first (c : Dev nD) : (dat0 m c).owed t0_0.castSucc = owed₀ c := by
  show (if (t0_0.castSucc : Fin (cfg0.N + 1)).val = 0 then owed₀ c else 0) = owed₀ c; exact if_pos rfl
theorem owed_last (c : Dev nD) : (dat0 m c).owed t0_0.succ = 0 := by
  show (if (t0_0.succ : Fin (cfg0.N + 1)).val = 0 then owed₀ c else 0) = 0; exact if_neg (by decide)

theorem owe_of_owesAt (c : Dev nD) (t : Fin (cfg0.N + 1)) {O : CellTallies nD τ sig Unit} (h : (dat0 m c).owed t = O) :
    ((dat0 m c).owesAt () t : sProp 𝕄) ⊢ owe c O := by
  unfold Dat.owesAt Pipeline.owesWithin owe
  rw [h]
  iintro ⟨%W, -, H⟩
  iexists W; iexact H
theorem owesAt_of_owe (c : Dev nD) (t : Fin (cfg0.N + 1)) {O : CellTallies nD τ sig Unit} (h : (dat0 m c).owed t = O) :
    owe c O ⊢ ((dat0 m c).owesAt () t : sProp 𝕄) := by
  unfold Dat.owesAt Pipeline.owesWithin owe Dat.bound
  rw [h]
  iintro ⟨%W, H⟩
  iexists W
  isplitr; · ipureintro; exact fun _ _ => Or.inl trivial
  iexact H

/-- A body that asks which device it runs on. -/
theorem wp_device (c : Dev nD) (t : Dev nD → KProg F PUnit) (Kt : PUnit → sProp 𝕄) :
    wpc c (t c) Kt ⊢ wpc c (do let d ← Prog.lift .deviceId; t d) Kt :=
  Entails.of_eq (wp_deviceId 𝒱₀ (c : Thread nD τ) none Set.univ (k := t)).symm

/-- The body: the talk. -/
theorem wp_body (c : Dev nD) (y : Vec F S2x256x512 .f32) (Kt : PUnit → sProp 𝕄) :
    iprop(ready m c ∗ scratch c ∗ owe c (owed₀ c) ∗ papers (parts m) c (xv m c) ∗ desk c (kv m c) (vv m c) y
        ∗ (done c ∗ scratch c ∗ owe c 0 ∗ papers (parts m) c (xv m c) ∗ desk c (kv m c) (vv m c) (res m c) -∗ Kt ⟨⟩))
      ⊢ wpc c (body (F := F)) Kt := by
  have hid : wpc c (talk c) Kt ⊢ wpc c (body (F := F)) Kt := by
    rw [body_eq]
    exact wp_device c talk Kt
  refine BIBase.Entails.trans ?_ hid
  unfold ready scratch done
  iintro ⟨⟨⟨%κ, #HR⟩, #HL, Hd, Hs, Ht⟩, ⟨⟨%f, Hf⟩, ⟨%g, Hg⟩⟩, HO, HP, HD, Hk⟩
  iapply (wp_talk (parts m) κ c (xv m c) (kv m c) (vv m c) y f g Kt)
  isplitr; · iexact HR
  isplitr; · iexact HL
  isplitl [Hd]; · iexact Hd
  isplitl [Hs Ht]
  · isplitl [Hs]; · iexact Hs
    iexact Ht
  isplitl [HO]; · iexact HO
  isplitl [HP]; · iexact HP
  isplitl [HD]; · iexact HD
  isplitl [Hf Hg]
  · isplitl [Hf]; · iexact Hf
    iexact Hg
  iintro ⟨Hb, Hv, HO, HP, HD, Hf, Hg⟩
  iapply Hk
  isplitl [Hb Hv]
  · isplitl [Hb]; · iexact Hb
    iexact Hv
  isplitl [Hf Hg]
  · isplitl [Hf]; · iexists _; iexact Hf
    iexists _; iexact Hg
  isplitl [HO]; · iexact HO
  isplitl [HP]; · iexact HP
  iexact HD

theorem phi_first (c : Dev nD) : (dat0 m c).Φ t0_0.castSucc = iprop(ready m c ∗ scratch c ∗ ∃ r, prngReg c r) := rfl
theorem phi_last (c : Dev nD) : (dat0 m c).Φ t0_0.succ = iprop(done c ∗ scratch c ∗ ∃ r, prngReg c r) := rfl

/-- A whole buffer, owned as a window's. -/
theorem owns_at (c : Dev nD) (b : Ref sig .tc) (f : b.ty.Contents (Elt F)) :
    (owns (Ix := Unit) (Name := ℕ) (U := UU) (Lvl := ℕ) (c : Thread nD τ) (Memref.whole b) fullShare f : sProp 𝕄) = at' c b f :=
  owns_whole (c : Thread nD τ) b fullShare f

set_option maxRecDepth 4000 in
theorem obligation (c : Dev nD) : BodyObligation (dat0 m c) (defs₀ (F := F)) 𝒱₀ () Set.univ := fun t => by
  obtain rfl := fin_N0 t
  rw [bigSep_W0, bigSep_W0, phi_first, phi_last]
  simp only [before0, before1, before2, before3, before4]
  iintro ⟨⟨Hr, Hs, Hp⟩, HO, ⟨%d0, H0⟩, ⟨%d1, H1⟩, ⟨%d2, H2⟩, ⟨%d3, H3⟩, ⟨%d4, H4⟩, ⟨%d5, H5⟩⟩
  iapply (wp_body m c ((dat0 m c).before 5 t0_0 d5) _)
  isplitl [Hr]; · iexact Hr
  isplitl [Hs]; · iexact Hs
  isplitl [HO]; · iapply (owe_of_owesAt m c _ (owed_first m c)) $$ HO
  isplitl [H0 H1 H2]
  · unfold papers
    isplitl [H0]; · iapply (Entails.of_eq (owns_at c cc0_stg0_0 _)) $$ H0
    isplitl [H1]; · iapply (Entails.of_eq (owns_at c cc0_stg1_0 _)) $$ H1
    iapply (Entails.of_eq (owns_at c cc0_stg2_0 _)) $$ H2
  isplitl [H3 H4 H5]
  · unfold desk
    isplitl [H3 H4]
    · isplitl [H3]; · iapply (Entails.of_eq (owns_at c cc0_stg3_0 _)) $$ H3
      iapply (Entails.of_eq (owns_at c cc0_stg4_0 _)) $$ H4
    iapply (Entails.of_eq (owns_at c cc0_stg5_0 _)) $$ H5
  unfold papers desk
  iintro ⟨Hd, Hs, HO, ⟨H0, H1, H2⟩, ⟨H3, H4⟩, H5⟩
  isplitl [Hd Hs Hp]
  · isplitl [Hd]; · iexact Hd
    isplitl [Hs]; · iexact Hs
    iexact Hp
  isplitl [HO]; · iapply (owesAt_of_owe m c _ (owed_last m c)) $$ HO
  isplitl [H0]; · iapply (Entails.of_eq (owns_at c cc0_stg0_0 _).symm) $$ H0
  isplitl [H1]; · iapply (Entails.of_eq (owns_at c cc0_stg1_0 _).symm) $$ H1
  isplitl [H2]; · iapply (Entails.of_eq (owns_at c cc0_stg2_0 _).symm) $$ H2
  isplitl [H3]; · iapply (Entails.of_eq (owns_at c cc0_stg3_0 _).symm) $$ H3
  isplitl [H4]; · iapply (Entails.of_eq (owns_at c cc0_stg4_0 _).symm) $$ H4
  iapply (Entails.of_eq (owns_at c cc0_stg5_0 _).symm) $$ H5

end Cert.Ring
-- ==== Proof.Deal.lean ====
/-
  The launch: every cell's invariant is made, and everything is dealt around the ring.
-/
module

public import proofs.«01_k».proof.Proof.Region

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The duties' tokens -/

def barToks : Finset (GSem nD τ sig × ℕ × Bool) :=
  Finset.univ.map ⟨fun x : Dev nD × Bool => (barCell x.1, 0, x.2), fun _ _ h =>
    Prod.ext (barEmb.injective (congrArg (fun t : GSem nD τ sig × ℕ × Bool => t.1) h)) (congrArg (fun t : GSem nD τ sig × ℕ × Bool => t.2.2) h)⟩
def dmaToks : Finset (GSem nD τ sig × ℕ × Bool) :=
  Finset.univ.map ⟨fun x : Dev nD × (Bool × Job) => (cell x.2 x.1, 0, false), fun _ _ h =>
    dmaEmb.injective (congrArg (fun t : GSem nD τ sig × ℕ × Bool => t.1) h)⟩
def toks : Finset (GSem nD τ sig × ℕ × Bool) := barToks ∪ dmaToks

theorem bar_ne_cell (c c' : Dev nD) (k : Bool × Job) : barCell c ≠ cell k c' := fun h => dma_ne_bar k (congrArg Prod.snd h).symm

theorem disjoint_cells : Disjoint (barCells : Finset (GSem nD τ sig)) dmaCells := by
  rw [Finset.disjoint_left]
  rintro g h₁ h₂
  obtain ⟨c, -, rfl⟩ := Finset.mem_map.mp h₁
  obtain ⟨x, -, h⟩ := Finset.mem_map.mp h₂
  exact bar_ne_cell c x.1 x.2 h.symm
theorem disjoint_toks : Disjoint barToks dmaToks := by
  rw [Finset.disjoint_left]
  rintro g h₁ h₂
  obtain ⟨x, -, rfl⟩ := Finset.mem_map.mp h₁
  obtain ⟨x', -, h⟩ := Finset.mem_map.mp h₂
  exact bar_ne_cell x.1 x'.1 x'.2 (congrArg Prod.fst h).symm

def lftE : Dev nD ≃ Dev nD := ⟨lft, rgt, rgt_lft, lft_rgt⟩
def rgtE : Dev nD ≃ Dev nD := ⟨rgt, lft, lft_rgt, rgt_lft⟩

/-- Every token goes to the device that pays the duty. -/
theorem deal : (bigSep toks fun x => (dutyTok ER x.1 x.2.1 x.2.2 : sProp 𝕄)) ⊢ bigSep Finset.univ fun c : Dev nD => tokens c := by
  have eb : (bigSep barToks fun x => (dutyTok ER x.1 x.2.1 x.2.2 : sProp 𝕄))
      = iprop((bigSep Finset.univ fun c : Dev nD => dutyTok ER (barCell (rgt c)) 0 false) ∗ bigSep Finset.univ fun c : Dev nD => dutyTok ER (barCell (lft c)) 0 true) := by
    unfold barToks
    rw [bigSep_map, bigSep_univ_prod]
    refine (bigSep_congr fun c _ => bigSep_bool (fun b => (dutyTok ER (barCell c) 0 b : sProp 𝕄))).trans ?_
    rw [bigSep_sep', bigSep_univ_equiv rgtE (fun c : Dev nD => (dutyTok ER (barCell c) 0 false : sProp 𝕄)),
      bigSep_univ_equiv lftE (fun c : Dev nD => (dutyTok ER (barCell c) 0 true : sProp 𝕄))]
    rfl
  have er : (bigSep Finset.univ fun c : Dev nD => bigSep Finset.univ fun j : Job => (dutyTok ER (cell (true, j) c) 0 false : sProp 𝕄))
      = bigSep Finset.univ fun c : Dev nD => bigSep Finset.univ fun j : Job => dutyTok ER (cell (true, j) (nxt j.1 c)) 0 false := by
    rw [bigSep_univ_comm, bigSep_univ_comm (fun (c : Dev nD) (j : Job) => (dutyTok ER (cell (true, j) (nxt j.1 c)) 0 false : sProp 𝕄))]
    exact bigSep_congr fun j _ => bigSep_univ_equiv (nxtE j.1) (fun c : Dev nD => (dutyTok ER (cell (true, j) c) 0 false : sProp 𝕄))
  have ed : (bigSep dmaToks fun x => (dutyTok ER x.1 x.2.1 x.2.2 : sProp 𝕄))
      = iprop((bigSep Finset.univ fun c : Dev nD => bigSep Finset.univ fun j : Job => dutyTok ER (cell (false, j) c) 0 false)
          ∗ bigSep Finset.univ fun c : Dev nD => bigSep Finset.univ fun j : Job => dutyTok ER (cell (true, j) (nxt j.1 c)) 0 false) := by
    unfold dmaToks
    rw [bigSep_map, bigSep_univ_prod, ← er, ← bigSep_sep']
    refine bigSep_congr fun c _ => ?_
    rw [bigSep_univ_prod, bigSep_bool]
    rfl
  have es : (bigSep Finset.univ fun c : Dev nD => (tokens c : sProp 𝕄))
      = iprop(((bigSep Finset.univ fun c : Dev nD => dutyTok ER (barCell (lft c)) 0 true) ∗ bigSep Finset.univ fun c : Dev nD => dutyTok ER (barCell (rgt c)) 0 false)
          ∗ (bigSep Finset.univ fun c : Dev nD => bigSep Finset.univ fun j : Job => dutyTok ER (cell (false, j) c) 0 false)
            ∗ bigSep Finset.univ fun c : Dev nD => bigSep Finset.univ fun j : Job => dutyTok ER (cell (true, j) (nxt j.1 c)) 0 false) := by
    unfold tokens
    rw [bigSep_sep', bigSep_sep', bigSep_sep']
  rw [es, ← ed]
  unfold toks
  rw [bigSep_union disjoint_toks, eb]
  exact sep_mono sep_comm .rfl

/-! ## The credit of what is owed -/

theorem nxt_eq (i : Fin 15) (d c : Dev nD) : nxt i d = c ↔ d = prv i c :=
  ⟨fun h => by rw [← h, prv_nxt], fun h => by rw [h, nxt_prv]⟩

theorem due_cell (d c : Dev nD) (j j' : Job) : due d j' (cell (true, j) c) () = if j' = j ∧ d = prv j.1 c then N else 0 := by
  unfold due
  rw [tallyAt_apply]
  by_cases h : j' = j ∧ d = prv j.1 c
  · obtain ⟨rfl, rfl⟩ := h
    rw [if_pos (c := j' = j' ∧ prv j'.1 c = prv j'.1 c) ⟨rfl, rfl⟩, nxt_prv, if_pos (c := cell (true, j') c = cell (true, j') c ∧ () = ()) ⟨rfl, rfl⟩]
  · rw [if_neg h, if_neg]
    rintro ⟨e, -⟩
    have e' : ((c, (true, j)) : Dev nD × (Bool × Job)) = (nxt j'.1 d, (true, j')) := dmaEmb.injective e
    have ej : j = j' := congrArg (fun x : Dev nD × (Bool × Job) => x.2.2) e'
    subst ej
    exact h ⟨rfl, (nxt_eq _ _ _).mp (congrArg (fun x : Dev nD × (Bool × Job) => x.1) e').symm⟩

theorem owedL_cell (d c : Dev nD) (j : Job) : ∀ l : List Half, owedL d l (cell (true, j) c) () = if d = prv j.1 c then l.count (j.1, j.2.1) * N else 0
  | [] => by rw [List.count_nil, Nat.zero_mul, ite_self]; rfl
  | q :: l => by
    unfold owedL
    rw [Pi.add_apply, Finsupp.add_apply, Pi.add_apply, Finsupp.add_apply, owedL_cell d c j l, due_cell, due_cell, List.count_cons]
    obtain ⟨i, s, a⟩ := j
    obtain ⟨i', s'⟩ := q
    by_cases hd : d = prv i c
    · rw [if_pos hd, if_pos hd]
      by_cases hq : (i', s') = (i, s)
      · obtain ⟨rfl, rfl⟩ := Prod.mk.inj hq
        rw [if_pos (beq_self_eq_true _), Nat.add_mul, Nat.one_mul, Nat.add_assoc]
        refine congrArg (fun n : ℕ => List.count (i', s') l * N + n) ?_
        cases a
        · rw [if_neg fun h => Bool.noConfusion (congrArg (fun x : Job => x.2.2) h.1), if_pos ⟨rfl, hd⟩, Nat.zero_add]
        · rw [if_pos ⟨rfl, hd⟩, if_neg fun h => Bool.noConfusion (congrArg (fun x : Job => x.2.2) h.1), Nat.add_zero]
      · have h1 : ∀ b : Bool, ¬ (((i', s', b) : Job) = (i, s, a) ∧ d = prv i c) := fun b e =>
          hq (congrArg (fun x : Job => (x.1, x.2.1)) e.1)
        rw [if_neg (h1 true), if_neg (h1 false), if_neg (fun e => hq (eq_of_beq e)), Nat.add_zero, Nat.add_zero]
    · rw [if_neg hd, if_neg hd, if_neg fun h => hd h.2, if_neg fun h => hd h.2]

theorem count_left : ∀ q : Half, (left 7).count q = 1 := by decide

theorem owed_recv (d c : Dev nD) (j : Job) : owed₀ d (cell (true, j) c) () = if d = prv j.1 c then N else 0 := by
  unfold owed₀ owed₁
  rw [Pi.add_apply, Finsupp.add_apply, Pi.add_apply, Finsupp.add_apply, owedL_cell, count_left, Nat.one_mul, tallyAt_apply, tallyAt_apply,
    if_neg (c := cell (true, j) c = barCell (rgt d) ∧ () = ()) (fun h => bar_ne_cell _ _ _ h.1.symm),
    if_neg (c := cell (true, j) c = barCell (lft d) ∧ () = ()) (fun h => bar_ne_cell _ _ _ h.1.symm)]
  rfl

theorem owed_bar (d c : Dev nD) : owed₀ d (barCell c) () = (if d = lft c then 1 else 0) + if d = rgt c then 1 else 0 := by
  have h0 : owedL d (left 7) (barCell c) () = 0 := by
    by_contra h
    obtain ⟨q, -, a, e⟩ := owedL_pos (Nat.pos_of_ne_zero h)
    exact bar_ne_cell _ _ _ e
  have hr : (barCell c = barCell (rgt d) ∧ () = ()) ↔ d = lft c :=
    ⟨fun h => (lft_rgt d).symm.trans (congrArg lft (barEmb.injective h.1).symm), fun h => ⟨congrArg barCell (by rw [h, rgt_lft]), rfl⟩⟩
  have hl : (barCell c = barCell (lft d) ∧ () = ()) ↔ d = rgt c :=
    ⟨fun h => (rgt_lft d).symm.trans (congrArg rgt (barEmb.injective h.1).symm), fun h => ⟨congrArg barCell (by rw [h, lft_rgt]), rfl⟩⟩
  unfold owed₀ owed₁
  rw [Pi.add_apply, Finsupp.add_apply, Pi.add_apply, Finsupp.add_apply, h0, tallyAt_apply, tallyAt_apply, Nat.zero_add,
    if_congr hr rfl rfl, if_congr hl rfl rfl]

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]
theorem launch_recv (c : Dev nD) (j : Job) :
    tallyOn (cell (true, j) c) (launchCredit (Pipeline.owing owed₀) 0 (cell (true, j) c)) = (tallyAt (cell (true, j) c) () N : CellTallies nD τ sig Unit) := by
  unfold tallyAt; refine congrArg _ (Finsupp.ext fun u => ?_); cases u
  rw [Pipeline.launchCredit_owing, Finsupp.single_eq_same, Finset.sum_congr rfl fun d _ => owed_recv d c j,
    Finset.sum_ite_eq' Finset.univ (prv j.1 c) fun _ => N, if_pos (Finset.mem_univ _)]

theorem creds (c : Dev nD) : (Pipeline.launchCred owed₀ c : sProp 𝕄) ⊢ credits c := by
  unfold Pipeline.launchCred credits
  rw [bigSep_univ_at _ (SemLoc.reg barS), launch_bar]
  refine sep_mono_right ?_
  have e : ∀ j : Job, (cred (tallyAt (cell (true, j) c) () N) : sProp 𝕄)
      = cred (tallyOn ((c : Thread nD τ), (SemLoc.dma (semOf (true, j)) : SemLoc sig)) (launchCredit (Pipeline.owing owed₀) 0 ((c : Thread nD τ), .dma (semOf (true, j))))) :=
    fun j => by rw [← launch_recv]
  have e' : (bigSep Finset.univ fun j : Job => (cred (tallyAt (cell (true, j) c) () N) : sProp 𝕄))
      = bigSep (Finset.univ.map ⟨fun j : Job => (SemLoc.dma (semOf (true, j)) : SemLoc sig), fun _ _ h => congrArg Prod.snd (semOf_inj (SemLoc.dma.inj h))⟩)
        (fun sm => cred (tallyOn ((c : Thread nD τ), sm) (launchCredit (Pipeline.owing owed₀) 0 ((c : Thread nD τ), sm)))) :=
    (bigSep_congr fun j _ => e j).trans
      (bigSep_map (s := Finset.univ) (⟨fun j : Job => (SemLoc.dma (semOf (true, j)) : SemLoc sig), fun _ _ h => congrArg Prod.snd (semOf_inj (SemLoc.dma.inj h))⟩ : Job ↪ SemLoc sig)
        (Φ := fun sm => (cred (tallyOn ((c : Thread nD τ), sm) (launchCredit (Pipeline.owing owed₀) 0 ((c : Thread nD τ), sm))) : sProp 𝕄))).symm
  rw [e']
  refine bigSep_subset fun sm hsm => ?_
  obtain ⟨j, -, rfl⟩ := Finset.mem_map.mp hsm
  exact Finset.mem_erase.mpr ⟨dma_ne_bar (true, j), Finset.mem_univ _⟩

/-! ## The ghost state of the launch -/

/-- The launch element: the pipeline's at its staging cells, the protocol's at its own. -/
def u₀ : UU :=
  (initOf (Pipeline.cells (Pipeline.pin (pcfgs (F := F)) adm) cellOf_inj) (Pipeline.launchToks (Pipeline.pin (pcfgs (F := F)) adm) cellOf_inj),
    launchOf barCells dmaCells toks)

/-- Something that is kept on the first device until it is dealt. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells dmaCells toks)))

theorem fund : (ownU (u₀ (F := F)) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ G) := by
  unfold u₀ G
  iintro H
  ihave H' := (ownU_pair _ _) $$ H
  icases H' with ⟨HP, HX⟩
  imodintro
  isplitl [HP]; · iexact HP
  rw [bigSep_onFirst]
  iexact HX

theorem unscoped_bar : ∀ sm : SemLoc sig, sm.isScoped .tc = false → sm = .reg barS := by decide
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- The barriers' counters and the launch element make what every device enters with. -/
theorem found : iprop((bigSep Finset.univ fun c : Dev nD => semVal (barCell c) 0) ∗ bigSep Finset.univ G ∗ bigSep Finset.univ fun c : Dev nD => credits c)
    ⊢ (|={Set.univ}=> bigSep Finset.univ fun c : Dev nD => sealed m c : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep dmaCells (fun g => (openTok ER g : sProp 𝕄)) ⊢ bigSep Finset.univ (fun c : Dev nD => bigSep Finset.univ fun k : Bool × Job => openTok ER (cell k c)) :=
    Entails.of_eq (by rw [bigSep_map, bigSep_univ_prod]; rfl)
  iintro ⟨Hv, HG, Hc⟩
  ihave Hu := (show bigSep Finset.univ (G (F := F)) ⊢ BI.own (ER (launchOf barCells dmaCells toks)) from Entails.of_eq (bigSep_onFirst _)) $$ HG
  imod (Rounds.fund_launch ER (plan (parts m)) disjoint_cells (fun g _ h => h) toks) $$ [Hv Hu] with ⟨%κ, -, #Hinv, #Hr, Hat, Hopen, Htok⟩
  · isplitl [Hv]
    · iapply hv $$ Hv
    · iexact Hu
  imodintro
  have hone (c : Dev nD) : iprop(recs (parts m) κ ∗ (atPos ER (barCell c) 0 ∅ 0 ∗ (bigSep Finset.univ fun k : Bool × Job => openTok ER (cell k c)) ∗ tokens c ∗ credits c))
      ⊢ (sealed m c : sProp 𝕄) := by
    unfold sealed
    iintro ⟨#HR, H⟩
    isplitr; · iexists κ; iexact HR
    iexact H
  iapply (bigSep_with_persistent (R := recs (parts m) κ) fun c _ => hone c)
  isplitr
  · unfold recs
    isplitr; · iexact Hinv
    iexact Hr
  iapply zip
  isplitl [Hat]; · iapply hat $$ Hat
  iapply zip
  isplitl [Hopen]; · iapply ho $$ Hopen
  iapply zip
  isplitl [Htok]; · iapply (deal (F := F)) $$ Htok
  iexact Hc

end Cert.Ring
-- ==== Proof.Run.lean ====
/-
  The whole run: the host's operations, the region, and what memory holds at the end.
-/
module

public import proofs.«01_k».proof.Proof.Launch
public import proofs.«01_k».proof.Proof.Deal

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation Seg)

variable {F : FTy → Type} [FloatOps F]

local notation "𝕄" => MT nD τ sig Unit (Elt F) ℕ UU ℕ

variable (m : (ℓ : Loc nD τ sig) → Buf (Elt F) ℓ) (ρ : Dev nD → PrngReg)

/-! ## The region -/

/-- What the region leaves: the result, and everything else as it was. -/
def outs : Outs (F := F) := fun _ r c => if h : r = main_v22 then by subst h; exact res m c else V1 m c r
theorem V2_out (c : Dev nD) : V2 m (outs m) c main_v22 = res m c := (Function.update_self _ _ _).trans (dif_pos rfl)

/-- What a device keeps beside its memory until the region. -/
def keep (c : Dev nD) : sProp 𝕄 := iprop(sealed m c ∗ (∃ r, prngReg c r) ∗ owe c (owed₀ c))

/-- The memory the region does not touch. -/
abbrev others : Finset (DevRef τ sig) := Pipeline.ucRefs τ sig \ Pipeline.arrRefs spec0

theorem osem_facts : Pipeline.OwnSemFacts spec0 osem where
  isScoped := by decide +kernel
  inj := fun _ _ h => semOf_inj (SemLoc.dma.inj h)
  disj := by decide +kernel

theorem stage_not_recv : ∀ (w : Fin cfg0.W) (s : Fin (cfg0.win w).nbuf) (j : Job), (cfg0.win w).sem s ≠ semOf (true, j) := by decide +kernel

theorem stage_level (c : Dev nD) (w : Fin cfg0.W) (s : Fin (cfg0.win w).nbuf) : lv ((c : Thread nD τ), .dma ((cfg0.win w).sem s)) () ≤ 0 := by
  have h1 : ((c : Thread nD τ), (SemLoc.dma ((cfg0.win w).sem s) : SemLoc sig)).2 ≠ SemLoc.reg barS := by decide +revert
  have h2 : ¬ ∃ j : Job, ((c : Thread nD τ), (SemLoc.dma ((cfg0.win w).sem s) : SemLoc sig)).2 = .dma (semOf (true, j)) := fun ⟨j, h⟩ =>
    stage_not_recv w s j (SemLoc.dma.inj h)
  unfold lv
  rw [if_neg h1, dif_neg h2]

theorem owed_above (c : Dev nD) (t : Fin (cfg0.N + 1)) (g : GSem nD τ sig) (i : Unit) (h : 0 < (dat0 m c).owed t g i) : i ∈ L g ∧ (0 : ℕ) < lv g i := by
  have e : (dat0 m c).owed t = if t.val = 0 then owed₀ c else 0 := rfl
  rw [e] at h
  split at h
  · rcases owed₀_pos h with ⟨j, rfl⟩ | rfl | rfl
    · exact ⟨Finset.mem_singleton_self _, by rw [lv_recv]; omega⟩
    · exact ⟨Finset.mem_singleton_self _, by rw [lv_bar]; omega⟩
    · exact ⟨Finset.mem_singleton_self _, by rw [lv_bar]; omega⟩
  · exact absurd h (Nat.lt_irrefl 0)

theorem arr_ne (w : Fin cfg0.W) (h : w ≠ 5) : Pipeline.arrRef spec0 w ≠ main_v22 := by revert w; decide

theorem arrAt_end (c : Dev nD) (w : Fin cfg0.W) : (dat0 m c).arrAt w cfg0.N = V2 m (outs m) c (Proc.devRef .tc (Pipeline.arrRef spec0 w)) := by
  by_cases h : w = 5
  · subst h
    exact (arrAt5 m c).trans (V2_out m c).symm
  · have hin : (cfg0.win w).isOut = false := by revert w; decide
    exact ((dat0 m c).arrAt_in w hin _).trans (V2_of m (outs m) c (Pipeline.arrRef spec0 w) (fun hm => arr_ne w h (List.mem_singleton.mp hm))).symm

theorem rest_same (c : Dev nD) (b : DevRef τ sig) (hb : b ∈ others \ (∅ : Finset (DevRef τ sig))) : V2 m (outs m) c b = V1 m c b := by
  refine Function.update_of_ne (fun e => ?_) _ _
  subst e
  exact (Finset.mem_sdiff.mp (Finset.mem_sdiff.mp hb).1).2 (by decide)

theorem enter (c : Dev nD) : iprop(Pipeline.scopedRest spec0 c ∗ (∃ r, prngReg c r) ∗ StableHlo.held (c.tc : Thread nD τ) ∅ (V1 m c) ∗ ready m c)
    ⊢ (dat0 m c).Φ 0 := by
  rw [scopedRest0_eq]
  have h : (iprop(ready m c ∗ scratch c ∗ ∃ r, prngReg c r) : sProp 𝕄) ⊢ (dat0 m c).Φ 0 := Entails.of_eq (phi_first m c).symm
  refine BIBase.Entails.trans ?_ h
  unfold scratch
  iintro ⟨Hs, Hp, -, HR⟩
  isplitl [HR]; · iexact HR
  isplitl [Hs]; · iexact Hs
  iexact Hp

theorem leave (c : Dev nD) : (dat0 m c).Φ (Fin.last cfg0.N)
    ⊢ iprop(Pipeline.scopedRest spec0 c ∗ (∃ r, prngReg c r) ∗ StableHlo.held (c.tc : Thread nD τ) ∅ (V2 m (outs m) c) ∗ Pipeline.ownSems0 osem c ∗ semVal (barCell c) 0) := by
  rw [scopedRest0_eq]
  have h : (dat0 m c).Φ (Fin.last cfg0.N) ⊢ (iprop(done c ∗ scratch c ∗ ∃ r, prngReg c r) : sProp 𝕄) := Entails.of_eq (phi_last m c)
  refine BIBase.Entails.trans h ?_
  unfold scratch done Pipeline.ownSems0 StableHlo.held
  rw [BI.bigSep_empty]
  iintro ⟨⟨Hb, Hk⟩, Hs, Hp⟩
  isplitl [Hs]; · iexact Hs
  isplitl [Hp]; · iexact Hp
  isplitr; · iempintro
  isplitl [Hk]; · iexact Hk
  iexact Hb

theorem share_all (c : Dev nD) (w : Fin cfg0.W) : (dat0 m c).share w = fullShare := (dat0 m c).share_full (fun _ => rfl) w

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ others (Finset.empty_subset _) launch0.toP rfl (fun c => (obligation m c).loose)
    (fun _ => 0) owed₀ (fun c => (zero_add _).symm) (fun c => rfl) (fun _ => rfl) (fun c w => share_all m c w)
    (V1 m) (V2 m (outs m)) (rest_same m)
    (sealed m) (fun c => semVal (barCell c) 0) (ready m) (fun c => semVal (barCell c) 0) (hopen m) (enter m) (leave m)
    (fun c => by iintro H; imodintro; iexact H)
    (fun _ => 0)
    ⟨fun _ _ _ => Finset.mem_singleton_self _, fun c w s => stage_level c w s, fun c t g i h => owed_above m c t g i h⟩
    (fun _ => iprop(emp))
    (fun _ _ => rfl) (fun c w => arrAt_end m c w)

theorem arrs_sub : Pipeline.arrRefs spec0 ⊆ Pipeline.ucRefs τ sig := Pipeline.arrRefs_sub_ucRefs spec0 (by decide)

set_option backward.isDefEq.respectTransparency.types false in
theorem region_pre (c : Dev nD) : iprop(StableHlo.held (c : Thread nD τ) (Pipeline.ucRefs τ sig) (V1 m c) ∗ keep m c) ⊢ (region m).pre c := by
  show _ ⊢ iprop(StableHlo.held (c.tc : Thread nD τ) (Pipeline.arrRefs spec0) (V1 m c) ∗ (∃ r, prngReg c r)
    ∗ (StableHlo.held (c.tc : Thread nD τ) others (V1 m c) ∗ emp) ∗ sealed m c ∗ ∃ Wd, owes (c : Thread nD τ) (0 + owed₀ c) Wd)
  rw [StableHlo.held_sub_split (c.tc : Thread nD τ) arrs_sub, zero_add]
  unfold keep owe
  iintro ⟨⟨Ha, Ho⟩, HS, Hp, HO⟩
  isplitl [Ha]; · iexact Ha
  isplitl [Hp]; · iexact Hp
  isplitl [Ho]
  · isplitl [Ho]; · iexact Ho
    iempintro
  isplitl [HS]; · iexact HS
  iexact HO

set_option backward.isDefEq.respectTransparency.types false in
theorem region_post (c : Dev nD) : (region m).post c ⊢ iprop((StableHlo.held (c : Thread nD τ) (Pipeline.ucRefs τ sig) (V2 m (outs m) c) ∗ semVal (barCell c) 0)
    ∗ ∃ W, owes (c : Thread nD τ) (0 : CellTallies nD τ sig Unit) W) := by
  show iprop(StableHlo.held (c.tc : Thread nD τ) (Pipeline.arrRefs spec0) (V2 m (outs m) c) ∗ (∃ r, prngReg c r)
    ∗ (StableHlo.held (c.tc : Thread nD τ) others (V2 m (outs m) c) ∗ emp) ∗ semVal (barCell c) 0 ∗ ∃ Wd, owes (c : Thread nD τ) (0 : CellTallies nD τ sig Unit) Wd) ⊢ _
  rw [StableHlo.held_sub_split (c.tc : Thread nD τ) arrs_sub]
  iintro ⟨Ha, -, ⟨Ho, -⟩, Hb, HO⟩
  isplitr [HO]
  · isplitl [Ha Ho]
    · isplitl [Ha]; · iexact Ha
      iexact Ho
    iexact Hb
  iexact HO

/-! ## The launch -/

theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ keep m c) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ G c)
      ⊢ (iprop((StableHlo.held (c : Thread nD τ) (Pipeline.ucRefs τ sig) (V0 m c) ∗ (∃ r, prngReg c r) ∗ owe c (owed₀ c))
          ∗ semVal (barCell c) 0 ∗ G c ∗ credits c) : sProp 𝕄) := by
    rw [← Pipeline.unscopedBufs_held (Ix := Unit) (Name := ℕ) (U := UU) (Lvl := ℕ) c (V0 m c), unscopedSems_eq]
    unfold owe
    iintro ⟨Hh, Hb, HO, Hcr, Hp, HG⟩
    isplitl [Hh HO Hp]
    · isplitl [Hh]; · iexact Hh
      isplitl [Hp]; · iexists (ρ c); iexact Hp
      iexists ∅; iexact HO
    isplitl [Hb]; · iexact Hb
    isplitl [HG]; · iexact HG
    iapply (creds (F := F) c) $$ Hcr
  have hend (c : Dev nD) : iprop((StableHlo.held (c : Thread nD τ) (Pipeline.ucRefs τ sig) (V0 m c) ∗ (∃ r, prngReg c r) ∗ owe c (owed₀ c)) ∗ sealed m c)
      ⊢ (iprop(StableHlo.held (c : Thread nD τ) (Pipeline.ucRefs τ sig) (V0 m c) ∗ keep m c) : sProp 𝕄) := by
    unfold keep
    iintro ⟨⟨Hh, Hp, HO⟩, HS⟩
    isplitl [Hh]; · iexact Hh
    isplitl [HS]; · iexact HS
    isplitl [Hp]; · iexact Hp
    iexact HO
  have hall : (bigSep Finset.univ fun c : Dev nD => iprop(unscopedBufs c (fun b => m ((c : Thread nD τ).loc b)) ∗ unscopedSems0 c
        ∗ owes (c : Thread nD τ) (owed₀ c) ∅ ∗ Pipeline.launchCred owed₀ c ∗ prngReg c (ρ c) ∗ G c))
      ⊢ (bigSep Finset.univ fun c : Dev nD => iprop((StableHlo.held (c : Thread nD τ) (Pipeline.ucRefs τ sig) (V0 m c) ∗ (∃ r, prngReg c r) ∗ owe c (owed₀ c))
          ∗ semVal (barCell c) 0 ∗ G c ∗ credits c) : sProp 𝕄) := bigSep_mono fun c _ => hcore c
  have hlast : (bigSep Finset.univ fun c : Dev nD => iprop((StableHlo.held (c : Thread nD τ) (Pipeline.ucRefs τ sig) (V0 m c) ∗ (∃ r, prngReg c r) ∗ owe c (owed₀ c)) ∗ sealed m c))
      ⊢ (bigSep Finset.univ fun c : Dev nD => iprop(StableHlo.held (c : Thread nD τ) (Pipeline.ucRefs τ sig) (V0 m c) ∗ keep m c) : sProp 𝕄) := bigSep_mono fun c _ => hend c
  iintro ⟨H, -⟩
  ihave H1 := hall $$ H
  ihave H2 := unzip $$ H1; icases H2 with ⟨HA, H3⟩
  ihave H4 := unzip $$ H3; icases H4 with ⟨Hb, H5⟩
  ihave H6 := unzip $$ H5; icases H6 with ⟨HG, Hc⟩
  imod (found m) $$ [Hb HG Hc] with HS
  · isplitl [Hb]; · iexact Hb
    isplitl [HG]; · iexact HG
    iexact Hc
  imodintro
  iapply hlast
  iapply zip
  isplitl [HA]; · iexact HA
  iexact HS

/-! ## The run -/

/-- The state a device ends in. -/
abbrev final (c : Dev nD) : sProp 𝕄 := iprop(StableHlo.held (c : Thread nD τ) (Pipeline.ucRefs τ sig) (V2 m (outs m) c) ∗ semVal (barCell c) 0)

abbrev args : List (Ref sig .tc) := [main_v22, main_arg0, main_arg1, main_arg2, main_arg3, main_arg4]
theorem args_held : ∀ r ∈ args, Proc.devRef (τ := τ) .tc r ∈ Pipeline.ucRefs τ sig := fun r hr =>
  Finset.mem_filter.mpr ⟨StableHlo.devRef_mem_tcRefs r, by revert r; decide⟩

set_option backward.isDefEq.respectTransparency.types false in
/-- From any memory with zero counters every weakly fair execution of the sixteen devices terminates; every final state has the result
    in place, the arguments unchanged and every counter at zero. -/
theorem run_main : θ_run defs (onTc (τ := τ) (main (F := F))) ⟨m, fun _ => 0, ρ⟩
    (fun r => (∀ c : Dev nD, r.2.mem ((c.tc : Thread nD τ).loc main_v22) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (fun _ => keep m) () (pdats m) (region m))
    (fun c Q => by
      rewrite [main_chain c, Seg.run_eq_chain,
        show (segs m 𝒱₀ L lv (fun _ => keep m) () (pdats m) (region m) c).map Seg.prog = [StableHlo.seq (hostOps0 c), Prog.lift (.customCall (Pipeline.entry 0) ())] from rfl]
      dsimp (config := { failIfUnchanged := false }) only
      exact .rfl)
    (fun c => by simp only [segs, Seg.pipes_host, Seg.pipes_region, Seg.pipes_nil]; decide)
    owed₀ L_of_ne G u₀ fund
    (T₀ := fun c => iprop(StableHlo.held (c : Thread nD τ) (Pipeline.ucRefs τ sig) (V0 m c) ∗ keep m c)) (Tₙ := final m)
    (hch := fun c => ⟨.rfl, region_pre m c, region_post m c⟩) (hinit := init m ρ)
    (QY := fun c s => (∀ r ∈ args, s.mem ((c.tc : Thread nD τ).loc r) = V2 m (outs m) c r) ∧ s.sem (barCell c) = 0)
    (hfin := fun c s' => ?_)
    (hQ := fun s h hs => ⟨fun c => ?_, sem_eq_zero hs fun c sm hsm => by obtain rfl := unscoped_bar sm hsm; exact (h c).2⟩)
  · unfold final StableHlo.held
    iintro ⟨⟨Hh, Hb⟩, HSI⟩
    icombine HSI Hb gives %hb
    ihave Hr := (pointsTo_read_all (Pipeline.ucRefs τ sig) (fun b => ((c : Thread nD τ).1, b)) (V2 m (outs m) c) s') $$ [Hh HSI]
    · isplitl [Hh] <;> iassumption
    icases Hr with ⟨%h, HSI⟩
    imodintro
    isplitr
    · ipureintro
      exact ⟨fun r hr => h (Proc.devRef .tc r) (args_held r hr), by simpa using hb⟩
    · iexact HSI
  · have hc := (h c).1
    exact ⟨(hc main_v22 (by decide)).trans (V2_out m c), (hc main_arg0 (by decide)).trans (V2_main_arg0 m (outs m) c),
      (hc main_arg1 (by decide)).trans (V2_main_arg1 m (outs m) c), (hc main_arg2 (by decide)).trans (V2_main_arg2 m (outs m) c),
      (hc main_arg3 (by decide)).trans (V2_main_arg3 m (outs m) c), (hc main_arg4 (by decide)).trans (V2_main_arg4 m (outs m) c)⟩

end Cert.Ring
-- ==== Proof.Frames.lean ====
/-
  The three programs run to their end, leave their arguments alone and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run

@[expose] public section

noncomputable section

namespace Cert.Proof

open Idealize.ShloMosaic Idealize.SL.Sem

/-- The frame of the kernel, for any float values, of any program text equal to the kernel's. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg)
    (D : Defs Cert.KernelIdeal.nD Cert.KernelIdeal.τ Cert.KernelIdeal.sig (Elt F) (Pipeline.Sig Cert.KernelIdeal.Λ₀ (Fin 1) fun p => (Cert.KernelIdeal.pcfgs (F := F) p).Adm))
    (M : Dev Cert.KernelIdeal.nD → Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit)
    (hD : D = Cert.KernelIdeal.defs) (hM : M = Cert.KernelIdeal.main) :
    θ_run D (onTc (τ := Cert.KernelIdeal.τ) M) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  hD ▸ hM ▸ (θ_run Cert.KernelIdeal.defs _ _).mono (fun _ h => ⟨fun c => (h.1 c).2, h.2⟩) (Cert.Ring.run_main m ρ)

theorem frame_ideal : Cert.quiescent_KernelIdeal := fun m ρ _ => frame_any (F := Ideal) m ρ _ _ rfl rfl

section same
variable {F : FTy → Type} [FloatOps F]

set_option backward.isDefEq.respectTransparency false in
theorem body_eq : Cert.Kernel.cc0__body (F := F) = Cert.KernelIdeal.cc0__body (F := F) := rfl

set_option backward.isDefEq.respectTransparency false in
theorem main_eq : Cert.Kernel.main (F := F) = Cert.KernelIdeal.main (F := F) := rfl

set_option backward.isDefEq.respectTransparency false in
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

set_option backward.isDefEq.respectTransparency false in
theorem defs_eq : Cert.Kernel.defs (F := F) = Cert.KernelIdeal.defs (F := F) :=
  congrArg (Pipeline.defs Cert.KernelIdeal.pcfgs) defs₀_eq

end same

set_option backward.isDefEq.respectTransparency false in
/-- The kernel as printed is the same text: the run is the one for any float values. -/
theorem frame_kernel : Cert.quiescent_Kernel := fun m ρ _ => frame_any (F := Bits) m ρ Cert.Kernel.defs Cert.Kernel.main defs_eq main_eq

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Heads.lean ====
/-
  What one block's operations compute, read entry by entry over the extended reals.
-/
module

public import proofs.«01_k».proof.Proof.Blocks
public import Idealize.ShloMosaic.Lib.Pointwise

@[expose] public section

noncomputable section

namespace Cert.Ring

open Cert.KernelIdeal Cert.KernelIdeal.Gen
open Idealize.ShloMosaic

/-- The two positions are at most 128 apart. -/
def near (i j : Fin 256) : Prop := i.val ≤ j.val + 128 ∧ j.val ≤ i.val + 128

instance (i j : Fin 256) : Decidable (near i j) := by unfold near; infer_instance

theorem band_word (i j : Fin 256) :
    IntOp.cmpi .sle (IntOp.absi (IntOp.subi (BitVec.ofNat 32 i.val) (BitVec.ofNat 32 j.val))) 128#32 = if near i j then 1#1 else 0#1 := by
  have hi := i.isLt
  have hj := j.isLt
  have hw : (BitVec.ofNat 32 i.val - BitVec.ofNat 32 j.val).toNat = if j.val ≤ i.val then i.val - j.val else 2 ^ 32 + i.val - j.val := by
    rw [BitVec.toNat_sub, BitVec.toNat_ofNat, BitVec.toNat_ofNat]
    split <;> omega
  have ha : (IntOp.absi (IntOp.subi (BitVec.ofNat 32 i.val) (BitVec.ofNat 32 j.val))).toNat = if j.val ≤ i.val then i.val - j.val else j.val - i.val := by
    unfold IntOp.absi IntOp.subi
    rw [BitVec.msb_eq_decide]
    by_cases h : j.val ≤ i.val
    · rw [if_pos h] at hw ⊢
      rw [hw, if_neg (c := decide (2 ^ (32 - 1) ≤ i.val - j.val) = true) (by rw [decide_eq_true_eq]; omega), hw]
    · rw [if_neg h] at hw ⊢
      rw [hw, if_pos (c := decide (2 ^ (32 - 1) ≤ 2 ^ 32 + i.val - j.val) = true) (by rw [decide_eq_true_eq]; omega), BitVec.toNat_neg, hw]
      omega
  have hs : (IntOp.absi (IntOp.subi (BitVec.ofNat 32 i.val) (BitVec.ofNat 32 j.val))).sle 128#32 = decide (near i j) := by
    rw [BitVec.sle_eq_decide, BitVec.toInt_eq_toNat_cond, ha]
    refine decide_eq_decide.mpr ?_
    have h128 : (128#32 : BitVec 32).toInt = 128 := by decide
    rw [h128]
    unfold near
    split <;> split <;> omega
  unfold IntOp.cmpi
  simp only [hs]
  by_cases h : near i j <;> simp [h]

theorem band_apply (i j : Fin 256) : band (ix2 i j) = if near i j then 1#1 else 0#1 := by
  pointwise [band]
  exact band_word i j

theorem eighth_bf16 : Ideal.ofBits .bf16 0x3E00#16 = ((1 / 8 : ℝ) : EReal) := by
  simp [Ideal.ofBits, Ideal.ieee, -EReal.coe_mul]; norm_num
theorem eighth_f32 : Ideal.ofBits .f32 0x3E000000#32 = ((1 / 8 : ℝ) : EReal) := by
  simp [Ideal.ofBits, Ideal.ieee, -EReal.coe_mul]; norm_num

theorem xscaled_apply (x : Vec Ideal S2x256x512 .bf16) (b : Fin 2) (i : Fin 256) (k : Fin 512) (r : Fin 512) (hr : r.val = 256 * b.val + i.val) :
    xscaled x (ix2 r k) = x (ix3 b i k) * ((1 / 8 : ℝ) : EReal) := by
  pointwise [xscaled]
  have h1 : (⟨r.val / 256, by omega⟩ : Fin 2) = b := Fin.ext (by show r.val / 256 = b.val; omega)
  have h2 : (⟨r.val % 256, by omega⟩ : Fin 256) = i := Fin.ext (by show r.val % 256 = i.val; omega)
  rw [eighth_bf16, h1, h2]

theorem queries_apply (x : FVec Ideal S512x512 .bf16) (w : Vec Ideal S512x256 .bf16) (r : Fin 512) (p : Fin 256) :
    queries x w (ix2 r p) = ∑ k : Fin 512, x (ix2 r k) * w (ix2 k p) := by
  pointwise [queries]

theorem expo_apply (q : FVec Ideal S256x64 .bf16) (k : Vec Ideal S1x1x64x256 .bf16) (i j : Fin 256) :
    expo q k (ix2 i j) = if near i j then Ideal.exp (∑ d : Fin 64, q (ix2 i d) * k (ix4 0 0 d j)) else 0 := by
  pointwise [expo]
  rw [band_apply]
  by_cases h : near i j <;> simp [h, Scalar.select]

theorem weights_apply (e : FVec Ideal S256x256 .f32) (i j : Fin 256) :
    weights e (ix2 i j) = Ideal.div (e (ix2 i j)) (∑ l : Fin 256, e (ix2 i l)) := by
  pointwise [weights]

/-- One query's attention: the exponentials of its scores with the keys that are near, divided by their sum, and the values weighted with them. -/
def att (i : Fin 256) (q : Fin 64 → EReal) (k : Fin 64 → Fin 256 → EReal) (v : Fin 256 → EReal) : EReal :=
  ∑ j : Fin 256, Ideal.div (if near i j then Ideal.exp (∑ d : Fin 64, q d * k d j) else 0)
    (∑ l : Fin 256, if near i l then Ideal.exp (∑ d : Fin 64, q d * k d l) else 0) * v j

theorem head_apply (q : FVec Ideal S256x64 .bf16) (k : Vec Ideal S1x1x64x256 .bf16) (v : Vec Ideal S1x1x256x64 .bf16) (i : Fin 256) (d : Fin 64) :
    head q k v (ix2 i d) = att i (fun e => q (ix2 i e)) (fun e j => k (ix4 0 0 e j)) (fun j => v (ix4 0 0 j d)) := by
  pointwise [head]
  simp only [weights_apply, expo_apply]
  rfl

theorem heads_apply (q : FVec Ideal S256x256 .bf16) (k : Fin 4 → Vec Ideal S1x1x64x256 .bf16) (v : Fin 4 → Vec Ideal S1x1x256x64 .bf16)
    (i : Fin 256) (h : Fin 4) (d : Fin 64) :
    heads q k v (ix2 i ⟨64 * h.val + d.val, by omega⟩)
      = att i (fun e => q (ix2 i ⟨64 * h.val + e.val, by omega⟩)) (fun e j => k h (ix4 0 0 e j)) (fun j => v h (ix4 0 0 j d)) := by
  fin_cases h
  all_goals pointwise [heads]
  all_goals try rw [dif_neg (by omega), dif_neg (by omega)]
  · rw [head_apply]
    pointwise
  · rw [head_apply]
    pointwise
  · rw [dif_pos (by omega), head_apply]
    pointwise
    simp only [show 128 + d.val - 64 - 64 = d.val by omega]
  · rw [dif_neg (by omega), head_apply]
    pointwise
    simp only [show 192 + d.val - 64 - 64 - 64 = d.val by omega]

theorem heads_at (q : FVec Ideal S256x256 .bf16) (k : Fin 4 → Vec Ideal S1x1x64x256 .bf16) (v : Fin 4 → Vec Ideal S1x1x256x64 .bf16)
    (i p : Fin 256) :
    heads q k v (ix2 i p)
      = att i (fun e => q (ix2 i ⟨64 * (p.val / 64) + e.val, by omega⟩)) (fun e j => k ⟨p.val / 64, by omega⟩ (ix4 0 0 e j))
        (fun j => v ⟨p.val / 64, by omega⟩ (ix4 0 0 j ⟨p.val % 64, by omega⟩)) := by
  have h := heads_apply q k v i ⟨p.val / 64, by omega⟩ ⟨p.val % 64, by omega⟩
  have hp : (⟨64 * (p.val / 64) + p.val % 64, by omega⟩ : Fin 256) = p := Fin.ext (by show 64 * (p.val / 64) + p.val % 64 = p.val; omega)
  rw [← h]
  exact congrArg (fun t => heads q k v (ix2 i t)) hp.symm

/-- A block's contribution to one entry of the result: over the block's 256 columns, the head's attention times the block's entry of `Wo`. -/
theorem contrib_apply (x : FVec Ideal S512x512 .bf16) (w : Vec Ideal S512x256 .bf16) (o : Vec Ideal S256x512 .bf16)
    (k k' : Fin 4 → Vec Ideal S1x1x64x256 .bf16) (v v' : Fin 4 → Vec Ideal S1x1x256x64 .bf16) (b : Fin 2) (i : Fin 256) (m : Fin 512) :
    contrib x w o k k' v v' (ix3 b i m) = ∑ p : Fin 256,
      att i (fun e => queries x w (ix2 ⟨256 * b.val + i.val, by omega⟩ ⟨64 * (p.val / 64) + e.val, by omega⟩))
        (fun e j => (![k, k'] b) ⟨p.val / 64, by omega⟩ (ix4 0 0 e j))
        (fun j => (![v, v'] b) ⟨p.val / 64, by omega⟩ (ix4 0 0 j ⟨p.val % 64, by omega⟩)) * o (ix2 p m) := by
  pointwise [contrib]
  refine Finset.sum_congr rfl fun p _ => congrArg (· * _) ?_
  fin_cases b
  · rw [dif_pos (by show 0 * 256 + i.val < 256; omega), heads_at]
    pointwise
  · rw [dif_neg (by show ¬ 1 * 256 + i.val < 256; omega), heads_at]
    pointwise

end Cert.Ring
-- ==== Proof.Total.lean ====
/-
  A device's result is the sum of the sixteen blocks' contributions, whatever order they come in.
-/
module

public import proofs.«01_k».proof.Proof.Heads
public import proofs.«01_k».proof.Proof.Talk

@[expose] public section

noncomputable section

namespace Cert.Ring

open Cert.KernelIdeal Cert.KernelIdeal.Gen
open Idealize.ShloMosaic

variable (p : Parts Ideal) (c : Dev nD) (K : Vec Ideal S2x64x64x256 .bf16) (V : Vec Ideal S2x64x256x64 .bf16) (x : FVec Ideal S512x512 .bf16)

/-- Block `k`'s contribution to an entry of the result. -/
def term (b : Fin 2) (i : Fin 256) (n : Fin 512) (k : Fin 16) : EReal :=
  ∑ r : Fin 256,
    att i (fun e => ∑ a : Fin 512, x (ix2 ⟨256 * b.val + i.val, by omega⟩ a) * p.A k (ix2 a ⟨64 * (r.val / 64) + e.val, by omega⟩))
      (fun e j => K (ix4 b ⟨4 * k.val + r.val / 64, by omega⟩ e j))
      (fun j => V (ix4 b ⟨4 * k.val + r.val / 64, by omega⟩ j ⟨r.val % 64, by omega⟩)) * p.B k (ix2 r n)

theorem pick {α : Type} (f : Fin 4 → α) (h : Fin 4) : ![f 0, f 1, f 2, f 3] h = f h := by
  fin_cases h <;> rfl

theorem batches {α : Type} (f : Fin 2 → α) (b : Fin 2) : ![f 0, f 1] b = f b := by
  fin_cases b <;> rfl

theorem step_apply (y : Vec Ideal S2x256x512 .f32) (k : Fin 16) (b : Fin 2) (i : Fin 256) (n : Fin 512) :
    step p K V x y k (ix3 b i n) = y (ix3 b i n) + term p K V x b i n k := by
  unfold step
  pointwise
  rw [contrib_apply]
  refine congrArg (_ + ·) (Finset.sum_congr rfl fun r _ => congrArg (· * _) ?_)
  have hk (h : Fin 4) : (![![kOf K 0 (hdOf k 0), kOf K 0 (hdOf k 1), kOf K 0 (hdOf k 2), kOf K 0 (hdOf k 3)],
      ![kOf K 1 (hdOf k 0), kOf K 1 (hdOf k 1), kOf K 1 (hdOf k 2), kOf K 1 (hdOf k 3)]] b) h = kOf K b (hdOf k h) :=
    (congrFun (batches (fun b => ![kOf K b (hdOf k 0), kOf K b (hdOf k 1), kOf K b (hdOf k 2), kOf K b (hdOf k 3)]) b) h).trans
      (pick (fun h => kOf K b (hdOf k h)) h)
  have hv (h : Fin 4) : (![![vOf V 0 (hdOf k 0), vOf V 0 (hdOf k 1), vOf V 0 (hdOf k 2), vOf V 0 (hdOf k 3)],
      ![vOf V 1 (hdOf k 0), vOf V 1 (hdOf k 1), vOf V 1 (hdOf k 2), vOf V 1 (hdOf k 3)]] b) h = vOf V b (hdOf k h) :=
    (congrFun (batches (fun b => ![vOf V b (hdOf k 0), vOf V b (hdOf k 1), vOf V b (hdOf k 2), vOf V b (hdOf k 3)]) b) h).trans
      (pick (fun h => vOf V b (hdOf k h)) h)
  simp only [hk, hv, queries_apply]
  rfl

theorem blank_apply (j : S2x256x512.Idx) : blank (F := Ideal) j = 0 := by
  pointwise [blank]

theorem outY_apply (b : Fin 2) (i : Fin 256) (n : Fin 512) : outY p c K V x (ix3 b i n) = ∑ k : Fin 16, term p K V x b i n k := by
  have h : outY p c K V x (ix3 b i n) = ∑ r : Fin 16, term p K V x b i n (chunk r c) := by
    simp only [outY, after, step2, step_apply, blank_apply, zero_add]
    generalize term p K V x b i n = g
    simp only [Fin.sum_univ_succ, Fin.sum_univ_zero, add_assoc, add_zero]
    rfl
  rw [h]
  exact (chunkE c).sum_comp (term p K V x b i n)

end Cert.Ring
-- ==== Proof.Operands.lean ====
/-
  What the host hands each device's kernel, read entry by entry.
-/
module

public import proofs.«01_k».proof.Proof.Region
public import Idealize.ShloMosaic.Lib.Pointwise
public import Idealize.ShloMosaic.Lib.StableHlo.ReadAt
public import Idealize.ShloMosaic.Lib.Tactic.WordOmega

@[expose] public section

noncomputable section

namespace Cert.Ring

open Cert.KernelIdeal Cert.KernelIdeal.Gen
open Idealize.ShloMosaic Idealize.ShloMosaic.TcCoe

variable (m : (ℓ : Loc nD τ sig) → Buf (Elt Ideal) ℓ) (c : Dev nD)

theorem xv_apply (i : S2x256x512.Idx) : xv m c i = m ((c.tc : Thread nD τ).loc main_arg0) i := by
  unfold xv V1
  after_reads_at

theorem partA_apply (i : S512x256.Idx) : (parts m).A c i = m ((c.tc : Thread nD τ).loc main_arg1) i := by
  show V1 m c main_v20 i = _
  unfold V1
  after_reads_at

theorem partB_apply (i : S256x512.Idx) : (parts m).B c i = m ((c.tc : Thread nD τ).loc main_arg4) i := by
  show V1 m c main_v21 i = _
  unfold V1
  after_reads_at

theorem device_word : ∀ c : Dev nD,
    (id (Host.remui (Host.divui (constantI S_ 32 c.word) (constantI S_ 32 1#32)) (constantI S_ 32 16#32)) : IVec S_ 32) (Shape.Idx.first h_S_) = BitVec.ofNat 32 c.val := by
  decide +kernel

theorem batch_word : ∀ c : Dev nD,
    (Scalar.select (IntOp.cmpi .slt (IntOp.muli (BitVec.ofNat 32 c.val) 2#32) 0#32) (IntOp.addi (IntOp.muli (BitVec.ofNat 32 c.val) 2#32) 32#32)
      (IntOp.muli (BitVec.ofNat 32 c.val) 2#32)).toInt = ((2 * c.val : ℕ) : ℤ) := by
  decide +kernel

theorem slice_src (x : FVec Ideal S32x256x64x64 .f32) (f : Fin 4 → ℤ) (b : Fin 2) (j : Fin 256) (h d : Fin 64)
    (p0 p1 p2 p3) (h0 : f 0 = ((2 * c.val : ℕ) : ℤ)) (h1 : f 1 = ((0 : ℕ) : ℤ)) (h2 : f 2 = ((0 : ℕ) : ℤ)) (h3 : f 3 = ((0 : ℕ) : ℤ)) :
    x (ix4 ⟨Host.clampedStart S32x256x64x64 S2x256x64x64 rfl f 0 + b.val, p0⟩ ⟨Host.clampedStart S32x256x64x64 S2x256x64x64 rfl f 1 + j.val, p1⟩
      ⟨Host.clampedStart S32x256x64x64 S2x256x64x64 rfl f 2 + h.val, p2⟩ ⟨Host.clampedStart S32x256x64x64 S2x256x64x64 rfl f 3 + d.val, p3⟩)
      = x (ix4 ⟨2 * c.val + b.val, by have := c.isLt; change c.val < 16 at this; omega⟩ j h d) := by
  have hc := c.isLt
  change c.val < 16 at hc
  have e0 := Host.clampedStart_of_le (s := S32x256x64x64) (t := S2x256x64x64) rfl f 0 _ h0 (by show 2 * c.val + 2 ≤ 32; omega)
  have e1 := Host.clampedStart_of_le (s := S32x256x64x64) (t := S2x256x64x64) rfl f 1 _ h1 (by show 0 + 256 ≤ 256; omega)
  have e2 := Host.clampedStart_of_le (s := S32x256x64x64) (t := S2x256x64x64) rfl f 2 _ h2 (by show 0 + 64 ≤ 64; omega)
  have e3 := Host.clampedStart_of_le (s := S32x256x64x64) (t := S2x256x64x64) rfl f 3 _ h3 (by show 0 + 64 ≤ 64; omega)
  simp only [e0, e1, e2, e3, Nat.zero_add]

theorem startK0 : BitVec.toInt (StableHlo.upto (hostOps0 c) (V0 m c) 16 (Proc.tc.devRef main_v8) (Shape.Idx.first h_S_)) = ((2 * c.val : ℕ) : ℤ) := by
  after_reads_at
  rw [device_word]
  exact batch_word c
theorem startK1 : BitVec.toInt (StableHlo.upto (hostOps0 c) (V0 m c) 16 (Proc.tc.devRef main_c_4) (Shape.Idx.first h_S_)) = ((0 : ℕ) : ℤ) := by
  after_reads_at
  rfl
theorem startK2 : BitVec.toInt (StableHlo.upto (hostOps0 c) (V0 m c) 16 (Proc.tc.devRef main_c_5) (Shape.Idx.first h_S_)) = ((0 : ℕ) : ℤ) := by
  after_reads_at
  rfl
theorem startK3 : BitVec.toInt (StableHlo.upto (hostOps0 c) (V0 m c) 16 (Proc.tc.devRef main_c_6) (Shape.Idx.first h_S_)) = ((0 : ℕ) : ℤ) := by
  after_reads_at
  rfl
theorem startV0 : BitVec.toInt (StableHlo.upto (hostOps0 c) (V0 m c) 27 (Proc.tc.devRef main_v13) (Shape.Idx.first h_S_)) = ((2 * c.val : ℕ) : ℤ) := by
  after_reads_at
  rw [device_word]
  exact batch_word c
theorem startV1 : BitVec.toInt (StableHlo.upto (hostOps0 c) (V0 m c) 27 (Proc.tc.devRef main_c_10) (Shape.Idx.first h_S_)) = ((0 : ℕ) : ℤ) := by
  after_reads_at
  rfl
theorem startV2 : BitVec.toInt (StableHlo.upto (hostOps0 c) (V0 m c) 27 (Proc.tc.devRef main_c_11) (Shape.Idx.first h_S_)) = ((0 : ℕ) : ℤ) := by
  after_reads_at
  rfl
theorem startV3 : BitVec.toInt (StableHlo.upto (hostOps0 c) (V0 m c) 27 (Proc.tc.devRef main_c_12) (Shape.Idx.first h_S_)) = ((0 : ℕ) : ℤ) := by
  after_reads_at
  rfl

theorem kv_apply (b : Fin 2) (h d : Fin 64) (j : Fin 256) :
    kv m c (ix4 b h d j) = m ((c.tc : Thread nD τ).loc main_arg2) (ix4 ⟨2 * c.val + b.val, by have := c.isLt; change c.val < 16 at this; omega⟩ j h d) := by
  unfold kv V1
  after_reads_at
  exact slice_src c _ _ b j h d _ _ _ _ (startK0 m c) (startK1 m c) (startK2 m c) (startK3 m c)

theorem vv_apply (b : Fin 2) (h d : Fin 64) (j : Fin 256) :
    vv m c (ix4 b h j d) = m ((c.tc : Thread nD τ).loc main_arg3) (ix4 ⟨2 * c.val + b.val, by have := c.isLt; change c.val < 16 at this; omega⟩ j h d) := by
  unfold vv V1
  after_reads_at
  exact slice_src c _ _ b j h d _ _ _ _ (startV0 m c) (startV1 m c) (startV2 m c) (startV3 m c)

end Cert.Ring
-- ==== Proof.Reference.lean ====
/-
  The reference's result, read entry by entry over the extended reals.
-/
module

public import proofs.«01_k».proof.Proof.Gen.ReferenceIdeal.Run
public import proofs.«01_k».proof.Proof.Heads
public import Idealize.ShloMosaic.Lib.Pointwise
public import Idealize.ShloMosaic.Lib.IdealHost

@[expose] public section

noncomputable section

namespace Cert.Ref

open Cert.ReferenceIdeal Cert.ReferenceIdeal.Gen
open Idealize.ShloMosaic Idealize.ShloMosaic.TcCoe

/-- Which keys are near a query, as the reference computes it. -/
def bandH : IVec S256x256 1 :=
  cmpi .sle (absi (subi (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))))
    (broadcastInDim S256x256 ![] bcast_S_S256x256 (constantI S_ 32 128#32))

/-- Which rows have a key at all. -/
def keep : IVec S1x1x256x1 1 :=
  broadcastInDim S1x1x256x1 ![2] bcast_S256_S1x1x256x1_2 (Host.reduce IntOp.ori bandH (constantI S_ 1 0#1) reducesTo_S256x256_S256_d1 h_S_)

/-- The scores, minus infinity where the key is not near. -/
def scores (X : FVec Ideal S32x256x512 .f32) (W : FVec Ideal S512x4096 .f32) (K : FVec Ideal S32x256x64x64 .f32) : FVec Ideal S32x64x256x256 .f32 :=
  select (broadcastInDim S32x64x256x256 ![0, 1, 2, 3] bcast_S1x1x256x256_S32x64x256x256_0_1_2_3
      (broadcastInDim S1x1x256x256 ![2, 3] bcast_S256x256_S1x1x256x256_2_3 bandH))
    (mulf (Host.dotGeneral dot_S32x256x64x64_S32x256x64x64_S32x64x256x256_3_3_1_1_02_02 none
        (shapeCast _ (Host.dotGeneral dot_S32x256x512_S512x4096_S32x256x4096_2_0_01_1_n_n none X W) shapeCasts_S32x256x4096_S32x256x64x64) K)
      (broadcastInDim S32x64x256x256 ![] bcast_S_S32x64x256x256 (constant S_ .f32 0x3E000000#32)))
    (broadcastInDim S32x64x256x256 ![] bcast_S_S32x64x256x256 (id (constant S_ .f32 0xFF800000#32)))

/-- The exponentials of the scores less their row's largest. -/
def expos (s : FVec Ideal S32x64x256x256 .f32) : FVec Ideal S32x64x256x256 .f32 :=
  Host.exp (subf s (broadcastInDim S32x64x256x256 ![0, 1, 2, 3] bcast_S32x64x256x1_S32x64x256x256_0_1_2_3
    (broadcastInDim S32x64x256x1 ![0, 1, 2] bcast_S32x64x256_S32x64x256x1_0_1_2
      (Host.reduce FloatOps.maximumf s (constant S_ .f32 0xFF800000#32) reducesTo_S32x64x256x256_S32x64x256_d3 h_S_))))

/-- Divided by their row's sum. -/
def softmax (e : FVec Ideal S32x64x256x256 .f32) : FVec Ideal S32x64x256x256 .f32 :=
  select (broadcastInDim S32x64x256x256 ![0, 1, 2, 3] bcast_S1x1x256x1_S32x64x256x256_0_1_2_3 keep)
    (Host.divf e (broadcastInDim S32x64x256x256 ![0, 1, 2, 3] bcast_S32x64x256x1_S32x64x256x256_0_1_2_3
      (select (broadcastInDim S32x64x256x1 ![0, 1, 2, 3] bcast_S1x1x256x1_S32x64x256x1_0_1_2_3 keep)
        (broadcastInDim S32x64x256x1 ![0, 1, 2] bcast_S32x64x256_S32x64x256x1_0_1_2
          (Host.reduceAdd e (constant S_ .f32 0x00000000#32) reducesTo_S32x64x256x256_S32x64x256_d3 h_S_))
        (broadcastInDim S32x64x256x1 ![] bcast_S_S32x64x256x1 (id (constant S_ .f32 0x3F800000#32))))))
    (broadcastInDim S32x64x256x256 ![] bcast_S_S32x64x256x256 (id (constant S_ .f32 0x00000000#32)))

/-- The values weighted, and the product with the last weight. -/
def out (V : FVec Ideal S32x256x64x64 .f32) (w : FVec Ideal S32x64x256x256 .f32) (O : FVec Ideal S4096x512 .f32) : FVec Ideal S32x256x512 .f32 :=
  Host.dotGeneral dot_S32x256x4096_S4096x512_S32x256x512_2_0_01_1_n_n none
    (shapeCast _ (transpose S32x256x64x64 [0, 3, 1, 2]
      (Host.dotGeneral dot_S32x256x64x64_S32x64x256x256_S32x64x64x256_1_3_3_2_02_01 none V w) transposes_S32x64x64x256_S32x256x64x64_0_3_1_2)
      shapeCasts_S32x256x64x64_S32x256x4096) O

theorem result_eq (m : (ℓ : Loc nD τ sig) → Buf (Elt Ideal) ℓ) (c : Dev nD) :
    Value.res_main_v34 m c = out (m ((c.tc : Thread nD τ).loc main_arg3))
      (softmax (expos (scores (m ((c.tc : Thread nD τ).loc main_arg0)) (m ((c.tc : Thread nD τ).loc main_arg1)) (m ((c.tc : Thread nD τ).loc main_arg2)))))
      (m ((c.tc : Thread nD τ).loc main_arg4)) := rfl

theorem bandH_apply (i j : Fin 256) : bandH (ix2 i j) = if Ring.near i j then 1#1 else 0#1 := by
  pointwise [bandH]
  exact Ring.band_word i j

theorem fold_or (s : Finset (Fin 256)) (f : Fin 256 → BitVec 1) (i : Fin 256) (hi : i ∈ s) (h : f i = 1#1) : Finset.fold IntOp.ori (0#1) f s = 1#1 := by
  classical
  obtain ⟨t, ht, rfl⟩ : ∃ t, i ∉ t ∧ s = insert i t := ⟨s.erase i, Finset.notMem_erase i s, (Finset.insert_erase hi).symm⟩
  rw [Finset.fold_insert ht, h]
  generalize Finset.fold IntOp.ori (0#1) f t = z
  revert z
  decide

/-- Every row has its own position among the keys that are near. -/
theorem keep_apply (i : Fin 256) : keep (ix4 0 0 i 0) = 1#1 := by
  pointwise [keep]
  refine fold_or _ _ i (Finset.mem_univ i) ?_
  rw [bandH_apply, if_pos]
  exact ⟨Nat.le_add_right _ _, Nat.le_add_right _ _⟩

theorem minus_inf : Ideal.ofBits .f32 0xFF800000#32 = ⊥ := by
  simp [Ideal.ofBits, Ideal.ieee]

theorem scores_apply (X : FVec Ideal S32x256x512 .f32) (W : FVec Ideal S512x4096 .f32) (K : FVec Ideal S32x256x64x64 .f32)
    (b : Fin 32) (h : Fin 64) (i j : Fin 256) :
    scores X W K (ix4 b h i j) = if Ring.near i j
      then (∑ d : Fin 64, (∑ k : Fin 512, X (ix3 b i k) * W (ix2 k ⟨h.val * 64 + d.val, by omega⟩)) * K (ix4 b j h d)) * ((1 / 8 : ℝ) : EReal)
      else ⊥ := by
  pointwise [scores]
  rw [bandH_apply, Ring.eighth_f32]
  by_cases hn : Ring.near i j
  · simp [hn, Scalar.select]
  · simp only [hn, if_false, Scalar.select]
    exact minus_inf

theorem expos_apply (s : FVec Ideal S32x64x256x256 .f32) (b : Fin 32) (h : Fin 64) (i j : Fin 256) :
    expos s (ix4 b h i j) = Ideal.exp (s (ix4 b h i j) - Finset.univ.fold max ⊥ fun l : Fin 256 => s (ix4 b h i l)) := by
  pointwise [expos]
  rw [minus_inf]

theorem softmax_apply (e : FVec Ideal S32x64x256x256 .f32) (b : Fin 32) (h : Fin 64) (i j : Fin 256) :
    softmax e (ix4 b h i j) = Ideal.div (e (ix4 b h i j)) (∑ l : Fin 256, e (ix4 b h i l)) := by
  pointwise [softmax]
  rw [keep_apply]
  rfl

theorem out_apply (V : FVec Ideal S32x256x64x64 .f32) (w : FVec Ideal S32x64x256x256 .f32) (O : FVec Ideal S4096x512 .f32)
    (b : Fin 32) (i : Fin 256) (m : Fin 512) :
    out V w O (ix3 b i m) = ∑ p : Fin 4096, (∑ j : Fin 256, V (ix4 b j ⟨p.val / 64, by omega⟩ ⟨p.val % 64, by omega⟩) * w (ix4 b ⟨p.val / 64, by omega⟩ i j))
      * O (ix2 p m) := by
  pointwise [out]

end Cert.Ref
-- ==== Proof.Softmax.lean ====
/-
  The real arithmetic: the scores are real, and dividing the exponentials by their sum gives the same whatever real number is taken off the scores first.
-/
module

public import proofs.«01_k».proof.Proof.Heads

@[expose] public section

noncomputable section

namespace Cert.Ring

open Idealize.ShloMosaic

/-- Neither infinity. -/
def IsReal (x : EReal) : Prop := ⊥ < x ∧ x < ⊤

theorem real_iff {x : EReal} (h : IsReal x) : ∃ r : ℝ, x = (r : EReal) :=
  ⟨x.toReal, (EReal.coe_toReal h.2.ne h.1.ne').symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Scaling `x` by an eighth first or the score afterwards is the same, and the score is real. -/
theorem score_real (x : Fin 512 → EReal) (w : Fin 64 → Fin 512 → EReal) (k : Fin 64 → EReal) (hx : ∀ a, IsReal (x a)) (hw : ∀ d a, IsReal (w d a))
    (hk : ∀ d, IsReal (k d)) :
    ∃ t : ℝ, (∑ d : Fin 64, (∑ a : Fin 512, x a * ((1 / 8 : ℝ) : EReal) * w d a) * k d) = (t : EReal)
      ∧ (∑ d : Fin 64, (∑ a : Fin 512, x a * w d a) * k d) * ((1 / 8 : ℝ) : EReal) = (t : EReal) := by
  choose X hX using fun a => real_iff (hx a)
  choose W hW using fun d a => real_iff (hw d a)
  choose K hK using fun d => real_iff (hk d)
  refine ⟨∑ d : Fin 64, (∑ a : Fin 512, X a * (1 / 8) * W d a) * K d, ?_, ?_⟩
  · simp only [hX, hW, hK, ← EReal.coe_mul, ← coe_sum]
  · simp only [hX, hW, hK, ← EReal.coe_mul, ← coe_sum]
    refine congrArg _ ?_
    rw [Finset.sum_mul]
    refine Finset.sum_congr rfl fun d _ => ?_
    rw [mul_right_comm, Finset.sum_mul]
    refine congrArg (· * _) (Finset.sum_congr rfl fun a _ => ?_)
    ring

theorem div_real (a b : ℝ) (h : b ≠ 0) : Ideal.div (a : EReal) (b : EReal) = ((a / b : ℝ) : EReal) := by
  rw [Ideal.div_coe h, ← EReal.coe_mul, mul_one_div]

theorem near_self (i : Fin 256) : near i i := ⟨Nat.le_add_right _ _, Nat.le_add_right _ _⟩

/-- The largest of the near scores is real. -/
theorem max_real (i : Fin 256) (t : Fin 256 → ℝ) :
    ∃ μ : ℝ, (Finset.univ.fold max (⊥ : EReal) fun j : Fin 256 => if near i j then (t j : EReal) else ⊥) = (μ : EReal) := by
  have h1 : ⊥ < (Finset.univ.fold max (⊥ : EReal) fun j : Fin 256 => if near i j then (t j : EReal) else ⊥) := by
    rw [Finset.lt_fold_max]
    exact .inr ⟨i, Finset.mem_univ i, by rw [if_pos (near_self i)]; exact EReal.bot_lt_coe _⟩
  have h2 : (Finset.univ.fold max (⊥ : EReal) fun j : Fin 256 => if near i j then (t j : EReal) else ⊥) < ⊤ := by
    rw [Finset.fold_max_lt]
    refine ⟨bot_lt_top, fun j _ => ?_⟩
    split
    · exact EReal.coe_lt_top _
    · exact bot_lt_top
  exact real_iff ⟨h1, h2⟩

theorem softmax_shift (i j : Fin 256) (t : Fin 256 → ℝ) (s : Fin 256 → EReal) (hs : ∀ l, s l = if near i l then (t l : EReal) else ⊥) :
    Ideal.div (Ideal.exp (s j - Finset.univ.fold max ⊥ s)) (∑ l : Fin 256, Ideal.exp (s l - Finset.univ.fold max ⊥ s))
      = Ideal.div (if near i j then Ideal.exp (t j : EReal) else 0) (∑ l : Fin 256, if near i l then Ideal.exp (t l : EReal) else 0) := by
  obtain rfl : s = fun l => if near i l then (t l : EReal) else ⊥ := funext hs
  obtain ⟨μ, hμ⟩ := max_real i t
  rw [hμ]
  have hl : ∀ l, Ideal.exp ((if near i l then (t l : EReal) else ⊥) - (μ : EReal)) = ((if near i l then Real.exp (t l) * Real.exp (-μ) else 0 : ℝ) : EReal) := by
    intro l
    split
    · rw [← EReal.coe_sub, Ideal.exp_coe, sub_eq_add_neg, Real.exp_add]
    · rw [EReal.bot_sub]; rfl
  have hr : ∀ l, (if near i l then Ideal.exp (t l : EReal) else 0) = ((if near i l then Real.exp (t l) else 0 : ℝ) : EReal) := by
    intro l
    split
    · rfl
    · rfl
  simp only [hl, hr, ← coe_sum]
  have hpos : 0 < ∑ l : Fin 256, (if near i l then Real.exp (t l) else 0) := by
    refine Finset.sum_pos' (fun l _ => ?_) ⟨i, Finset.mem_univ i, ?_⟩
    · split
      · exact (Real.exp_pos _).le
      · exact le_rfl
    · rw [if_pos (near_self i)]; exact Real.exp_pos _
  have hsum : ∀ l, (if near i l then Real.exp (t l) * Real.exp (-μ) else 0) = (if near i l then Real.exp (t l) else 0) * Real.exp (-μ) := by
    intro l
    split
    · rfl
    · rw [zero_mul]
  simp only [hsum, ← Finset.sum_mul]
  rw [div_real _ _ (mul_pos hpos (Real.exp_pos _)).ne', div_real _ _ hpos.ne', mul_div_mul_right _ _ (Real.exp_pos _).ne']

end Cert.Ring
-- ==== Proof.Finite.lean ====
/-
  The precondition read back: the entries of `x`, `Wq` and `K_ext` are real.
-/
module

public import proofs.«01_k».proof.Defs
public import Idealize.ShloMosaic.Lib.ReduceAll
public import proofs.«01_k».proof.Proof.Softmax
public import proofs.«01_k».proof.Proof.Gen.Pre_finite_scores_KernelIdeal

@[expose] public section

noncomputable section

namespace Cert.Ring

open Cert.Pre_finite_scores_KernelIdeal Cert.Pre_finite_scores_KernelIdeal.Gen
open Idealize.ShloMosaic

theorem minus_inf : Ideal.ofBits .f32 0xFF800000#32 = ⊥ := by
  simp [Ideal.ofBits, Ideal.ieee]
theorem plus_inf : Ideal.ofBits .f32 0x7F800000#32 = ⊤ := by
  simp [Ideal.ofBits, Ideal.ieee]

theorem word_real {x : EReal}
    (h : IntOp.andi (BitVec.ofBool (decide (Ideal.ofBits .f32 0xFF800000#32 < x))) (BitVec.ofBool (decide (x < Ideal.ofBits .f32 0x7F800000#32))) = 1#1) :
    IsReal x := by
  rw [minus_inf, plus_inf, IntOp.andi_eq_one] at h
  have hb : ∀ b : Bool, BitVec.ofBool b = 1#1 → b = true := by decide
  exact ⟨of_decide_eq_true (hb _ h.1), of_decide_eq_true (hb _ h.2)⟩

instance : Subsingleton S_.Idx := ⟨fun a b => funext fun k => k.elim0⟩

theorem pre_real (a0 : FVec Ideal S2x256x512 .f32) (a1 : FVec Ideal S512x256 .f32) (a2 a3 : FVec Ideal S32x256x64x64 .f32) (a4 : FVec Ideal S256x512 .f32)
    (h : Cert.Pre_finite_scores_KernelIdeal.fn (F := Ideal) a0 a1 a2 a3 a4 = fun _ => 1#1) :
    (∀ i j k, IsReal (a0 (ix3 i j k))) ∧ (∀ i j, IsReal (a1 (ix2 i j))) ∧ ∀ i j k l, IsReal (a2 (ix4 i j k l)) := by
  have h0 := congrFun h ix0
  obtain ⟨h01, h2⟩ := IntOp.andi_eq_one.1 h0
  obtain ⟨h0, h1⟩ := IntOp.andi_eq_one.1 h01
  refine ⟨fun i j k => ?_, fun i j => ?_, fun i j k l => ?_⟩
  · have e := Host.reduce_andi_all _ _ _ _ _ h0 (ix3 i j k)
    pointwise at e
    exact word_real e
  · have e := Host.reduce_andi_all _ _ _ _ _ h1 (ix2 i j)
    pointwise at e
    exact word_real e
  · have e := Host.reduce_andi_all _ _ _ _ _ h2 (ix4 i j k l)
    pointwise at e
    exact word_real e

end Cert.Ring
-- ==== Proof.Value.lean ====
/-
  A device's result is its block of the reference's.
-/
module

public import proofs.«01_k».proof.Proof.Total
public import proofs.«01_k».proof.Proof.Operands
public import proofs.«01_k».proof.Proof.Reference
public import proofs.«01_k».proof.Proof.Softmax
public import proofs.«01_k».proof.Proof.Finite

@[expose] public section

noncomputable section

namespace Cert.Ring

open Cert.KernelIdeal Cert.KernelIdeal.Gen
open Idealize.ShloMosaic Idealize.ShloMosaic.TcCoe

section entry

variable (X : FVec Ideal ⟨3, ![32, 256, 512]⟩ .f32) (W : FVec Ideal ⟨2, ![512, 4096]⟩ .f32) (K V : FVec Ideal ⟨4, ![32, 256, 64, 64]⟩ .f32)
  (O : FVec Ideal ⟨2, ![4096, 512]⟩ .f32)

/-- One query's attention over unshifted scores is what the reference computes over shifted ones. -/
theorem att_ref (hX : ∀ i j k, IsReal (X (ix3 i j k))) (hW : ∀ i j, IsReal (W (ix2 i j))) (hK : ∀ i j k l, IsReal (K (ix4 i j k l)))
    (B : Fin 32) (h d : Fin 64) (i : Fin 256) :
    att i (fun e => ∑ a : Fin 512, X (ix3 B i a) * ((1 / 8 : ℝ) : EReal) * W (ix2 a ⟨h.val * 64 + e.val, by omega⟩)) (fun e j => K (ix4 B j h e))
        (fun j => V (ix4 B j h d))
      = ∑ j : Fin 256, V (ix4 B j h d) * Ref.softmax (Ref.expos (Ref.scores X W K)) (ix4 B h i j) := by
  choose t ht1 ht2 using fun j : Fin 256 => score_real (fun a => X (ix3 B i a)) (fun e a => W (ix2 a ⟨h.val * 64 + e.val, by omega⟩))
    (fun e => K (ix4 B j h e)) (fun a => hX _ _ _) (fun e a => hW _ _) (fun e => hK _ _ _ _)
  unfold att
  refine Finset.sum_congr rfl fun j _ => ?_
  rw [mul_comm, Ref.softmax_apply]
  refine congrArg (_ * ·) ?_
  simp only [Ref.expos_apply, ht1]
  refine (softmax_shift i j t (fun l => Ref.scores X W K (ix4 B h i l)) fun l => ?_).symm
  rw [Ref.scores_apply, ht2]

variable (p : Parts Ideal) (K' : Vec Ideal S2x64x64x256 .bf16) (V' : Vec Ideal S2x64x256x64 .bf16) (x : FVec Ideal S512x512 .bf16)

theorem entry_eq (hX : ∀ i j k, IsReal (X (ix3 i j k))) (hW : ∀ i j, IsReal (W (ix2 i j))) (hK : ∀ i j k l, IsReal (K (ix4 i j k l)))
    (B : Fin 32) (b : Fin 2) (i : Fin 256) (n : Fin 512)
    (ex : ∀ a, x (ix2 ⟨256 * b.val + i.val, by omega⟩ a) = X (ix3 B i a) * ((1 / 8 : ℝ) : EReal))
    (eA : ∀ (k : Fin 16) (a : Fin 512) (q : Fin 256), p.A k (ix2 a q) = W (ix2 a ⟨k.val * 256 + q.val, by omega⟩))
    (eB : ∀ (k : Fin 16) (q : Fin 256), p.B k (ix2 q n) = O (ix2 ⟨k.val * 256 + q.val, by omega⟩ n))
    (eK : ∀ h d j, K' (ix4 b h d j) = K (ix4 B j h d)) (eV : ∀ h d j, V' (ix4 b h j d) = V (ix4 B j h d)) :
    ∑ k : Fin 16, term p K' V' x b i n k = Ref.out V (Ref.softmax (Ref.expos (Ref.scores X W K))) O (ix3 B i n) := by
  rw [Ref.out_apply, Fin.sum_univ_tiles 16 256 rfl]
  refine Finset.sum_congr rfl fun k _ => Finset.sum_congr rfl fun r _ => ?_
  have e1 : (⟨(k.val * 256 + r.val) / 64, by omega⟩ : Fin 64) = ⟨4 * k.val + r.val / 64, by omega⟩ := Fin.ext (by show (k.val * 256 + r.val) / 64 = 4 * k.val + r.val / 64; omega)
  have e2 : (⟨(k.val * 256 + r.val) % 64, by omega⟩ : Fin 64) = ⟨r.val % 64, by omega⟩ := Fin.ext (by show (k.val * 256 + r.val) % 64 = r.val % 64; omega)
  simp only [e1, e2]
  rw [eB, ← att_ref X W K V hX hW hK B ⟨4 * k.val + r.val / 64, by omega⟩ ⟨r.val % 64, by omega⟩ i]
  refine congrArg (· * _) ?_
  simp only [ex, eA, eK, eV]
  have e3 (e : Fin 64) : k.val * 256 + (64 * (r.val / 64) + e.val) = (4 * k.val + r.val / 64) * 64 + e.val := by omega
  simp only [e3]

end entry

section blocks

/-! ## Where a device's block lies in the whole -/

theorem rows3 (h : Layout.Tiles ⟨3, ![2, 256, 512]⟩ ⟨3, ![32, 256, 512]⟩ 0 16) (c : Fin 16) (b : Fin 2) (i : Fin 256) (k : Fin 512) :
    h.idx c (ix3 b i k) = ix3 (n0 := 32) ⟨2 * c.val + b.val, by omega⟩ i k := by
  funext a
  match a with
  | ⟨0, _⟩ => exact Fin.ext (congrArg (· + b.val) (Nat.mul_comm c.val 2))
  | ⟨1, _⟩ => rfl
  | ⟨2, _⟩ => rfl

theorem cols2 (h : Layout.Tiles ⟨2, ![512, 256]⟩ ⟨2, ![512, 4096]⟩ 1 16) (c : Fin 16) (a : Fin 512) (q : Fin 256) :
    h.idx c (ix2 a q) = ix2 (n1 := 4096) a ⟨c.val * 256 + q.val, by omega⟩ := by
  funext a
  match a with
  | ⟨0, _⟩ => rfl
  | ⟨1, _⟩ => rfl

theorem rows2 (h : Layout.Tiles ⟨2, ![256, 512]⟩ ⟨2, ![4096, 512]⟩ 0 16) (c : Fin 16) (q : Fin 256) (n : Fin 512) :
    h.idx c (ix2 q n) = ix2 (n0 := 4096) ⟨c.val * 256 + q.val, by omega⟩ n := by
  funext a
  match a with
  | ⟨0, _⟩ => rfl
  | ⟨1, _⟩ => rfl

end blocks

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- Each device's operands are its blocks of the reference's. -/
def Agree : Prop := ∀ c : Dev nD,
  m ((c.tc : Thread nD τ).loc main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
  ∧ m ((c.tc : Thread nD τ).loc main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
  ∧ m ((c.tc : Thread nD τ).loc main_arg2) = m' (((0 : Dev Cert.ReferenceIdeal.nD).tc : Thread Cert.ReferenceIdeal.nD Cert.ReferenceIdeal.τ).loc Cert.ReferenceIdeal.main_arg2)
  ∧ m ((c.tc : Thread nD τ).loc main_arg3) = m' (((0 : Dev Cert.ReferenceIdeal.nD).tc : Thread Cert.ReferenceIdeal.nD Cert.ReferenceIdeal.τ).loc Cert.ReferenceIdeal.main_arg3)
  ∧ m ((c.tc : Thread nD τ).loc main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))

theorem value (hpre : Cert.Pre_KernelIdeal_finite_scores_KernelIdeal m) (hin : Agree m m') (c : Dev nD) :
    res m c = Layout.block ⟨3, ![2, 256, 512]⟩ ⟨3, ![32, 256, 512]⟩ 0 16 c (Cert.ReferenceIdeal.Value.res_main_v34 m' 0) := by
  have hreal (d : Dev nD) := pre_real _ _ _ _ _ (hpre d)
  have hX (i : Fin 32) (j : Fin 256) (k : Fin 512) : IsReal (m' (((0 : Dev Cert.ReferenceIdeal.nD).tc : Thread Cert.ReferenceIdeal.nD Cert.ReferenceIdeal.τ).loc Cert.ReferenceIdeal.main_arg0) (ix3 i j k)) := by
    have h := (hreal ⟨i.val / 2, by show _ < 16; omega⟩).1 ⟨i.val % 2, by omega⟩ j k
    rw [(hin _).1, Layout.block_apply, rows3] at h
    simp only [Nat.div_add_mod] at h
    exact h
  have hW (i : Fin 512) (j : Fin 4096) : IsReal (m' (((0 : Dev Cert.ReferenceIdeal.nD).tc : Thread Cert.ReferenceIdeal.nD Cert.ReferenceIdeal.τ).loc Cert.ReferenceIdeal.main_arg1) (ix2 i j)) := by
    have h := (hreal ⟨j.val / 256, by show _ < 16; omega⟩).2.1 i ⟨j.val % 256, by omega⟩
    rw [(hin _).2.1, Layout.block_apply, cols2] at h
    simp only [Nat.div_add_mod'] at h
    exact h
  have hK (i : Fin 32) (j : Fin 256) (k l : Fin 64) : IsReal (m' (((0 : Dev Cert.ReferenceIdeal.nD).tc : Thread Cert.ReferenceIdeal.nD Cert.ReferenceIdeal.τ).loc Cert.ReferenceIdeal.main_arg2) (ix4 i j k l)) := by
    have h := (hreal c).2.2 i j k l
    rw [(hin c).2.2.1] at h
    exact h
  funext j
  obtain ⟨b, i, n, rfl⟩ : ∃ (b : Fin 2) (i : Fin 256) (n : Fin 512), j = ix3 b i n := ⟨j 0, j 1, j 2, eq_ix3 j⟩
  rw [Layout.block_apply, rows3, Ref.result_eq]
  unfold res
  rw [outY_apply]
  refine entry_eq _ _ _ _ _ _ _ _ _ hX hW hK _ b i n (fun a => ?_) (fun k a q => ?_) (fun k q => ?_) (fun h d j => ?_) (fun h d j => ?_)
  · rw [xscaled_apply _ b i a _ rfl, xv_apply, (hin c).1, Layout.block_apply, rows3]
  · rw [partA_apply, (hin k).2.1, Layout.block_apply, cols2]
  · rw [partB_apply, (hin k).2.2.2.2, Layout.block_apply, rows2]
  · rw [kv_apply, (hin c).2.2.1]
  · rw [vv_apply, (hin c).2.2.2.1]

end Cert.Ring
-- ==== Proof.Algebraic.lean ====
/-
  Over the extended reals the kernel's result is the reference's.
-/
module

public import proofs.«01_k».proof.Defs
public import proofs.«01_k».proof.Proof.Run
public import proofs.«01_k».proof.Proof.Value

@[expose] public section

noncomputable section

namespace Cert.Proof

open Idealize.ShloMosaic Idealize.SL.Sem

theorem algebraic : Cert.algebraic_KernelIdeal_ReferenceIdeal_pre_finite_scores_KernelIdeal := fun m g m' g' hpre hin =>
  ⟨Cert.ReferenceIdeal.Value.res_main_v34 m' 0,
    (θ_run Cert.KernelIdeal.defs _ _).mono (fun _ h c => ⟨(h.1 c).1.trans (Cert.Ring.value m m' hpre hin c), (h.1 c).2⟩) (Cert.Ring.run_main m g),
    (θ_run Cert.ReferenceIdeal.defs _ _).mono (fun _ h => h 0) (Cert.ReferenceIdeal.Value.run (F := Ideal) m' g')⟩

end Cert.Proof
-- ==== Proof.lean ====
/-
  The certificate: the claims of Defs.lean, each from the module that proves it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores_KernelIdeal
public import proofs.«01_k».proof.Proof.Gen.Pre_finite_scores_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_scores_KernelIdeal.Gen.facts, Cert.Pre_finite_scores_ReferenceIdeal.Gen.facts,
  frame_kernel, frame_ideal, fun m g _ => frame_ideal m g trivial, frame_reference, fun m g _ => frame_reference m g trivial, trivial, algebraic⟩

end Cert.Proof

end
